-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_weights_finite [hPre_weights_finite : Cert.Pre_weights_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.1 = (fun _ => 1#1)
    ∧ (Cert.Pre_weights_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))).2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_weights_finite [hPre_weights_finite : Cert.Pre_weights_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.1 = (fun _ => 1#1)
    ∧ (Cert.Pre_weights_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))).2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_weights_finite [hKernel4Ideal : Cert.Kernel4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_weights_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_weights_finite [hReference4Ideal : Cert.Reference4Ideal.Facts] [hPre_weights_finite : Cert.Pre_weights_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_weights_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "mask_feature" .f32 0xF1800000#32 ⊥

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v127_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127_1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v21)) (v1 : (c : Dev Cert.Kernel3Ideal.nD) → Buf (Elt Ideal) ((c.tc : Thread Cert.Kernel3Ideal.nD Cert.Kernel3Ideal.τ).loc Cert.Kernel3Ideal.main_v22)) (v2 : (c : Dev Cert.Kernel3Ideal.nD) → Buf (Elt Ideal) ((c.tc : Thread Cert.Kernel3Ideal.nD Cert.Kernel3Ideal.τ).loc Cert.Kernel3Ideal.main_v20_2)) (v3 : (c : Dev Cert.Kernel3Ideal.nD) → Buf (Elt Ideal) ((c.tc : Thread Cert.Kernel3Ideal.nD Cert.Kernel3Ideal.τ).loc Cert.Kernel3Ideal.main_v20_3)) (v4 : (c : Dev Cert.Kernel3Ideal.nD) → Buf (Elt Ideal) ((c.tc : Thread Cert.Kernel3Ideal.nD Cert.Kernel3Ideal.τ).loc Cert.Kernel3Ideal.main_v23)) (v5 : (c : Dev Cert.Kernel3Ideal.nD) → Buf (Elt Ideal) ((c.tc : Thread Cert.Kernel3Ideal.nD Cert.Kernel3Ideal.τ).loc Cert.Kernel3Ideal.main_v20_5)) (v6 : (c : Dev Cert.Kernel3Ideal.nD) → Buf (Elt Ideal) ((c.tc : Thread Cert.Kernel3Ideal.nD Cert.Kernel3Ideal.τ).loc Cert.Kernel3Ideal.main_v24)) (v7 : (c : Dev Cert.Kernel3Ideal.nD) → Buf (Elt Ideal) ((c.tc : Thread Cert.Kernel3Ideal.nD Cert.Kernel3Ideal.τ).loc Cert.Kernel3Ideal.main_v20_7)) (v8 : (c : Dev Cert.Kernel3Ideal.nD) → Buf (Elt Ideal) ((c.tc : Thread Cert.Kernel3Ideal.nD Cert.Kernel3Ideal.τ).loc Cert.Kernel3Ideal.main_v25)) (v9 : (c : Dev Cert.Kernel3Ideal.nD) → Buf (Elt Ideal) ((c.tc : Thread Cert.Kernel3Ideal.nD Cert.Kernel3Ideal.τ).loc Cert.Kernel3Ideal.main_v20_9)) (v10 : (c : Dev Cert.Kernel3Ideal.nD) → Buf (Elt Ideal) ((c.tc : Thread Cert.Kernel3Ideal.nD Cert.Kernel3Ideal.τ).loc Cert.Kernel3Ideal.main_v20_10)) (v11 : (c : Dev Cert.Kernel3Ideal.nD) → Buf (Elt Ideal) ((c.tc : Thread Cert.Kernel3Ideal.nD Cert.Kernel3Ideal.τ).loc Cert.Kernel3Ideal.main_v20_11)) (v12 : (c : Dev Cert.Kernel3Ideal.nD) → Buf (Elt Ideal) ((c.tc : Thread Cert.Kernel3Ideal.nD Cert.Kernel3Ideal.τ).loc Cert.Kernel3Ideal.main_v20_12)) (v13 : (c : Dev Cert.Kernel3Ideal.nD) → Buf (Elt Ideal) ((c.tc : Thread Cert.Kernel3Ideal.nD Cert.Kernel3Ideal.τ).loc Cert.Kernel3Ideal.main_v20_13)) (v14 : (c : Dev Cert.Kernel3Ideal.nD) → Buf (Elt Ideal) ((c.tc : Thread Cert.Kernel3Ideal.nD Cert.Kernel3Ideal.τ).loc Cert.Kernel3Ideal.main_v26)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v21) = v0 c
          ∧ r.2.mem ((c.tc : Thread Cert.Kernel3Ideal.nD Cert.Kernel3Ideal.τ).loc Cert.Kernel3Ideal.main_v22) = v1 c
          ∧ r.2.mem ((c.tc : Thread Cert.Kernel3Ideal.nD Cert.Kernel3Ideal.τ).loc Cert.Kernel3Ideal.main_v20_2) = v2 c
          ∧ r.2.mem ((c.tc : Thread Cert.Kernel3Ideal.nD Cert.Kernel3Ideal.τ).loc Cert.Kernel3Ideal.main_v20_3) = v3 c
          ∧ r.2.mem ((c.tc : Thread Cert.Kernel3Ideal.nD Cert.Kernel3Ideal.τ).loc Cert.Kernel3Ideal.main_v23) = v4 c
          ∧ r.2.mem ((c.tc : Thread Cert.Kernel3Ideal.nD Cert.Kernel3Ideal.τ).loc Cert.Kernel3Ideal.main_v20_5) = v5 c
          ∧ r.2.mem ((c.tc : Thread Cert.Kernel3Ideal.nD Cert.Kernel3Ideal.τ).loc Cert.Kernel3Ideal.main_v24) = v6 c
          ∧ r.2.mem ((c.tc : Thread Cert.Kernel3Ideal.nD Cert.Kernel3Ideal.τ).loc Cert.Kernel3Ideal.main_v20_7) = v7 c
          ∧ r.2.mem ((c.tc : Thread Cert.Kernel3Ideal.nD Cert.Kernel3Ideal.τ).loc Cert.Kernel3Ideal.main_v25) = v8 c
          ∧ r.2.mem ((c.tc : Thread Cert.Kernel3Ideal.nD Cert.Kernel3Ideal.τ).loc Cert.Kernel3Ideal.main_v20_9) = v9 c
          ∧ r.2.mem ((c.tc : Thread Cert.Kernel3Ideal.nD Cert.Kernel3Ideal.τ).loc Cert.Kernel3Ideal.main_v20_10) = v10 c
          ∧ r.2.mem ((c.tc : Thread Cert.Kernel3Ideal.nD Cert.Kernel3Ideal.τ).loc Cert.Kernel3Ideal.main_v20_11) = v11 c
          ∧ r.2.mem ((c.tc : Thread Cert.Kernel3Ideal.nD Cert.Kernel3Ideal.τ).loc Cert.Kernel3Ideal.main_v20_12) = v12 c
          ∧ r.2.mem ((c.tc : Thread Cert.Kernel3Ideal.nD Cert.Kernel3Ideal.τ).loc Cert.Kernel3Ideal.main_v20_13) = v13 c
          ∧ r.2.mem ((c.tc : Thread Cert.Kernel3Ideal.nD Cert.Kernel3Ideal.τ).loc Cert.Kernel3Ideal.main_v26) = v14 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_v52) = v2 c
          ∧ r.2.mem ((c.tc : Thread Cert.Reference3Ideal.nD Cert.Reference3Ideal.τ).loc Cert.Reference3Ideal.main_v55) = v3 c
          ∧ r.2.mem ((c.tc : Thread Cert.Reference3Ideal.nD Cert.Reference3Ideal.τ).loc Cert.Reference3Ideal.main_v58) = v4 c
          ∧ r.2.mem ((c.tc : Thread Cert.Reference3Ideal.nD Cert.Reference3Ideal.τ).loc Cert.Reference3Ideal.main_v62) = v5 c
          ∧ r.2.mem ((c.tc : Thread Cert.Reference3Ideal.nD Cert.Reference3Ideal.τ).loc Cert.Reference3Ideal.main_v65) = v6 c
          ∧ r.2.mem ((c.tc : Thread Cert.Reference3Ideal.nD Cert.Reference3Ideal.τ).loc Cert.Reference3Ideal.main_v69) = v7 c
          ∧ r.2.mem ((c.tc : Thread Cert.Reference3Ideal.nD Cert.Reference3Ideal.τ).loc Cert.Reference3Ideal.main_v72) = v8 c
          ∧ r.2.mem ((c.tc : Thread Cert.Reference3Ideal.nD Cert.Reference3Ideal.τ).loc Cert.Reference3Ideal.main_v76) = v9 c
          ∧ r.2.mem ((c.tc : Thread Cert.Reference3Ideal.nD Cert.Reference3Ideal.τ).loc Cert.Reference3Ideal.main_v78) = v10 c
          ∧ r.2.mem ((c.tc : Thread Cert.Reference3Ideal.nD Cert.Reference3Ideal.τ).loc Cert.Reference3Ideal.main_v80) = v11 c
          ∧ r.2.mem ((c.tc : Thread Cert.Reference3Ideal.nD Cert.Reference3Ideal.τ).loc Cert.Reference3Ideal.main_v88) = v12 c
          ∧ r.2.mem ((c.tc : Thread Cert.Reference3Ideal.nD Cert.Reference3Ideal.τ).loc Cert.Reference3Ideal.main_v96) = v13 c
          ∧ r.2.mem ((c.tc : Thread Cert.Reference3Ideal.nD Cert.Reference3Ideal.τ).loc Cert.Reference3Ideal.main_v103) = v14 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal_pre_weights_finite [hKernel4Ideal : Cert.Kernel4Ideal.Facts] [hReference4Ideal : Cert.Reference4Ideal.Facts] [hPre_weights_finite : Cert.Pre_weights_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_weights_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v18)) (v1 : (c : Dev Cert.Kernel4Ideal.nD) → Buf (Elt Ideal) ((c.tc : Thread Cert.Kernel4Ideal.nD Cert.Kernel4Ideal.τ).loc Cert.Kernel4Ideal.main_v21)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v18) = v0 c
          ∧ r.2.mem ((c.tc : Thread Cert.Kernel4Ideal.nD Cert.Kernel4Ideal.τ).loc Cert.Kernel4Ideal.main_v21) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v25) = v0 c
          ∧ r.2.mem ((c.tc : Thread Cert.Reference4Ideal.nD Cert.Reference4Ideal.τ).loc Cert.Reference4Ideal.main_v52) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4)) (v1 : (c : Dev Cert.Kernel5Ideal.nD) → Buf (Elt Ideal) ((c.tc : Thread Cert.Kernel5Ideal.nD Cert.Kernel5Ideal.τ).loc Cert.Kernel5Ideal.main_v5)) (v2 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_v5) = v1 c
          ∧ r.2.mem ((c.tc : Thread Cert.Kernel5Ideal.nD Cert.Kernel5Ideal.τ).loc Cert.Kernel5Ideal.main_v6) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_v6) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_scores_finite : Cert.Pre_scores_finite.Facts) (hPre_weights_finite : Cert.Pre_weights_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_weights_finite (hKernel4Ideal := hKernel4Ideal) (hPre_weights_finite := hPre_weights_finite)
    ∧ quiescent_Reference4Ideal (hReference4Ideal := hReference4Ideal)
    ∧ quiescent_Reference4Ideal_pre_weights_finite (hReference4Ideal := hReference4Ideal) (hPre_weights_finite := hPre_weights_finite)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_weights_finite (hKernel4Ideal := hKernel4Ideal) (hReference4Ideal := hReference4Ideal) (hPre_weights_finite := hPre_weights_finite)
    ∧ preserves_Kernel5_Kernel5Ideal
    ∧ algebraic_Kernel5Ideal_Reference5Ideal (hKernel5Ideal := hKernel5Ideal) (hReference5Ideal := hReference5Ideal)
-- ==== Pre_scores_finite.lean ====
abbrev S8 : Shape := ⟨1, ![8]⟩
abbrev S4x2x4x4096x64 : Shape := ⟨5, ![4, 2, 4, 4096, 64]⟩
abbrev S4x2x256x64 : Shape := ⟨4, ![4, 2, 256, 64]⟩
abbrev S4x2x4096x64 : Shape := ⟨4, ![4, 2, 4096, 64]⟩
abbrev S4x32x4096 : Shape := ⟨3, ![4, 32, 4096]⟩
abbrev S4x4096x512 : Shape := ⟨3, ![4, 4096, 512]⟩
abbrev S_ : Shape := ⟨0, ![]⟩

class Facts : Prop where
  bcast_S_S8 : S_.BroadcastsInDim S8 (![] : Fin 0 → Fin S8.rank)
  bitsLt_bf16_f32 : FTy.bits .bf16 < FTy.bits .f32
  bcast_S_S4x2x4x4096x64 : S_.BroadcastsInDim S4x2x4x4096x64 (![] : Fin 0 → Fin S4x2x4x4096x64.rank)
  bcast_S_S4x2x4096x64 : S_.BroadcastsInDim S4x2x4096x64 (![] : Fin 0 → Fin S4x2x4096x64.rank)

variable [Facts]

def fn {F : FTy → Type} [FloatOps F] (main_arg0 : FVec F S8 .f32) (main_arg1 : FVec F S4x2x4x4096x64 .bf16) (main_arg2 : FVec F S4x2x4x4096x64 .bf16) (main_arg3 : FVec F S4x2x256x64 .bf16) (main_arg4 : FVec F S4x2x256x64 .bf16) (main_arg5 : FVec F S4x2x4096x64 .bf16) (main_arg6 : FVec F S4x2x4096x64 .bf16) (main_arg7 : FVec F S4x2x4096x64 .bf16) (main_arg8 : FVec F S4x2x4096x64 .bf16) (main_arg9 : FVec F S4x2x4096x64 .bf16) (main_arg10 : FVec F S4x2x4096x64 .bf16) (main_arg11 : FVec F S4x32x4096 .f32) (main_arg12 : FVec F S4x4096x512 .bf16) (main_arg13 : FVec F S4x4096x512 .bf16) : IVec S8 1 × IVec S4x2x4x4096x64 1 × IVec S4x2x4096x64 1 :=
  let main_cst : FVec F S_ .f32 := constant S_ .f32 0xFF800000#32
  let main_v0 : FVec F S8 .f32 := broadcastInDim S8 ![] bcast_S_S8 main_cst
  let main_v1 : IVec S8 1 := cmpf .ogt main_arg0 main_v0
  let main_cst_0 : FVec F S_ .f32 := constant S_ .f32 0x7F800000#32
  let main_v2 : FVec F S8 .f32 := broadcastInDim S8 ![] bcast_S_S8 main_cst_0
  let main_v3 : IVec S8 1 := cmpf .olt main_arg0 main_v2
  let main_v4 : IVec S8 1 := andi main_v1 main_v3
  let main_v5 : FVec F S4x2x4x4096x64 .f32 := (extf .f32 · bitsLt_bf16_f32) main_arg2
  let main_cst_1 : FVec F S_ .f32 := constant S_ .f32 0xFF800000#32
  let main_v6 : FVec F S4x2x4x4096x64 .f32 := broadcastInDim S4x2x4x4096x64 ![] bcast_S_S4x2x4x4096x64 main_cst_1
  let main_v7 : IVec S4x2x4x4096x64 1 := cmpf .ogt main_v5 main_v6
  let main_cst_2 : FVec F S_ .f32 := constant S_ .f32 0x7F800000#32
  let main_v8 : FVec F S4x2x4x4096x64 .f32 := broadcastInDim S4x2x4x4096x64 ![] bcast_S_S4x2x4x4096x64 main_cst_2
  let main_v9 : IVec S4x2x4x4096x64 1 := cmpf .olt main_v5 main_v8
  let main_v10 : IVec S4x2x4x4096x64 1 := andi main_v7 main_v9
  let main_v11 : FVec F S4x2x4096x64 .f32 := (extf .f32 · bitsLt_bf16_f32) main_arg9
  let main_cst_3 : FVec F S_ .f32 := constant S_ .f32 0xFF800000#32
  let main_v12 : FVec F S4x2x4096x64 .f32 := broadcastInDim S4x2x4096x64 ![] bcast_S_S4x2x4096x64 main_cst_3
  let main_v13 : IVec S4x2x4096x64 1 := cmpf .ogt main_v11 main_v12
  let main_cst_4 : FVec F S_ .f32 := constant S_ .f32 0x7F800000#32
  let main_v14 : FVec F S4x2x4096x64 .f32 := broadcastInDim S4x2x4096x64 ![] bcast_S_S4x2x4096x64 main_cst_4
  let main_v15 : IVec S4x2x4096x64 1 := cmpf .olt main_v11 main_v14
  let main_v16 : IVec S4x2x4096x64 1 := andi main_v13 main_v15
  (main_v4, main_v10, main_v16)
-- ==== Pre_weights_finite.lean ====
abbrev S4x2x4096x64 : Shape := ⟨4, ![4, 2, 4096, 64]⟩
abbrev S32x64 : Shape := ⟨2, ![32, 64]⟩
abbrev S2048x256 : Shape := ⟨2, ![2048, 256]⟩
abbrev S256x64 : Shape := ⟨2, ![256, 64]⟩
abbrev S_ : Shape := ⟨0, ![]⟩

class Facts : Prop where
  bcast_S_S32x64 : S_.BroadcastsInDim S32x64 (![] : Fin 0 → Fin S32x64.rank)
  bcast_S_S2048x256 : S_.BroadcastsInDim S2048x256 (![] : Fin 0 → Fin S2048x256.rank)

variable [Facts]

def fn_part1 {F : FTy → Type} [FloatOps F] (main_arg5 : FVec F S2048x256 .f32) (main_v4 : IVec S32x64 1) (main_v9 : IVec S32x64 1) (main_v14 : IVec S2048x256 1) (main_v16 : IVec S2048x256 1) : IVec S32x64 1 × IVec S32x64 1 × IVec S2048x256 1 × IVec S2048x256 1 :=
  let main_cst_6 : FVec F S_ .f32 := constant S_ .f32 0x7F800000#32
  let main_v17 : FVec F S2048x256 .f32 := broadcastInDim S2048x256 ![] bcast_S_S2048x256 main_cst_6
  let main_v18 : IVec S2048x256 1 := cmpf .olt main_arg5 main_v17
  let main_v19 : IVec S2048x256 1 := andi main_v16 main_v18
  (main_v4, main_v9, main_v14, main_v19)

def fn {F : FTy → Type} [FloatOps F] (main_arg0 : FVec F S4x2x4096x64 .bf16) (main_arg1 : FVec F S4x2x4096x64 .bf16) (main_arg2 : FVec F S32x64 .f32) (main_arg3 : FVec F S32x64 .f32) (main_arg4 : FVec F S2048x256 .f32) (main_arg5 : FVec F S2048x256 .f32) (main_arg6 : FVec F S256x64 .f32) (main_arg7 : FVec F S256x64 .f32) : IVec S32x64 1 × IVec S32x64 1 × IVec S2048x256 1 × IVec S2048x256 1 :=
  let main_cst : FVec F S_ .f32 := constant S_ .f32 0xFF800000#32
  let main_v0 : FVec F S32x64 .f32 := broadcastInDim S32x64 ![] bcast_S_S32x64 main_cst
  let main_v1 : IVec S32x64 1 := cmpf .ogt main_arg2 main_v0
  let main_cst_0 : FVec F S_ .f32 := constant S_ .f32 0x7F800000#32
  let main_v2 : FVec F S32x64 .f32 := broadcastInDim S32x64 ![] bcast_S_S32x64 main_cst_0
  let main_v3 : IVec S32x64 1 := cmpf .olt main_arg2 main_v2
  let main_v4 : IVec S32x64 1 := andi main_v1 main_v3
  let main_cst_1 : FVec F S_ .f32 := constant S_ .f32 0xFF800000#32
  let main_v5 : FVec F S32x64 .f32 := broadcastInDim S32x64 ![] bcast_S_S32x64 main_cst_1
  let main_v6 : IVec S32x64 1 := cmpf .ogt main_arg3 main_v5
  let main_cst_2 : FVec F S_ .f32 := constant S_ .f32 0x7F800000#32
  let main_v7 : FVec F S32x64 .f32 := broadcastInDim S32x64 ![] bcast_S_S32x64 main_cst_2
  let main_v8 : IVec S32x64 1 := cmpf .olt main_arg3 main_v7
  let main_v9 : IVec S32x64 1 := andi main_v6 main_v8
  let main_cst_3 : FVec F S_ .f32 := constant S_ .f32 0xFF800000#32
  let main_v10 : FVec F S2048x256 .f32 := broadcastInDim S2048x256 ![] bcast_S_S2048x256 main_cst_3
  let main_v11 : IVec S2048x256 1 := cmpf .ogt main_arg4 main_v10
  let main_cst_4 : FVec F S_ .f32 := constant S_ .f32 0x7F800000#32
  let main_v12 : FVec F S2048x256 .f32 := broadcastInDim S2048x256 ![] bcast_S_S2048x256 main_cst_4
  let main_v13 : IVec S2048x256 1 := cmpf .olt main_arg4 main_v12
  let main_v14 : IVec S2048x256 1 := andi main_v11 main_v13
  let main_cst_5 : FVec F S_ .f32 := constant S_ .f32 0xFF800000#32
  let main_v15 : FVec F S2048x256 .f32 := broadcastInDim S2048x256 ![] bcast_S_S2048x256 main_cst_5
  let main_v16 : IVec S2048x256 1 := cmpf .ogt main_arg5 main_v15
  fn_part1 (F := F) main_arg5 main_v4 main_v9 main_v14 main_v16
-- ==== Kernel.lean ====
abbrev S8 : Shape := ⟨1, ![8]⟩
abbrev S4x2x4x4096x64 : Shape := ⟨5, ![4, 2, 4, 4096, 64]⟩
abbrev S4x2x256x64 : Shape := ⟨4, ![4, 2, 256, 64]⟩
abbrev S4x2x4096x64 : Shape := ⟨4, ![4, 2, 4096, 64]⟩
abbrev S4x32x4096 : Shape := ⟨3, ![4, 32, 4096]⟩
abbrev S4x4096x512 : Shape := ⟨3, ![4, 4096, 512]⟩
abbrev S4096 : Shape := ⟨1, ![4096]⟩
abbrev S256 : Shape := ⟨1, ![256]⟩
abbrev S_ : Shape := ⟨0, ![]⟩
abbrev S256x1 : Shape := ⟨2, ![256, 1]⟩
abbrev S4x2x256x1 : Shape := ⟨4, ![4, 2, 256, 1]⟩
abbrev S4x2x256x62 : Shape := ⟨4, ![4, 2, 256, 62]⟩
abbrev S4x2x256x128 : Shape := ⟨4, ![4, 2, 256, 128]⟩
abbrev S8x256x128 : Shape := ⟨3, ![8, 256, 128]⟩
abbrev S4x2x64x256 : Shape := ⟨4, ![4, 2, 64, 256]⟩
abbrev S8x64x256 : Shape := ⟨3, ![8, 64, 256]⟩
abbrev S4096x1 : Shape := ⟨2, ![4096, 1]⟩
abbrev S4x2x4096x1 : Shape := ⟨4, ![4, 2, 4096, 1]⟩
abbrev S4x2x4096x62 : Shape := ⟨4, ![4, 2, 4096, 62]⟩
abbrev S4x2x4096x128 : Shape := ⟨4, ![4, 2, 4096, 128]⟩
abbrev S4x2x64x4096 : Shape := ⟨4, ![4, 2, 64, 4096]⟩
abbrev S128 : Shape := ⟨1, ![128]⟩
abbrev S1 : Shape := ⟨1, ![1]⟩
abbrev S4x2x512x128 : Shape := ⟨4, ![4, 2, 512, 128]⟩
abbrev S4x2x64x512 : Shape := ⟨4, ![4, 2, 64, 512]⟩
abbrev S4x2x4608x128 : Shape := ⟨4, ![4, 2, 4608, 128]⟩
abbrev S4x2x64x4608 : Shape := ⟨4, ![4, 2, 64, 4608]⟩
abbrev S4x2x128x128 : Shape := ⟨4, ![4, 2, 128, 128]⟩
abbrev S4x2x64x128 : Shape := ⟨4, ![4, 2, 64, 128]⟩
abbrev S4x2x4224x128 : Shape := ⟨4, ![4, 2, 4224, 128]⟩
abbrev S4x2x64x4224 : Shape := ⟨4, ![4, 2, 64, 4224]⟩
abbrev S2x4 : Shape := ⟨2, ![2, 4]⟩
abbrev S1x2x4x1x1 : Shape := ⟨5, ![1, 2, 4, 1, 1]⟩
abbrev S4x2x4x4096x1 : Shape := ⟨5, ![4, 2, 4, 4096, 1]⟩
abbrev S4x2x4x4096x62 : Shape := ⟨5, ![4, 2, 4, 4096, 62]⟩
abbrev S4x2x4x4096x128 : Shape := ⟨5, ![4, 2, 4, 4096, 128]⟩
abbrev S1x128 : Shape := ⟨2, ![1, 128]⟩
abbrev S4096x128 : Shape := ⟨2, ![4096, 128]⟩
abbrev S1x1x4x128x128 : Shape := ⟨5, ![1, 1, 4, 128, 128]⟩
abbrev S1x256x128 : Shape := ⟨3, ![1, 256, 128]⟩
abbrev S1x64x256 : Shape := ⟨3, ![1, 64, 256]⟩
abbrev S1x1x4096x128 : Shape := ⟨4, ![1, 1, 4096, 128]⟩
abbrev S1x1x64x4096 : Shape := ⟨4, ![1, 1, 64, 4096]⟩
abbrev S1x1x4608x128 : Shape := ⟨4, ![1, 1, 4608, 128]⟩
abbrev S1x1x64x4608 : Shape := ⟨4, ![1, 1, 64, 4608]⟩
abbrev S1x1x4224x128 : Shape := ⟨4, ![1, 1, 4224, 128]⟩
abbrev S1x1x64x4224 : Shape := ⟨4, ![1, 1, 64, 4224]⟩
abbrev S1x32x128 : Shape := ⟨3, ![1, 32, 128]⟩
abbrev S1x128x256 : Shape := ⟨3, ![1, 128, 256]⟩
abbrev S4x512x512 : Shape := ⟨3, ![4, 512, 512]⟩
abbrev S4x128x128 : Shape := ⟨3, ![4, 128, 128]⟩
abbrev S512x128 : Shape := ⟨2, ![512, 128]⟩
abbrev S256x128 : Shape := ⟨2, ![256, 128]⟩
abbrev S256x512 : Shape := ⟨2, ![256, 512]⟩
abbrev S1x1x256x128 : Shape := ⟨4, ![1, 1, 256, 128]⟩
abbrev S1x1x640x128 : Shape := ⟨4, ![1, 1, 640, 128]⟩
abbrev S640x128 : Shape := ⟨2, ![640, 128]⟩
abbrev S640x512 : Shape := ⟨2, ![640, 512]⟩
abbrev S64x256 : Shape := ⟨2, ![64, 256]⟩
abbrev S64x128 : Shape := ⟨2, ![64, 128]⟩
abbrev S64x512 : Shape := ⟨2, ![64, 512]⟩
abbrev S8x128 : Shape := ⟨2, ![8, 128]⟩
abbrev S128x128 : Shape := ⟨2, ![128, 128]⟩
abbrev S512x256 : Shape := ⟨2, ![512, 256]⟩
abbrev S1x1x512x128 : Shape := ⟨4, ![1, 1, 512, 128]⟩
abbrev S512x512 : Shape := ⟨2, ![512, 512]⟩
abbrev S1x512x512 : Shape := ⟨3, ![1, 512, 512]⟩
abbrev S1x512 : Shape := ⟨2, ![1, 512]⟩
abbrev S128x512 : Shape := ⟨2, ![128, 512]⟩
abbrev S512 : Shape := ⟨1, ![512]⟩
abbrev S1x1x64x256 : Shape := ⟨4, ![1, 1, 64, 256]⟩
abbrev S128x256 : Shape := ⟨2, ![128, 256]⟩
abbrev S384x512 : Shape := ⟨2, ![384, 512]⟩
abbrev S1x1x64x640 : Shape := ⟨4, ![1, 1, 64, 640]⟩
abbrev S64x640 : Shape := ⟨2, ![64, 640]⟩
abbrev S1x1x64x512 : Shape := ⟨4, ![1, 1, 64, 512]⟩
abbrev S1x1x128 : Shape := ⟨3, ![1, 1, 128]⟩

abbrev nBuf : Space → Nat
  | .hbm => 192
  | .vmem => 32
  | .smem => 1
  | _ => 0

abbrev hbmTy0_0 (i : Nat) : BufTy := match i % 128 with
  | 0 => ⟨S8, .f32⟩
  | 1 => ⟨S4x2x4x4096x64, .bf16⟩
  | 2 => ⟨S4x2x4x4096x64, .bf16⟩
  | 3 => ⟨S4x2x256x64, .bf16⟩
  | 4 => ⟨S4x2x256x64, .bf16⟩
  | 5 => ⟨S4x2x4096x64, .bf16⟩
  | 6 => ⟨S4x2x4096x64, .bf16⟩
  | 7 => ⟨S4x2x4096x64, .bf16⟩
  | 8 => ⟨S4x2x4096x64, .bf16⟩
  | 9 => ⟨S4x2x4096x64, .bf16⟩
  | 10 => ⟨S4x2x4096x64, .bf16⟩
  | 11 => ⟨S4x32x4096, .f32⟩
  | 12 => ⟨S4x4096x512, .bf16⟩
  | 13 => ⟨S4x4096x512, .bf16⟩
  | 14 => ⟨S4096, .i32⟩
  | 15 => ⟨S256, .i32⟩
  | 16 => ⟨S_, .i32⟩
  | 17 => ⟨S256, .i32⟩
  | 18 => ⟨S256, .i32⟩
  | 19 => ⟨S_, .i32⟩
  | 20 => ⟨S256, .i32⟩
  | 21 => ⟨S256, .i32⟩
  | 22 => ⟨S_, .i32⟩
  | 23 => ⟨S256, .i32⟩
  | 24 => ⟨S256, .i32⟩
  | 25 => ⟨S256, .f32⟩
  | 26 => ⟨S256x1, .f32⟩
  | 27 => ⟨S4x2x256x1, .f32⟩
  | 28 => ⟨S_, .i32⟩
  | 29 => ⟨S256, .i32⟩
  | 30 => ⟨S256, .i32⟩
  | 31 => ⟨S256, .f32⟩
  | 32 => ⟨S256x1, .f32⟩
  | 33 => ⟨S4x2x256x1, .f32⟩
  | 34 => ⟨S_, .f32⟩
  | 35 => ⟨S4x2x256x62, .f32⟩
  | 36 => ⟨S4x2x256x64, .f32⟩
  | 37 => ⟨S4x2x256x128, .f32⟩
  | 38 => ⟨S4x2x256x128, .bf16⟩
  | 39 => ⟨S8x256x128, .bf16⟩
  | 40 => ⟨S4x2x64x256, .bf16⟩
  | 41 => ⟨S8x64x256, .bf16⟩
  | 42 => ⟨S_, .i32⟩
  | 43 => ⟨S4096, .i32⟩
  | 44 => ⟨S4096, .i32⟩
  | 45 => ⟨S4096, .f32⟩
  | 46 => ⟨S4096x1, .f32⟩
  | 47 => ⟨S4x2x4096x1, .f32⟩
  | 48 => ⟨S_, .i32⟩
  | 49 => ⟨S4096, .i32⟩
  | 50 => ⟨S4096, .i32⟩
  | 51 => ⟨S4096, .f32⟩
  | 52 => ⟨S4096x1, .f32⟩
  | 53 => ⟨S4x2x4096x1, .f32⟩
  | 54 => ⟨S_, .f32⟩
  | 55 => ⟨S4x2x4096x62, .f32⟩
  | 56 => ⟨S4x2x4096x64, .f32⟩
  | 57 => ⟨S4x2x4096x128, .f32⟩
  | 58 => ⟨S4x2x4096x128, .bf16⟩
  | 59 => ⟨S4x2x64x4096, .bf16⟩
  | 60 => ⟨S_, .f32⟩
  | 61 => ⟨S128, .f32⟩
  | 62 => ⟨S_, .i32⟩
  | 63 => ⟨S1, .i32⟩
  | 64 => ⟨S_, .f32⟩
  | 65 => ⟨S128, .f32⟩
  | 66 => ⟨S128, .bf16⟩
  | 67 => ⟨S4x2x512x128, .bf16⟩
  | 68 => ⟨S_, .bf16⟩
  | 69 => ⟨S4x2x64x512, .bf16⟩
  | 70 => ⟨S4x2x4608x128, .bf16⟩
  | 71 => ⟨S4x2x64x4608, .bf16⟩
  | 72 => ⟨S_, .i32⟩
  | 73 => ⟨S4096, .i32⟩
  | 74 => ⟨S4096, .i32⟩
  | 75 => ⟨S4096, .f32⟩
  | 76 => ⟨S4096x1, .f32⟩
  | 77 => ⟨S4x2x4096x1, .f32⟩
  | 78 => ⟨S_, .i32⟩
  | 79 => ⟨S4096, .i32⟩
  | 80 => ⟨S4096, .i32⟩
  | 81 => ⟨S4096, .f32⟩
  | 82 => ⟨S4096x1, .f32⟩
  | 83 => ⟨S4x2x4096x1, .f32⟩
  | 84 => ⟨S_, .f32⟩
  | 85 => ⟨S4x2x4096x62, .f32⟩
  | 86 => ⟨S4x2x4096x64, .f32⟩
  | 87 => ⟨S4x2x4096x128, .f32⟩
  | 88 => ⟨S4x2x4096x128, .bf16⟩
  | 89 => ⟨S4x2x64x4096, .bf16⟩
  | 90 => ⟨S_, .f32⟩
  | 91 => ⟨S128, .f32⟩
  | 92 => ⟨S_, .i32⟩
  | 93 => ⟨S1, .i32⟩
  | 94 => ⟨S_, .f32⟩
  | 95 => ⟨S128, .f32⟩
  | 96 => ⟨S128, .bf16⟩
  | 97 => ⟨S4x2x128x128, .bf16⟩
  | 98 => ⟨S_, .bf16⟩
  | 99 => ⟨S4x2x64x128, .bf16⟩
  | 100 => ⟨S4x2x4224x128, .bf16⟩
  | 101 => ⟨S4x2x64x4224, .bf16⟩
  | 102 => ⟨S4x2x4x4096x64, .f32⟩
  | 103 => ⟨S_, .f32⟩
  | 104 => ⟨S4x2x4x4096x64, .f32⟩
  | 105 => ⟨S4x2x4x4096x64, .f32⟩
  | 106 => ⟨S8, .i32⟩
  | 107 => ⟨S_, .i32⟩
  | 108 => ⟨S8, .i32⟩
  | 109 => ⟨S8, .i32⟩
  | 110 => ⟨S8, .f32⟩
  | 111 => ⟨S_, .f32⟩
  | 112 => ⟨S8, .f32⟩
  | 113 => ⟨S8, .f32⟩
  | 114 => ⟨S2x4, .f32⟩
  | 115 => ⟨S1x2x4x1x1, .f32⟩
  | 116 => ⟨S4x2x4x4096x1, .f32⟩
  | 117 => ⟨S_, .f32⟩
  | 118 => ⟨S4x2x4x4096x62, .f32⟩
  | 119 => ⟨S_, .f32⟩
  | 120 => ⟨S4x2x4x4096x1, .f32⟩
  | 121 => ⟨S4x2x4x4096x1, .f32⟩
  | 122 => ⟨S4x2x4x4096x128, .f32⟩
  | 123 => ⟨S4x2x4x4096x128, .bf16⟩
  | 124 => ⟨S4x2x4x4096x64, .f32⟩
  | 125 => ⟨S_, .f32⟩
  | 126 => ⟨S4x2x4x4096x64, .f32⟩
  | 127 => ⟨S4x2x4x4096x64, .f32⟩
  | _ => ⟨S8, .f32⟩

abbrev hbmTy0_1 (i : Nat) : BufTy := match i % 128 with
  | 0 => ⟨S8, .i32⟩
  | 1 => ⟨S_, .i32⟩
  | 2 => ⟨S8, .i32⟩
  | 3 => ⟨S8, .i32⟩
  | 4 => ⟨S8, .f32⟩
  | 5 => ⟨S_, .f32⟩
  | 6 => ⟨S8, .f32⟩
  | 7 => ⟨S8, .f32⟩
  | 8 => ⟨S2x4, .f32⟩
  | 9 => ⟨S1x2x4x1x1, .f32⟩
  | 10 => ⟨S4x2x4x4096x1, .f32⟩
  | 11 => ⟨S_, .f32⟩
  | 12 => ⟨S4x2x4x4096x62, .f32⟩
  | 13 => ⟨S_, .f32⟩
  | 14 => ⟨S4x2x4x4096x1, .f32⟩
  | 15 => ⟨S4x2x4x4096x1, .f32⟩
  | 16 => ⟨S4x2x4x4096x128, .f32⟩
  | 17 => ⟨S4x2x4x4096x128, .bf16⟩
  | 18 => ⟨S_, .i32⟩
  | 19 => ⟨S4096, .i32⟩
  | 20 => ⟨S4096, .i32⟩
  | 21 => ⟨S4096, .f32⟩
  | 22 => ⟨S4096x1, .f32⟩
  | 23 => ⟨S4x2x4096x1, .f32⟩
  | 24 => ⟨S_, .i32⟩
  | 25 => ⟨S4096, .i32⟩
  | 26 => ⟨S4096, .i32⟩
  | 27 => ⟨S4096, .f32⟩
  | 28 => ⟨S4096x1, .f32⟩
  | 29 => ⟨S4x2x4096x1, .f32⟩
  | 30 => ⟨S_, .f32⟩
  | 31 => ⟨S4x2x4096x62, .f32⟩
  | 32 => ⟨S4x2x4096x64, .f32⟩
  | 33 => ⟨S4x2x4096x128, .f32⟩
  | 34 => ⟨S4x2x4096x128, .bf16⟩
  | 35 => ⟨S4x2x64x4096, .bf16⟩
  | 36 => ⟨S4096, .i32⟩
  | 37 => ⟨S4096x1, .i32⟩
  | 38 => ⟨S_, .i32⟩
  | 39 => ⟨S_, .i32⟩
  | 40 => ⟨S4096x1, .i32⟩
  | 41 => ⟨S4096x1, .i32⟩
  | 42 => ⟨S4096x1, .i32⟩
  | 43 => ⟨S_, .i32⟩
  | 44 => ⟨S4096x1, .i32⟩
  | 45 => ⟨S4096x1, .i1⟩
  | 46 => ⟨S4096x1, .i32⟩
  | 47 => ⟨S4096x1, .i32⟩
  | 48 => ⟨S_, .i32⟩
  | 49 => ⟨S4096x1, .i32⟩
  | 50 => ⟨S4096x1, .i1⟩
  | 51 => ⟨S4096x1, .i1⟩
  | 52 => ⟨S_, .i32⟩
  | 53 => ⟨S4096x1, .i32⟩
  | 54 => ⟨S4096x1, .i32⟩
  | 55 => ⟨S4096x1, .i32⟩
  | 56 => ⟨S128, .i32⟩
  | 57 => ⟨S1x128, .i32⟩
  | 58 => ⟨S4096x128, .i32⟩
  | 59 => ⟨S4096x128, .i32⟩
  | 60 => ⟨S4096x128, .i1⟩
  | 61 => ⟨S4096x128, .bf16⟩
  | 62 => ⟨S4x4096x512, .bf16⟩
  | 63 => ⟨S4x4096x512, .bf16⟩
  | _ => ⟨S8, .f32⟩

abbrev hbmTy (i : Nat) : BufTy := match i / 128 with
  | 0 => hbmTy0_0 i
  | 1 => hbmTy0_1 i
  | _ => ⟨S8, .f32⟩

abbrev bufTy : (tb : Table) → Fin (tcTables nBuf tb) → BufTy
  | .hbm, ⟨i, _⟩ => hbmTy i
  | .local _ .vmem, ⟨0, _⟩ => ⟨S1x1x4x128x128, .bf16⟩
  | .local _ .vmem, ⟨1, _⟩ => ⟨S1x1x4x128x128, .bf16⟩
  | .local _ .vmem, ⟨2, _⟩ => ⟨S1x1x4x128x128, .bf16⟩
  | .local _ .vmem, ⟨3, _⟩ => ⟨S1x1x4x128x128, .bf16⟩
  | .local _ .vmem, ⟨4, _⟩ => ⟨S1x256x128, .bf16⟩
  | .local _ .vmem, ⟨5, _⟩ => ⟨S1x256x128, .bf16⟩
  | .local _ .vmem, ⟨6, _⟩ => ⟨S1x64x256, .bf16⟩
  | .local _ .vmem, ⟨7, _⟩ => ⟨S1x64x256, .bf16⟩
  | .local _ .vmem, ⟨8, _⟩ => ⟨S1x1x4096x128, .bf16⟩
  | .local _ .vmem, ⟨9, _⟩ => ⟨S1x1x4096x128, .bf16⟩
  | .local _ .vmem, ⟨10, _⟩ => ⟨S1x1x64x4096, .bf16⟩
  | .local _ .vmem, ⟨11, _⟩ => ⟨S1x1x64x4096, .bf16⟩
  | .local _ .vmem, ⟨12, _⟩ => ⟨S1x1x4608x128, .bf16⟩
  | .local _ .vmem, ⟨13, _⟩ => ⟨S1x1x4608x128, .bf16⟩
  | .local _ .vmem, ⟨14, _⟩ => ⟨S1x1x64x4608, .bf16⟩
  | .local _ .vmem, ⟨15, _⟩ => ⟨S1x1x64x4608, .bf16⟩
  | .local _ .vmem, ⟨16, _⟩ => ⟨S1x1x4224x128, .bf16⟩
  | .local _ .vmem, ⟨17, _⟩ => ⟨S1x1x4224x128, .bf16⟩
  | .local _ .vmem, ⟨18, _⟩ => ⟨S1x1x64x4224, .bf16⟩
  | .local _ .vmem, ⟨19, _⟩ => ⟨S1x1x64x4224, .bf16⟩
  | .local _ .vmem, ⟨20, _⟩ => ⟨S4096x128, .bf16⟩
  | .local _ .vmem, ⟨21, _⟩ => ⟨S1x32x128, .f32⟩
  | .local _ .vmem, ⟨22, _⟩ => ⟨S1x32x128, .f32⟩
  | .local _ .vmem, ⟨23, _⟩ => ⟨S1x128x256, .bf16⟩
  | .local _ .vmem, ⟨24, _⟩ => ⟨S1x128x256, .bf16⟩
  | .local _ .vmem, ⟨25, _⟩ => ⟨S1x128x256, .bf16⟩
  | .local _ .vmem, ⟨26, _⟩ => ⟨S1x128x256, .bf16⟩
  | .local _ .vmem, ⟨27, _⟩ => ⟨S1x128x256, .bf16⟩
  | .local _ .vmem, ⟨28, _⟩ => ⟨S1x128x256, .bf16⟩
  | .local _ .vmem, ⟨29, _⟩ => ⟨S1x128x256, .bf16⟩
  | .local _ .vmem, ⟨30, _⟩ => ⟨S1x128x256, .bf16⟩
  | .local _ .vmem, ⟨31, _⟩ => ⟨S4x512x512, .f32⟩
  | .local _ .smem, ⟨0, _⟩ => ⟨S8, .f32⟩
  | _, _ => ⟨S8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_c : Ref sig .tc := ⟨.hbm, 16, rfl⟩
abbrev main_v2 : Ref sig .tc := ⟨.hbm, 17, rfl⟩
abbrev main_v3 : Ref sig .tc := ⟨.hbm, 18, rfl⟩
abbrev main_c_0 : Ref sig .tc := ⟨.hbm, 19, rfl⟩
abbrev main_v4 : Ref sig .tc := ⟨.hbm, 20, rfl⟩
abbrev main_v5 : Ref sig .tc := ⟨.hbm, 21, rfl⟩
abbrev main_c_1 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_2 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_c_4 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_5 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_6 : Ref sig .tc := ⟨.hbm, 60, rfl⟩
abbrev main_v38 : Ref sig .tc := ⟨.hbm, 61, rfl⟩
abbrev main_c_7 : Ref sig .tc := ⟨.hbm, 62, rfl⟩
abbrev main_v39 : Ref sig .tc := ⟨.hbm, 63, rfl⟩
abbrev main_cst_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_12 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_c_14 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_17 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_18 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_19 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_cst_20 : Ref sig .tc := ⟨.hbm, 117, rfl⟩
abbrev main_v81 : Ref sig .tc := ⟨.hbm, 118, rfl⟩
abbrev main_cst_21 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_22 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_23 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_cst_24 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_25 : Ref sig .tc := ⟨.hbm, 139, rfl⟩
abbrev main_v98 : Ref sig .tc := ⟨.hbm, 140, rfl⟩
abbrev main_cst_26 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_c_27 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_28 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_29 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_c_30 : Ref sig .tc := ⟨.hbm, 166, rfl⟩
abbrev main_call0_v0 : Ref sig .tc := ⟨.hbm, 167, rfl⟩
abbrev main_call0_v1 : Ref sig .tc := ⟨.hbm, 168, rfl⟩
abbrev main_call0_v2 : Ref sig .tc := ⟨.hbm, 169, rfl⟩
abbrev main_call0_v3 : Ref sig .tc := ⟨.hbm, 170, rfl⟩
abbrev main_call0_v4 : Ref sig .tc := ⟨.hbm, 171, rfl⟩
abbrev main_call0_v5 : Ref sig .tc := ⟨.hbm, 172, rfl⟩
abbrev main_call0_v6 : Ref sig .tc := ⟨.hbm, 173, rfl⟩
abbrev main_call0_v7 : Ref sig .tc := ⟨.hbm, 174, rfl⟩
abbrev main_call0_v8 : Ref sig .tc := ⟨.hbm, 175, rfl⟩
abbrev main_call0_c : Ref sig .tc := ⟨.hbm, 176, rfl⟩
abbrev main_call0_v9 : Ref sig .tc := ⟨.hbm, 177, rfl⟩
abbrev main_call0_v10 : Ref sig .tc := ⟨.hbm, 178, rfl⟩
abbrev main_call0_v11 : Ref sig .tc := ⟨.hbm, 179, rfl⟩
abbrev main_call0_c_0 : Ref sig .tc := ⟨.hbm, 180, rfl⟩
abbrev main_call0_v12 : Ref sig .tc := ⟨.hbm, 181, rfl⟩
abbrev main_call0_v13 : Ref sig .tc := ⟨.hbm, 182, rfl⟩
abbrev main_v120 : Ref sig .tc := ⟨.hbm, 183, rfl⟩
abbrev main_v121 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127_0 : Ref sig .tc := ⟨.hbm, 190, rfl⟩
abbrev main_v127_1 : Ref sig .tc := ⟨.hbm, 191, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_scratch0 : Ref sig .tc := ⟨.vmem, 31, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31

abbrev nD : Nat := 1
abbrev τ : Topo := Topo.v7x

variable {F : FTy → Type} [FloatOps F]

abbrev grid0 : Pipeline.Grid := ⟨3, ![4, 2, 32], ![false, false, false]⟩

def k0_mult1 (i : grid0.Coords) : BitVec 32 :=
  let arg2 : BitVec 32 := BitVec.ofNat 32 (i 2).val
  let c128_i32 : BitVec 32 := 128#32
  let v0 : BitVec 32 := Scalar.muli arg2 c128_i32
  v0
def k0_off1 (i : grid0.Coords) : Fin 4 → Nat :=
  let c0_12 : Index := 0#32
  let c0_13 : Index := 0#32
  let arg2 : BitVec 32 := BitVec.ofNat 32 (i 2).val
  let c128_i32 : BitVec 32 := 128#32
  let v0 : BitVec 32 := Scalar.muli arg2 c128_i32
  let v10 : BitVec 32 := v0
  let v11 : Index := Scalar.indexCast v10
  let c0_14 : Index := 0#32
  ![0, 0, v11.toNat, 0]
def k0_mult2 (i : grid0.Coords) : BitVec 32 :=
  let arg2 : BitVec 32 := BitVec.ofNat 32 (i 2).val
  let c128_i32 : BitVec 32 := 128#32
  let v0 : BitVec 32 := Scalar.muli arg2 c128_i32
  v0
def k0_off2 (i : grid0.Coords) : Fin 4 → Nat :=
  let c0_16 : Index := 0#32
  let c0_17 : Index := 0#32
  let arg2 : BitVec 32 := BitVec.ofNat 32 (i 2).val
  let c128_i32 : BitVec 32 := 128#32
  let v0 : BitVec 32 := Scalar.muli arg2 c128_i32
  let v15 : BitVec 32 := v0
  let v16 : Index := Scalar.indexCast v15
  let c0_18 : Index := 0#32
  ![0, 0, v16.toNat, 0]
def k0_mult3 (i : grid0.Coords) : BitVec 32 :=
  let c2_i32_1312 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3455 : BitVec 32 := Scalar.muli c2_i32_1312 v3454
  let c512_i32 : BitVec 32 := 512#32
  let v3456 : BitVec 32 := Scalar.muli v3455 c512_i32
  v3456
def k0_off3 (i : grid0.Coords) : Fin 4 → Nat :=
  let c0_1313 : Index := 0#32
  let c0_1314 : Index := 0#32
  let c2_i32_1312 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3455 : BitVec 32 := Scalar.muli c2_i32_1312 v3454
  let c512_i32 : BitVec 32 := 512#32
  let v3456 : BitVec 32 := Scalar.muli v3455 c512_i32
  let v3457 : BitVec 32 := v3456
  let v3458 : Index := Scalar.indexCast v3457
  let c0_1315 : Index := 0#32
  ![0, 0, v3458.toNat, 0]
def k0_off4 (i : grid0.Coords) : Fin 2 → Nat :=
  let c2_i32_1312 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3455 : BitVec 32 := Scalar.muli c2_i32_1312 v3454
  let c512_i32 : BitVec 32 := 512#32
  let v3456 : BitVec 32 := Scalar.muli v3455 c512_i32
  let v3457 : BitVec 32 := v3456
  let v3461 : Index := Scalar.indexCast v3457
  let c0_1316 : Index := 0#32
  ![v3461.toNat, 0]
def k0_mult4 (i : grid0.Coords) : BitVec 32 :=
  let c2_i32_1320 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3469 : BitVec 32 := Scalar.muli c2_i32_1320 v3454
  let c1_i32_1321 : BitVec 32 := 1#32
  let v3470 : BitVec 32 := Scalar.addi v3469 c1_i32_1321
  let c512_i32_1322 : BitVec 32 := 512#32
  let v3471 : BitVec 32 := Scalar.muli v3470 c512_i32_1322
  v3471
def k0_off5 (i : grid0.Coords) : Fin 4 → Nat :=
  let c0_1323 : Index := 0#32
  let c0_1324 : Index := 0#32
  let c2_i32_1320 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3469 : BitVec 32 := Scalar.muli c2_i32_1320 v3454
  let c1_i32_1321 : BitVec 32 := 1#32
  let v3470 : BitVec 32 := Scalar.addi v3469 c1_i32_1321
  let c512_i32_1322 : BitVec 32 := 512#32
  let v3471 : BitVec 32 := Scalar.muli v3470 c512_i32_1322
  let v3472 : BitVec 32 := v3471
  let v3473 : Index := Scalar.indexCast v3472
  let c0_1325 : Index := 0#32
  ![0, 0, v3473.toNat, 0]
def k0_off6 (i : grid0.Coords) : Fin 2 → Nat :=
  let c2_i32_1320 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3469 : BitVec 32 := Scalar.muli c2_i32_1320 v3454
  let c1_i32_1321 : BitVec 32 := 1#32
  let v3470 : BitVec 32 := Scalar.addi v3469 c1_i32_1321
  let c512_i32_1322 : BitVec 32 := 512#32
  let v3471 : BitVec 32 := Scalar.muli v3470 c512_i32_1322
  let v3472 : BitVec 32 := v3471
  let v3476 : Index := Scalar.indexCast v3472
  let c0_1326 : Index := 0#32
  ![v3476.toNat, 0]
def k0_mult5 : BitVec 32 :=
  let c0_i32_1330 : BitVec 32 := 0#32
  c0_i32_1330
def k0_off7 (i : grid0.Coords) (c0_i32_1340 : BitVec 32) : Fin 1 → Nat :=
  let arg1 : BitVec 32 := BitVec.ofNat 32 (i 1).val
  let c4_i32_1339 : BitVec 32 := 4#32
  let v3500 : BitVec 32 := Scalar.muli arg1 c4_i32_1339
  let v3501 : BitVec 32 := Scalar.addi v3500 c0_i32_1340
  let v3502 : Index := Scalar.indexCast v3501
  ![v3502.toNat]
def k0_mult6 (i : grid0.Coords) : BitVec 32 :=
  let arg2 : BitVec 32 := BitVec.ofNat 32 (i 2).val
  let c128_i32 : BitVec 32 := 128#32
  let v0 : BitVec 32 := Scalar.muli arg2 c128_i32
  v0
def k0_off8 (i : grid0.Coords) : Fin 4 → Nat :=
  let c0_1369 : Index := 0#32
  let c0_1370 : Index := 0#32
  let c0_1371 : Index := 0#32
  let arg2 : BitVec 32 := BitVec.ofNat 32 (i 2).val
  let c128_i32 : BitVec 32 := 128#32
  let v0 : BitVec 32 := Scalar.muli arg2 c128_i32
  let v3545 : BitVec 32 := v0
  let v3574 : Index := Scalar.indexCast v3545
  ![0, 0, 0, v3574.toNat]
def k0_mult7 (i : grid0.Coords) : BitVec 32 :=
  let arg2 : BitVec 32 := BitVec.ofNat 32 (i 2).val
  let c128_i32 : BitVec 32 := 128#32
  let v0 : BitVec 32 := Scalar.muli arg2 c128_i32
  v0
def k0_off9 (i : grid0.Coords) : Fin 4 → Nat :=
  let c0_1385 : Index := 0#32
  let c0_1386 : Index := 0#32
  let c0_1387 : Index := 0#32
  let arg2 : BitVec 32 := BitVec.ofNat 32 (i 2).val
  let c128_i32 : BitVec 32 := 128#32
  let v0 : BitVec 32 := Scalar.muli arg2 c128_i32
  let v3595 : BitVec 32 := v0
  let v3621 : Index := Scalar.indexCast v3595
  ![0, 0, 0, v3621.toNat]
def k0_mult8 (i : grid0.Coords) : BitVec 32 :=
  let c2_i32_1392 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3631 : BitVec 32 := Scalar.muli c2_i32_1392 v3454
  let c512_i32_1393 : BitVec 32 := 512#32
  let v3632 : BitVec 32 := Scalar.muli v3631 c512_i32_1393
  v3632
def k0_off10 (i : grid0.Coords) : Fin 4 → Nat :=
  let c0_1402 : Index := 0#32
  let c0_1403 : Index := 0#32
  let c0_1404 : Index := 0#32
  let c2_i32_1392 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3631 : BitVec 32 := Scalar.muli c2_i32_1392 v3454
  let c512_i32_1393 : BitVec 32 := 512#32
  let v3632 : BitVec 32 := Scalar.muli v3631 c512_i32_1393
  let v3633 : BitVec 32 := v3632
  let v3664 : Index := Scalar.indexCast v3633
  ![0, 0, 0, v3664.toNat]
def k0_mult9 (i : grid0.Coords) : BitVec 32 :=
  let c2_i32_1406 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3670 : BitVec 32 := Scalar.muli c2_i32_1406 v3454
  let c1_i32_1407 : BitVec 32 := 1#32
  let v3671 : BitVec 32 := Scalar.addi v3670 c1_i32_1407
  let c512_i32_1408 : BitVec 32 := 512#32
  let v3672 : BitVec 32 := Scalar.muli v3671 c512_i32_1408
  v3672
def k0_off11 (i : grid0.Coords) : Fin 4 → Nat :=
  let c0_1417 : Index := 0#32
  let c0_1418 : Index := 0#32
  let c0_1419 : Index := 0#32
  let c2_i32_1406 : BitVec 32 := 2#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3670 : BitVec 32 := Scalar.muli c2_i32_1406 v3454
  let c1_i32_1407 : BitVec 32 := 1#32
  let v3671 : BitVec 32 := Scalar.addi v3670 c1_i32_1407
  let c512_i32_1408 : BitVec 32 := 512#32
  let v3672 : BitVec 32 := Scalar.muli v3671 c512_i32_1408
  let v3673 : BitVec 32 := v3672
  let v3704 : Index := Scalar.indexCast v3673
  ![0, 0, 0, v3704.toNat]
@[reducible] def k0_t1_loop (i : grid0.Coords) : Scf.Loop 32 :=
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1423 : BitVec 32 := 1#32
  ⟨c0_i32_1421, v3714, c1_i32_1423⟩
def k0_mult10 (i : grid0.Coords) (k0_t1 : Fin (k0_t1_loop i).trips) : BitVec 32 :=
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c1_i32_1491 : BitVec 32 := 1#32
  let v3851 : BitVec 32 := Scalar.addi v3850 c1_i32_1491
  let c512_i32_1492 : BitVec 32 := 512#32
  let v3852 : BitVec 32 := Scalar.muli v3851 c512_i32_1492
  v3852
def k0_off12 (i : grid0.Coords) (k0_t1 : Fin (k0_t1_loop i).trips) (c1_i32_1491 : BitVec 32) : Fin 4 → Nat :=
  let c0_1493 : Index := 0#32
  let c0_1494 : Index := 0#32
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let v3851 : BitVec 32 := Scalar.addi v3850 c1_i32_1491
  let c512_i32_1492 : BitVec 32 := 512#32
  let v3852 : BitVec 32 := Scalar.muli v3851 c512_i32_1492
  let v3853 : BitVec 32 := v3852
  let v3854 : Index := Scalar.indexCast v3853
  let c0_1495 : Index := 0#32
  ![0, 0, v3854.toNat, 0]
def k0_off13 (i : grid0.Coords) (k0_t1 : Fin (k0_t1_loop i).trips) (c1_i32_1491 : BitVec 32) : Fin 2 → Nat :=
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let v3851 : BitVec 32 := Scalar.addi v3850 c1_i32_1491
  let c512_i32_1492 : BitVec 32 := 512#32
  let v3852 : BitVec 32 := Scalar.muli v3851 c512_i32_1492
  let v3853 : BitVec 32 := v3852
  let v3857 : Index := Scalar.indexCast v3853
  let c0_1496 : Index := 0#32
  ![v3857.toNat, 0]
def k0_mult11 (i : grid0.Coords) (k0_t1 : Fin (k0_t1_loop i).trips) : BitVec 32 :=
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c512_i32_1500 : BitVec 32 := 512#32
  let v3865 : BitVec 32 := Scalar.muli v3850 c512_i32_1500
  v3865
def k0_off14 (i : grid0.Coords) (k0_t1 : Fin (k0_t1_loop i).trips) : Fin 4 → Nat :=
  let c0_1506 : Index := 0#32
  let c0_1507 : Index := 0#32
  let c0_1508 : Index := 0#32
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c512_i32_1500 : BitVec 32 := 512#32
  let v3865 : BitVec 32 := Scalar.muli v3850 c512_i32_1500
  let v3866 : BitVec 32 := v3865
  let v3883 : Index := Scalar.indexCast v3866
  ![0, 0, 0, v3883.toNat]
def k0_mult12 (i : grid0.Coords) (k0_t1 : Fin (k0_t1_loop i).trips) : BitVec 32 :=
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c2_i32_1510 : BitVec 32 := 2#32
  let v3889 : BitVec 32 := Scalar.addi v3850 c2_i32_1510
  let c512_i32_1511 : BitVec 32 := 512#32
  let v3890 : BitVec 32 := Scalar.muli v3889 c512_i32_1511
  v3890
def k0_mult13 (i : grid0.Coords) (k0_t1 : Fin (k0_t1_loop i).trips) : BitVec 32 :=
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c1_i32_1520 : BitVec 32 := 1#32
  let v3903 : BitVec 32 := Scalar.addi v3850 c1_i32_1520
  let c512_i32_1521 : BitVec 32 := 512#32
  let v3904 : BitVec 32 := Scalar.muli v3903 c512_i32_1521
  v3904
def k0_off15 (i : grid0.Coords) (k0_t1 : Fin (k0_t1_loop i).trips) : Fin 4 → Nat :=
  let c0_1527 : Index := 0#32
  let c0_1528 : Index := 0#32
  let c0_1529 : Index := 0#32
  let c2_i32_1490 : BitVec 32 := 2#32
  let c0_i32_1421 : BitVec 32 := 0#32
  let c1_i32_1423 : BitVec 32 := 1#32
  let arg21 : BitVec 32 := Scf.iv c0_i32_1421 c1_i32_1423 k0_t1
  let v3850 : BitVec 32 := Scalar.muli c2_i32_1490 arg21
  let c1_i32_1520 : BitVec 32 := 1#32
  let v3903 : BitVec 32 := Scalar.addi v3850 c1_i32_1520
  let c512_i32_1521 : BitVec 32 := 512#32
  let v3904 : BitVec 32 := Scalar.muli v3903 c512_i32_1521
  let v3905 : BitVec 32 := v3904
  let v3922 : Index := Scalar.indexCast v3905
  ![0, 0, 0, v3922.toNat]
@[reducible] def k0_t2_loop (i : grid0.Coords) : Scf.Loop 32 :=
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let v3711 : BitVec 32 := Scalar.addi c0_i32_1421 v3710
  let c1_i32_1424 : BitVec 32 := 1#32
  ⟨v3714, v3711, c1_i32_1424⟩
def k0_mult14 (i : grid0.Coords) (k0_t2 : Fin (k0_t2_loop i).trips) : BitVec 32 :=
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c1_i32_1491 : BitVec 32 := 1#32
  let v3851 : BitVec 32 := Scalar.addi v3850 c1_i32_1491
  let c512_i32_1492 : BitVec 32 := 512#32
  let v3852 : BitVec 32 := Scalar.muli v3851 c512_i32_1492
  v3852
def k0_off16 (i : grid0.Coords) (k0_t2 : Fin (k0_t2_loop i).trips) (c1_i32_1491 : BitVec 32) : Fin 4 → Nat :=
  let c0_1493 : Index := 0#32
  let c0_1494 : Index := 0#32
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let v3851 : BitVec 32 := Scalar.addi v3850 c1_i32_1491
  let c512_i32_1492 : BitVec 32 := 512#32
  let v3852 : BitVec 32 := Scalar.muli v3851 c512_i32_1492
  let v3853 : BitVec 32 := v3852
  let v3854 : Index := Scalar.indexCast v3853
  let c0_1495 : Index := 0#32
  ![0, 0, v3854.toNat, 0]
def k0_off17 (i : grid0.Coords) (k0_t2 : Fin (k0_t2_loop i).trips) (c1_i32_1491 : BitVec 32) : Fin 2 → Nat :=
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let v3851 : BitVec 32 := Scalar.addi v3850 c1_i32_1491
  let c512_i32_1492 : BitVec 32 := 512#32
  let v3852 : BitVec 32 := Scalar.muli v3851 c512_i32_1492
  let v3853 : BitVec 32 := v3852
  let v3857 : Index := Scalar.indexCast v3853
  let c0_1496 : Index := 0#32
  ![v3857.toNat, 0]
def k0_mult15 (i : grid0.Coords) (k0_t2 : Fin (k0_t2_loop i).trips) : BitVec 32 :=
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c512_i32_1500 : BitVec 32 := 512#32
  let v3865 : BitVec 32 := Scalar.muli v3850 c512_i32_1500
  v3865
def k0_off18 (i : grid0.Coords) (k0_t2 : Fin (k0_t2_loop i).trips) : Fin 4 → Nat :=
  let c0_1506 : Index := 0#32
  let c0_1507 : Index := 0#32
  let c0_1508 : Index := 0#32
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c512_i32_1500 : BitVec 32 := 512#32
  let v3865 : BitVec 32 := Scalar.muli v3850 c512_i32_1500
  let v3866 : BitVec 32 := v3865
  let v3883 : Index := Scalar.indexCast v3866
  ![0, 0, 0, v3883.toNat]
def k0_mult16 (i : grid0.Coords) (k0_t2 : Fin (k0_t2_loop i).trips) : BitVec 32 :=
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c2_i32_1510 : BitVec 32 := 2#32
  let v3889 : BitVec 32 := Scalar.addi v3850 c2_i32_1510
  let c512_i32_1511 : BitVec 32 := 512#32
  let v3890 : BitVec 32 := Scalar.muli v3889 c512_i32_1511
  v3890
def k0_mult17 (i : grid0.Coords) (k0_t2 : Fin (k0_t2_loop i).trips) : BitVec 32 :=
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c1_i32_1520 : BitVec 32 := 1#32
  let v3903 : BitVec 32 := Scalar.addi v3850 c1_i32_1520
  let c512_i32_1521 : BitVec 32 := 512#32
  let v3904 : BitVec 32 := Scalar.muli v3903 c512_i32_1521
  v3904
def k0_off19 (i : grid0.Coords) (k0_t2 : Fin (k0_t2_loop i).trips) : Fin 4 → Nat :=
  let c0_1527 : Index := 0#32
  let c0_1528 : Index := 0#32
  let c0_1529 : Index := 0#32
  let c2_i32_1490 : BitVec 32 := 2#32
  let c0_i32_1421 : BitVec 32 := 0#32
  let arg2 : BitVec 32 := BitVec.ofNat 32 (i 2).val
  let c128_i32 : BitVec 32 := 128#32
  let v0 : BitVec 32 := Scalar.muli arg2 c128_i32
  let c128_i32_1304 : BitVec 32 := 128#32
  let v3436 : BitVec 32 := Scalar.addi v0 c128_i32_1304
  let c1_i32_1305 : BitVec 32 := 1#32
  let v3437 : BitVec 32 := Scalar.subi v3436 c1_i32_1305
  let c0_i32_1306 : BitVec 32 := 0#32
  let v3439 : BitVec 1 := Scalar.cmpi .sgt v3437 c0_i32_1306
  let v3440 : BitVec 32 := Scalar.extui v3439
  let c0_i32_1307 : BitVec 32 := 0#32
  let v3441 : BitVec 1 := Scalar.cmpi .slt v3437 c0_i32_1307
  let v3442 : BitVec 32 := Scalar.extui v3441
  let v3443 : BitVec 32 := Scalar.subi v3440 v3442
  let c1024_i32 : BitVec 32 := 1024#32
  let c0_i32_1308 : BitVec 32 := 0#32
  let v3444 : BitVec 1 := Scalar.cmpi .sgt c1024_i32 c0_i32_1308
  let v3445 : BitVec 32 := Scalar.extui v3444
  let c0_i32_1309 : BitVec 32 := 0#32
  let v3446 : BitVec 1 := Scalar.cmpi .slt c1024_i32 c0_i32_1309
  let v3447 : BitVec 32 := Scalar.extui v3446
  let v3448 : BitVec 32 := Scalar.subi v3445 v3447
  let v3449 : BitVec 1 := Scalar.cmpi .ne v3443 v3448
  let v3450 : BitVec 32 := Scalar.remsi v3437 c1024_i32
  let c0_i32_1310 : BitVec 32 := 0#32
  let v3451 : BitVec 1 := Scalar.cmpi .ne v3450 c0_i32_1310
  let v3452 : BitVec 1 := Scalar.andi v3449 v3451
  let v3438 : BitVec 32 := Scalar.divsi v3437 c1024_i32
  let c1_i32_1311 : BitVec 32 := 1#32
  let v3453 : BitVec 32 := Scalar.subi v3438 c1_i32_1311
  let v3454 : BitVec 32 := Scalar.select v3452 v3453 v3438
  let v3710 : BitVec 32 := Scalar.subi v3454 c0_i32_1421
  let c1_i32_1422 : BitVec 32 := 1#32
  let v3712 : BitVec 32 := Scalar.divsi v3710 c1_i32_1422
  let v3713 : BitVec 32 := Scalar.muli v3712 c1_i32_1422
  let v3714 : BitVec 32 := Scalar.addi c0_i32_1421 v3713
  let c1_i32_1424 : BitVec 32 := 1#32
  let arg21 : BitVec 32 := Scf.iv v3714 c1_i32_1424 k0_t2
  let v3850 : BitVec 32 := Scalar.muli c2_i32_1490 arg21
  let c1_i32_1520 : BitVec 32 := 1#32
  let v3903 : BitVec 32 := Scalar.addi v3850 c1_i32_1520
  let c512_i32_1521 : BitVec 32 := 512#32
  let v3904 : BitVec 32 := Scalar.muli v3903 c512_i32_1521
  let v3905 : BitVec 32 := v3904
  let v3922 : Index := Scalar.indexCast v3905
  ![0, 0, 0, v3922.toNat]
def k0_off20 (i : grid0.Coords) (c0_i32_1426 : BitVec 32) (c0_i32_1427 : BitVec 32) : Fin 3 → Nat :=
  let c0_1428 : Index := 0#32
  let arg1 : BitVec 32 := BitVec.ofNat 32 (i 1).val
  let c4_i32_1425 : BitVec 32 := 4#32
  let v3719 : BitVec 32 := Scalar.muli arg1 c4_i32_1425
  let v3720 : BitVec 32 := Scalar.addi c0_i32_1426 v3719
  let v3721 : BitVec 32 := Scalar.addi v3720 c0_i32_1427
  let v3722 : Index := Scalar.indexCast v3721
  let c0_1429 : Index := 0#32
  ![0, v3722.toNat, 0]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_2 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, arg2.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_14 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_15 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_16 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x1x4x128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x4x128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1x64x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x1x64x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x4608x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x1x64x4608 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S1x1x4224x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S1x1x64x4224 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 1 → Memref sig .tc .vmem S4096x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false, false]

abbrev stage0_12 : Fin 2 → Memref sig .tc .vmem S1x32x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false, true]

abbrev stage0_13 : Fin 2 → Memref sig .tc .vmem S1x128x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S1x128x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]

abbrev stage0_15 : Fin 2 → Memref sig .tc .vmem S1x128x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S1x128x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== KernelIdeal.lean ====
variable {F : FTy → Type} [FloatOps F] [Named F]
def κ : String → Option EReal := fun
  | "mask" => some ⊥
  | "mask_feature" => some ⊥
  | _ => none
-- ==== ReferenceIdeal.lean ====
abbrev S8 : Shape := ⟨1, ![8]⟩
abbrev S4x2x4x4096x64 : Shape := ⟨5, ![4, 2, 4, 4096, 64]⟩
abbrev S4x2x256x64 : Shape := ⟨4, ![4, 2, 256, 64]⟩
abbrev S4x2x4096x64 : Shape := ⟨4, ![4, 2, 4096, 64]⟩
abbrev S4x32x4096 : Shape := ⟨3, ![4, 32, 4096]⟩
abbrev S4x4096x512 : Shape := ⟨3, ![4, 4096, 512]⟩
abbrev S_ : Shape := ⟨0, ![]⟩
abbrev S2x4 : Shape := ⟨2, ![2, 4]⟩
abbrev S4x2x4x4096x4096 : Shape := ⟨5, ![4, 2, 4, 4096, 4096]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S1x2x4x1x1 : Shape := ⟨5, ![1, 2, 4, 1, 1]⟩
abbrev S1x1x1x4096x4096 : Shape := ⟨5, ![1, 1, 1, 4096, 4096]⟩
abbrev S1x2x4x4096x4096 : Shape := ⟨5, ![1, 2, 4, 4096, 4096]⟩
abbrev S4x2x4x4096x1 : Shape := ⟨5, ![4, 2, 4, 4096, 1]⟩
abbrev S4x2x4x4096x4097 : Shape := ⟨5, ![4, 2, 4, 4096, 4097]⟩
abbrev S4x2x4x4096 : Shape := ⟨4, ![4, 2, 4, 4096]⟩
abbrev S4x4096x2x4x64 : Shape := ⟨5, ![4, 4096, 2, 4, 64]⟩

abbrev nBuf : Space → Nat
  | .hbm => 86
  | .vmem => 0
  | .smem => 0
  | _ => 0

abbrev bufTy : (tb : Table) → Fin (tcTables nBuf tb) → BufTy
  | .hbm, ⟨0, _⟩ => ⟨S8, .f32⟩
  | .hbm, ⟨1, _⟩ => ⟨S4x2x4x4096x64, .bf16⟩
  | .hbm, ⟨2, _⟩ => ⟨S4x2x4x4096x64, .bf16⟩
  | .hbm, ⟨3, _⟩ => ⟨S4x2x256x64, .bf16⟩
  | .hbm, ⟨4, _⟩ => ⟨S4x2x256x64, .bf16⟩
  | .hbm, ⟨5, _⟩ => ⟨S4x2x4096x64, .bf16⟩
  | .hbm, ⟨6, _⟩ => ⟨S4x2x4096x64, .bf16⟩
  | .hbm, ⟨7, _⟩ => ⟨S4x2x4096x64, .bf16⟩
  | .hbm, ⟨8, _⟩ => ⟨S4x2x4096x64, .bf16⟩
  | .hbm, ⟨9, _⟩ => ⟨S4x2x4096x64, .bf16⟩
  | .hbm, ⟨10, _⟩ => ⟨S4x2x4096x64, .bf16⟩
  | .hbm, ⟨11, _⟩ => ⟨S4x32x4096, .f32⟩
  | .hbm, ⟨12, _⟩ => ⟨S4x4096x512, .bf16⟩
  | .hbm, ⟨13, _⟩ => ⟨S4x4096x512, .bf16⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S2x4, .f32⟩
  | .hbm, ⟨26, _⟩ => ⟨S4x2x4x4096x64, .f32⟩
  | .hbm, ⟨27, _⟩ => ⟨S4x2x4096x64, .f32⟩
  | .hbm, ⟨28, _⟩ => ⟨S4x2x4x4096x4096, .f32⟩
  | .hbm, ⟨29, _⟩ => ⟨S_, .f32⟩
  | .hbm, ⟨30, _⟩ => ⟨S4x2x4x4096x4096, .f32⟩
  | .hbm, ⟨31, _⟩ => ⟨S4x2x4x4096x4096, .f32⟩
  | .hbm, ⟨32, _⟩ => ⟨S4096, .i32⟩
  | .hbm, ⟨33, _⟩ => ⟨S4096x1, .i32⟩
  | .hbm, ⟨34, _⟩ => ⟨S4096, .i32⟩
  | .hbm, ⟨35, _⟩ => ⟨S1x4096, .i32⟩
  | .hbm, ⟨36, _⟩ => ⟨S4096x4096, .i32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i1⟩
  | .hbm, ⟨42, _⟩ => ⟨S_, .i32⟩
  | .hbm, ⟨43, _⟩ => ⟨S4096x4096, .i32⟩
  | .hbm, ⟨44, _⟩ => ⟨S4096x4096, .i1⟩
  | .hbm, ⟨45, _⟩ => ⟨S4096x4096, .i1⟩
  | .hbm, ⟨46, _⟩ => ⟨S1x2x4x1x1, .f32⟩
  | .hbm, ⟨47, _⟩ => ⟨S4096x4096, .f32⟩
  | .hbm, ⟨48, _⟩ => ⟨S1x1x1x4096x4096, .f32⟩
  | .hbm, ⟨49, _⟩ => ⟨S1x2x4x4096x4096, .f32⟩
  | .hbm, ⟨50, _⟩ => ⟨S1x2x4x4096x4096, .f32⟩
  | .hbm, ⟨51, _⟩ => ⟨S1x2x4x4096x4096, .f32⟩
  | .hbm, ⟨52, _⟩ => ⟨S4x2x4x4096x4096, .f32⟩
  | .hbm, ⟨53, _⟩ => ⟨S4x2x4x4096x4096, .f32⟩
  | .hbm, ⟨54, _⟩ => ⟨S_, .f32⟩
  | .hbm, ⟨55, _⟩ => ⟨S_, .f32⟩
  | .hbm, ⟨56, _⟩ => ⟨S4x2x4x4096x4096, .i1⟩
  | .hbm, ⟨57, _⟩ => ⟨S4x2x4x4096x4096, .f32⟩
  | .hbm, ⟨58, _⟩ => ⟨S4x2x4x4096x4096, .f32⟩
  | .hbm, ⟨59, _⟩ => ⟨S1x2x4x1x1, .f32⟩
  | .hbm, ⟨60, _⟩ => ⟨S4x2x4x4096x1, .f32⟩
  | .hbm, ⟨61, _⟩ => ⟨S4x2x4x4096x4097, .f32⟩
  | .hbm, ⟨62, _⟩ => ⟨S_, .f32⟩
  | .hbm, ⟨63, _⟩ => ⟨S4x2x4x4096, .f32⟩
  | .hbm, ⟨64, _⟩ => ⟨S_, .f32⟩
  | .hbm, ⟨65, _⟩ => ⟨S4x2x4x4096, .f32⟩
  | .hbm, ⟨66, _⟩ => ⟨S4x2x4x4096, .f32⟩
  | .hbm, ⟨67, _⟩ => ⟨S4x2x4x4096x1, .f32⟩
  | .hbm, ⟨68, _⟩ => ⟨S4x2x4x4096x4097, .f32⟩
  | .hbm, ⟨69, _⟩ => ⟨S4x2x4x4096x4097, .f32⟩
  | .hbm, ⟨70, _⟩ => ⟨S4x2x4x4096x4097, .f32⟩
  | .hbm, ⟨71, _⟩ => ⟨S_, .f32⟩
  | .hbm, ⟨72, _⟩ => ⟨S4x2x4x4096, .f32⟩
  | .hbm, ⟨73, _⟩ => ⟨S4x2x4x4096x1, .f32⟩
  | .hbm, ⟨74, _⟩ => ⟨S4x2x4x4096x4097, .f32⟩
  | .hbm, ⟨75, _⟩ => ⟨S4x2x4x4096x4097, .f32⟩
  | .hbm, ⟨76, _⟩ => ⟨S4x2x4x4096x4096, .f32⟩
  | .hbm, ⟨77, _⟩ => ⟨S4x2x4096x64, .f32⟩
  | .hbm, ⟨78, _⟩ => ⟨S4x2x4x4096x64, .f32⟩
  | .hbm, ⟨79, _⟩ => ⟨S4x2x4x4096x64, .bf16⟩
  | .hbm, ⟨80, _⟩ => ⟨S4x4096x2x4x64, .bf16⟩
  | .hbm, ⟨81, _⟩ => ⟨S4x4096x512, .bf16⟩
  | .hbm, ⟨82, _⟩ => ⟨S4x4096x512, .f32⟩
  | .hbm, ⟨83, _⟩ => ⟨S4x4096x512, .f32⟩
  | .hbm, ⟨84, _⟩ => ⟨S4x4096x512, .f32⟩
  | .hbm, ⟨85, _⟩ => ⟨S4x4096x512, .bf16⟩
  | _, _ => ⟨S8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_c : Ref sig .tc := ⟨.hbm, 15, rfl⟩
abbrev main_v1 : Ref sig .tc := ⟨.hbm, 16, rfl⟩
abbrev main_v2 : Ref sig .tc := ⟨.hbm, 17, rfl⟩
abbrev main_c_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_cst : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_2 : Ref sig .tc := ⟨.hbm, 39, rfl⟩
abbrev main_v21 : Ref sig .tc := ⟨.hbm, 40, rfl⟩
abbrev main_v22 : Ref sig .tc := ⟨.hbm, 41, rfl⟩
abbrev main_c_3 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_cst_7 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩

abbrev nD : Nat := 1
abbrev τ : Topo := Topo.v7x

variable {F : FTy → Type} [FloatOps F]
-- ==== Kernel2.lean ====
abbrev S4x4096x1024 : Shape := ⟨3, ![4, 4096, 1024]⟩
abbrev S4x4096x512 : Shape := ⟨3, ![4, 4096, 512]⟩
abbrev S4x1024 : Shape := ⟨2, ![4, 1024]⟩
abbrev S1024 : Shape := ⟨1, ![1024]⟩
abbrev S512x1024 : Shape := ⟨2, ![512, 1024]⟩
abbrev S1024x1024 : Shape := ⟨2, ![1024, 1024]⟩
abbrev S4x1x1024 : Shape := ⟨3, ![4, 1, 1024]⟩
abbrev S1x1024 : Shape := ⟨2, ![1, 1024]⟩
abbrev S1x512x1024 : Shape := ⟨3, ![1, 512, 1024]⟩
abbrev S1x512x512 : Shape := ⟨3, ![1, 512, 512]⟩
abbrev S1x1x1024 : Shape := ⟨3, ![1, 1, 1024]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x1024, .bf16⟩
  | .hbm, ⟨4, _⟩ => ⟨S4x4096x1024, .bf16⟩
  | .hbm, ⟨5, _⟩ => ⟨S4x1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x1x1024, .f32⟩
  | .hbm, ⟨11, _⟩ => ⟨S1x1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S4x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x512, .bf16⟩
  | .local _ .vmem, ⟨5, _⟩ => ⟨S1x512x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1x1024, .f32⟩
  | .local _ .vmem, ⟨11, _⟩ => ⟨S1x1x1024, .f32⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x512x1024, .f32⟩
  | .local _ .vmem, ⟨17, _⟩ => ⟨S1x512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference2Ideal.lean ====
abbrev S4x4096x1024 : Shape := ⟨3, ![4, 4096, 1024]⟩
abbrev S4x4096x512 : Shape := ⟨3, ![4, 4096, 512]⟩
abbrev S4x1024 : Shape := ⟨2, ![4, 1024]⟩
abbrev S1024 : Shape := ⟨1, ![1024]⟩
abbrev S512x1024 : Shape := ⟨2, ![512, 1024]⟩
abbrev S1024x1024 : Shape := ⟨2, ![1024, 1024]⟩
abbrev S4x1x1024 : Shape := ⟨3, ![4, 1, 1024]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩

abbrev nBuf : Space → Nat
  | .hbm => 40
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .bf16⟩
  | .hbm, ⟨2, _⟩ => ⟨S4x4096x512, .bf16⟩
  | .hbm, ⟨3, _⟩ => ⟨S4x4096x1024, .bf16⟩
  | .hbm, ⟨4, _⟩ => ⟨S4x4096x1024, .bf16⟩
  | .hbm, ⟨5, _⟩ => ⟨S4x1024, .f32⟩
  | .hbm, ⟨6, _⟩ => ⟨S1024, .f32⟩
  | .hbm, ⟨7, _⟩ => ⟨S512x1024, .f32⟩
  | .hbm, ⟨8, _⟩ => ⟨S512x1024, .f32⟩
  | .hbm, ⟨9, _⟩ => ⟨S1024x1024, .f32⟩
  | .hbm, ⟨10, _⟩ => ⟨S4x4096x512, .f32⟩
  | .hbm, ⟨11, _⟩ => ⟨S4x4096x1024, .f32⟩
  | .hbm, ⟨12, _⟩ => ⟨S4x4096x512, .f32⟩
  | .hbm, ⟨13, _⟩ => ⟨S4x4096x1024, .f32⟩
  | .hbm, ⟨14, _⟩ => ⟨S4x4096x1024, .f32⟩
  | .hbm, ⟨15, _⟩ => ⟨S4x4096x1024, .f32⟩
  | .hbm, ⟨16, _⟩ => ⟨S4x4096x1024, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S4x1x1024, .f32⟩
  | .hbm, ⟨21, _⟩ => ⟨S4x4096x1024, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S_, .f32⟩
  | .hbm, ⟨26, _⟩ => ⟨S4x4096x1, .f32⟩
  | .hbm, ⟨27, _⟩ => ⟨S4x4096x1, .f32⟩
  | .hbm, ⟨28, _⟩ => ⟨S_, .f32⟩
  | .hbm, ⟨29, _⟩ => ⟨S4x4096x1, .f32⟩
  | .hbm, ⟨30, _⟩ => ⟨S4x4096x1, .f32⟩
  | .hbm, ⟨31, _⟩ => ⟨S4x4096x1, .f32⟩
  | .hbm, ⟨32, _⟩ => ⟨S4x4096x1024, .f32⟩
  | .hbm, ⟨33, _⟩ => ⟨S4x4096x1024, .f32⟩
  | .hbm, ⟨34, _⟩ => ⟨S1x1x1024, .f32⟩
  | .hbm, ⟨35, _⟩ => ⟨S4x4096x1024, .f32⟩
  | .hbm, ⟨36, _⟩ => ⟨S4x4096x1024, .f32⟩
  | .hbm, ⟨37, _⟩ => ⟨S4x4096x1024, .f32⟩
  | .hbm, ⟨38, _⟩ => ⟨S4x4096x1024, .f32⟩
  | .hbm, ⟨39, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_v15 : Ref sig .tc := ⟨.hbm, 27, rfl⟩
abbrev main_cst_1 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== Kernel3.lean ====
abbrev S4x4096x1024 : Shape := ⟨3, ![4, 4096, 1024]⟩
abbrev S4x1024 : Shape := ⟨2, ![4, 1024]⟩
abbrev S1024 : Shape := ⟨1, ![1024]⟩
abbrev S1024x5144 : Shape := ⟨2, ![1024, 5144]⟩
abbrev S4x1x1024 : Shape := ⟨3, ![4, 1, 1024]⟩
abbrev S1x1024 : Shape := ⟨2, ![1, 1024]⟩
abbrev S1024x512 : Shape := ⟨2, ![1024, 512]⟩
abbrev S1024x256 : Shape := ⟨2, ![1024, 256]⟩
abbrev S1024x24 : Shape := ⟨2, ![1024, 24]⟩
abbrev S1024x2048 : Shape := ⟨2, ![1024, 2048]⟩
abbrev S_ : Shape := ⟨0, ![]⟩
abbrev S1024x128 : Shape := ⟨2, ![1024, 128]⟩
abbrev S1024x5248 : Shape := ⟨2, ![1024, 5248]⟩
abbrev S4x2x4x4096x128 : Shape := ⟨5, ![4, 2, 4, 4096, 128]⟩
abbrev S4x2x4096x64 : Shape := ⟨4, ![4, 2, 4096, 64]⟩
abbrev S4x2x4096x128 : Shape := ⟨4, ![4, 2, 4096, 128]⟩
abbrev S4x2x64x4096 : Shape := ⟨4, ![4, 2, 64, 4096]⟩
abbrev S4x4096x512 : Shape := ⟨3, ![4, 4096, 512]⟩
abbrev S4x32x4096 : Shape := ⟨3, ![4, 32, 4096]⟩
abbrev S1x512x1024 : Shape := ⟨3, ![1, 512, 1024]⟩
abbrev S1x1x1024 : Shape := ⟨3, ![1, 1, 1024]⟩
abbrev S1x2x4x512x128 : Shape := ⟨5, ![1, 2, 4, 512, 128]⟩
abbrev S1x2x512x64 : Shape := ⟨4, ![1, 2, 512, 64]⟩
abbrev S1x2x512x128 : Shape := ⟨4, ![1, 2, 512, 128]⟩
abbrev S1x2x64x512 : Shape := ⟨4, ![1, 2, 64, 512]⟩
abbrev S1x512x512 : Shape := ⟨3, ![1, 512, 512]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S512x128 : Shape := ⟨2, ![512, 128]⟩
abbrev S1024x1024 : Shape := ⟨2, ![1024, 1024]⟩
abbrev S1x1x1x512x128 : Shape := ⟨5, ![1, 1, 1, 512, 128]⟩
abbrev S512x64 : Shape := ⟨2, ![512, 64]⟩
abbrev S1x1x512x64 : Shape := ⟨4, ![1, 1, 512, 64]⟩
abbrev S1x1x512x128 : Shape := ⟨4, ![1, 1, 512, 128]⟩
abbrev S128x512 : Shape := ⟨2, ![128, 512]⟩
abbrev S64x512 : Shape := ⟨2, ![64, 512]⟩
abbrev S1x1x64x512 : Shape := ⟨4, ![1, 1, 64, 512]⟩
abbrev S512x512 : Shape := ⟨2, ![512, 512]⟩
abbrev S32x512 : Shape := ⟨2, ![32, 512]⟩
abbrev S4x2x4x4096x64 : Shape := ⟨5, ![4, 2, 4, 4096, 64]⟩
abbrev S4x24x4096 : Shape := ⟨3, ![4, 24, 4096]⟩

abbrev nBuf : Space → Nat
  | .hbm => 50
  | .vmem => 38
  | .smem => 0
  | _ => 0

abbrev bufTy : (tb : Table) → Fin (tcTables nBuf tb) → BufTy
  | .hbm, ⟨0, _⟩ => ⟨S4x4096x1024, .f32⟩
  | .hbm, ⟨1, _⟩ => ⟨S4x1024, .f32⟩
  | .hbm, ⟨2, _⟩ => ⟨S4x1024, .f32⟩
  | .hbm, ⟨3, _⟩ => ⟨S1024, .f32⟩
  | .hbm, ⟨4, _⟩ => ⟨S1024x5144, .f32⟩
  | .hbm, ⟨5, _⟩ => ⟨S4x1x1024, .f32⟩
  | .hbm, ⟨6, _⟩ => ⟨S4x1x1024, .f32⟩
  | .hbm, ⟨7, _⟩ => ⟨S1x1024, .f32⟩
  | .hbm, ⟨8, _⟩ => ⟨S1024x512, .f32⟩
  | .hbm, ⟨9, _⟩ => ⟨S1024x256, .f32⟩
  | .hbm, ⟨10, _⟩ => ⟨S1024x256, .f32⟩
  | .hbm, ⟨11, _⟩ => ⟨S1024x256, .f32⟩
  | .hbm, ⟨12, _⟩ => ⟨S1024x24, .f32⟩
  | .hbm, ⟨13, _⟩ => ⟨S1024x512, .f32⟩
  | .hbm, ⟨14, _⟩ => ⟨S1024x512, .f32⟩
  | .hbm, ⟨15, _⟩ => ⟨S1024x256, .f32⟩
  | .hbm, ⟨16, _⟩ => ⟨S1024x512, .f32⟩
  | .hbm, ⟨17, _⟩ => ⟨S1024x2048, .f32⟩
  | .hbm, ⟨18, _⟩ => ⟨S_, .i32⟩
  | .hbm, ⟨19, _⟩ => ⟨S_, .f32⟩
  | .hbm, ⟨20, _⟩ => ⟨S1024x128, .f32⟩
  | .hbm, ⟨21, _⟩ => ⟨S_, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x5248, .f32⟩
  | .hbm, ⟨28, _⟩ => ⟨S1024x5248, .bf16⟩
  | .hbm, ⟨29, _⟩ => ⟨S4x2x4x4096x128, .bf16⟩
  | .hbm, ⟨30, _⟩ => ⟨S4x2x4x4096x128, .bf16⟩
  | .hbm, ⟨31, _⟩ => ⟨S4x2x4096x64, .bf16⟩
  | .hbm, ⟨32, _⟩ => ⟨S4x2x4096x64, .bf16⟩
  | .hbm, ⟨33, _⟩ => ⟨S4x2x4096x128, .bf16⟩
  | .hbm, ⟨34, _⟩ => ⟨S4x2x64x4096, .bf16⟩
  | .hbm, ⟨35, _⟩ => ⟨S4x2x4096x128, .bf16⟩
  | .hbm, ⟨36, _⟩ => ⟨S4x2x64x4096, .bf16⟩
  | .hbm, ⟨37, _⟩ => ⟨S4x2x4096x128, .bf16⟩
  | .hbm, ⟨38, _⟩ => ⟨S4x2x64x4096, .bf16⟩
  | .hbm, ⟨39, _⟩ => ⟨S4x4096x512, .bf16⟩
  | .hbm, ⟨40, _⟩ => ⟨S4x4096x512, .bf16⟩
  | .hbm, ⟨41, _⟩ => ⟨S4x4096x1024, .bf16⟩
  | .hbm, ⟨42, _⟩ => ⟨S4x4096x1024, .bf16⟩
  | .hbm, ⟨43, _⟩ => ⟨S4x32x4096, .f32⟩
  | .hbm, ⟨44, _⟩ => ⟨S4x2x4x4096x64, .bf16⟩
  | .hbm, ⟨45, _⟩ => ⟨S4x2x4x4096x64, .bf16⟩
  | .hbm, ⟨46, _⟩ => ⟨S4x2x4096x64, .bf16⟩
  | .hbm, ⟨47, _⟩ => ⟨S4x2x4096x64, .bf16⟩
  | .hbm, ⟨48, _⟩ => ⟨S4x2x4096x64, .bf16⟩
  | .hbm, ⟨49, _⟩ => ⟨S4x24x4096, .f32⟩
  | .local _ .vmem, ⟨0, _⟩ => ⟨S1x512x1024, .f32⟩
  | .local _ .vmem, ⟨1, _⟩ => ⟨S1x512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x5248, .bf16⟩
  | .local _ .vmem, ⟨8, _⟩ => ⟨S1x2x4x512x128, .bf16⟩
  | .local _ .vmem, ⟨9, _⟩ => ⟨S1x2x4x512x128, .bf16⟩
  | .local _ .vmem, ⟨10, _⟩ => ⟨S1x2x4x512x128, .bf16⟩
  | .local _ .vmem, ⟨11, _⟩ => ⟨S1x2x4x512x128, .bf16⟩
  | .local _ .vmem, ⟨12, _⟩ => ⟨S1x2x512x64, .bf16⟩
  | .local _ .vmem, ⟨13, _⟩ => ⟨S1x2x512x64, .bf16⟩
  | .local _ .vmem, ⟨14, _⟩ => ⟨S1x2x512x64, .bf16⟩
  | .local _ .vmem, ⟨15, _⟩ => ⟨S1x2x512x64, .bf16⟩
  | .local _ .vmem, ⟨16, _⟩ => ⟨S1x2x512x128, .bf16⟩
  | .local _ .vmem, ⟨17, _⟩ => ⟨S1x2x512x128, .bf16⟩
  | .local _ .vmem, ⟨18, _⟩ => ⟨S1x2x64x512, .bf16⟩
  | .local _ .vmem, ⟨19, _⟩ => ⟨S1x2x64x512, .bf16⟩
  | .local _ .vmem, ⟨20, _⟩ => ⟨S1x2x512x128, .bf16⟩
  | .local _ .vmem, ⟨21, _⟩ => ⟨S1x2x512x128, .bf16⟩
  | .local _ .vmem, ⟨22, _⟩ => ⟨S1x2x64x512, .bf16⟩
  | .local _ .vmem, ⟨23, _⟩ => ⟨S1x2x64x512, .bf16⟩
  | .local _ .vmem, ⟨24, _⟩ => ⟨S1x2x512x128, .bf16⟩
  | .local _ .vmem, ⟨25, _⟩ => ⟨S1x2x512x128, .bf16⟩
  | .local _ .vmem, ⟨26, _⟩ => ⟨S1x2x64x512, .bf16⟩
  | .local _ .vmem, ⟨27, _⟩ => ⟨S1x2x64x512, .bf16⟩
  | .local _ .vmem, ⟨28, _⟩ => ⟨S1x512x512, .bf16⟩
  | .local _ .vmem, ⟨29, _⟩ => ⟨S1x512x512, .bf16⟩
  | .local _ .vmem, ⟨30, _⟩ => ⟨S1x512x512, .bf16⟩
  | .local _ .vmem, ⟨31, _⟩ => ⟨S1x512x512, .bf16⟩
  | .local _ .vmem, ⟨32, _⟩ => ⟨S1x512x1024, .bf16⟩
  | .local _ .vmem, ⟨33, _⟩ => ⟨S1x512x1024, .bf16⟩
  | .local _ .vmem, ⟨34, _⟩ => ⟨S1x512x1024, .bf16⟩
  | .local _ .vmem, ⟨35, _⟩ => ⟨S1x512x1024, .bf16⟩
  | .local _ .vmem, ⟨36, _⟩ => ⟨S1x32x512, .f32⟩
  | .local _ .vmem, ⟨37, _⟩ => ⟨S1x32x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_call0_v0 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_v15 : Ref sig .tc := ⟨.hbm, 23, rfl⟩
abbrev main_cst_0 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v20_7 : Ref sig .tc := ⟨.hbm, 36, rfl⟩
abbrev main_v20_8 : Ref sig .tc := ⟨.hbm, 37, rfl⟩
abbrev main_v20_9 : Ref sig .tc := ⟨.hbm, 38, rfl⟩
abbrev main_v20_10 : Ref sig .tc := ⟨.hbm, 39, rfl⟩
abbrev main_v20_11 : Ref sig .tc := ⟨.hbm, 40, rfl⟩
abbrev main_v20_12 : Ref sig .tc := ⟨.hbm, 41, rfl⟩
abbrev main_v20_13 : Ref sig .tc := ⟨.hbm, 42, rfl⟩
abbrev main_v20_14 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36
abbrev cc0_sem19_1 : DmaSem sig := 37

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_6 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, arg1.toNat, c0_i32_1.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_14 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x5248 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x2x4x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x4x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2x512x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2x64x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x2x512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x2x64x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x2x512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x2x64x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x32x512 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference3Ideal.lean ====
abbrev S4x4096x1024 : Shape := ⟨3, ![4, 4096, 1024]⟩
abbrev S4x1024 : Shape := ⟨2, ![4, 1024]⟩
abbrev S1024 : Shape := ⟨1, ![1024]⟩
abbrev S1024x5144 : Shape := ⟨2, ![1024, 5144]⟩
abbrev S_ : Shape := ⟨0, ![]⟩
abbrev S4x4096 : Shape := ⟨2, ![4, 4096]⟩
abbrev S4x4096x1 : Shape := ⟨3, ![4, 4096, 1]⟩
abbrev S1x1x1024 : Shape := ⟨3, ![1, 1, 1024]⟩
abbrev S4x1x1024 : Shape := ⟨3, ![4, 1, 1024]⟩
abbrev S4x4096x5144 : Shape := ⟨3, ![4, 4096, 5144]⟩
abbrev S4x4096x512 : Shape := ⟨3, ![4, 4096, 512]⟩
abbrev S4x4096x256 : Shape := ⟨3, ![4, 4096, 256]⟩
abbrev S4x4096x24 : Shape := ⟨3, ![4, 4096, 24]⟩
abbrev S4x4096x2048 : Shape := ⟨3, ![4, 4096, 2048]⟩
abbrev S4x4096x128 : Shape := ⟨3, ![4, 4096, 128]⟩
abbrev S4x4096x2x4x64 : Shape := ⟨5, ![4, 4096, 2, 4, 64]⟩
abbrev S4x2x4x4096x64 : Shape := ⟨5, ![4, 2, 4, 4096, 64]⟩
abbrev S4x4096x2x64 : Shape := ⟨4, ![4, 4096, 2, 64]⟩
abbrev S4x2x4096x64 : Shape := ⟨4, ![4, 2, 4096, 64]⟩
abbrev S4x2x64x4096 : Shape := ⟨4, ![4, 2, 64, 4096]⟩
abbrev S4x24x4096 : Shape := ⟨3, ![4, 24, 4096]⟩

abbrev nBuf : Space → Nat
  | .hbm => 137
  | .vmem => 0
  | .smem => 0
  | _ => 0

abbrev hbmTy0_0 (i : Nat) : BufTy := match i % 128 with
  | 0 => ⟨S4x4096x1024, .f32⟩
  | 1 => ⟨S4x1024, .f32⟩
  | 2 => ⟨S4x1024, .f32⟩
  | 3 => ⟨S1024, .f32⟩
  | 4 => ⟨S1024x5144, .f32⟩
  | 5 => ⟨S4x4096x1024, .f32⟩
  | 6 => ⟨S_, .f32⟩
  | 7 => ⟨S4x4096, .f32⟩
  | 8 => ⟨S4x4096x1, .f32⟩
  | 9 => ⟨S_, .f32⟩
  | 10 => ⟨S4x4096x1, .f32⟩
  | 11 => ⟨S4x4096x1, .f32⟩
  | 12 => ⟨S_, .f32⟩
  | 13 => ⟨S4x4096x1, .f32⟩
  | 14 => ⟨S4x4096x1, .f32⟩
  | 15 => ⟨S4x4096x1, .f32⟩
  | 16 => ⟨S4x4096x1024, .f32⟩
  | 17 => ⟨S4x4096x1024, .f32⟩
  | 18 => ⟨S1x1x1024, .f32⟩
  | 19 => ⟨S4x4096x1024, .f32⟩
  | 20 => ⟨S4x4096x1024, .f32⟩
  | 21 => ⟨S4x1x1024, .f32⟩
  | 22 => ⟨S_, .f32⟩
  | 23 => ⟨S4x1x1024, .f32⟩
  | 24 => ⟨S4x1x1024, .f32⟩
  | 25 => ⟨S4x4096x1024, .f32⟩
  | 26 => ⟨S4x4096x1024, .f32⟩
  | 27 => ⟨S4x1x1024, .f32⟩
  | 28 => ⟨S4x4096x1024, .f32⟩
  | 29 => ⟨S4x4096x1024, .f32⟩
  | 30 => ⟨S4x4096x5144, .f32⟩
  | 31 => ⟨S4x4096x512, .f32⟩
  | 32 => ⟨S4x4096x256, .f32⟩
  | 33 => ⟨S4x4096x256, .f32⟩
  | 34 => ⟨S4x4096x256, .f32⟩
  | 35 => ⟨S4x4096x24, .f32⟩
  | 36 => ⟨S4x4096x512, .f32⟩
  | 37 => ⟨S4x4096x512, .f32⟩
  | 38 => ⟨S4x4096x256, .f32⟩
  | 39 => ⟨S4x4096x512, .f32⟩
  | 40 => ⟨S4x4096x2048, .f32⟩
  | 41 => ⟨S4x4096x128, .f32⟩
  | 42 => ⟨S4x4096x128, .f32⟩
  | 43 => ⟨S4x4096x128, .f32⟩
  | 44 => ⟨S4x4096x128, .f32⟩
  | 45 => ⟨S4x4096x128, .f32⟩
  | 46 => ⟨S4x4096x128, .f32⟩
  | 47 => ⟨S4x4096x128, .f32⟩
  | 48 => ⟨S4x4096x128, .f32⟩
  | 49 => ⟨S4x4096x2x4x64, .f32⟩
  | 50 => ⟨S4x2x4x4096x64, .f32⟩
  | 51 => ⟨S_, .f32⟩
  | 52 => ⟨S4x2x4x4096x64, .f32⟩
  | 53 => ⟨S4x2x4x4096x64, .f32⟩
  | 54 => ⟨S4x2x4x4096x64, .bf16⟩
  | 55 => ⟨S4x4096x2x4x64, .f32⟩
  | 56 => ⟨S4x2x4x4096x64, .f32⟩
  | 57 => ⟨S_, .f32⟩
  | 58 => ⟨S4x2x4x4096x64, .f32⟩
  | 59 => ⟨S4x2x4x4096x64, .f32⟩
  | 60 => ⟨S4x2x4x4096x64, .bf16⟩
  | 61 => ⟨S4x4096x2x64, .f32⟩
  | 62 => ⟨S4x2x4096x64, .f32⟩
  | 63 => ⟨S4x2x4096x64, .bf16⟩
  | 64 => ⟨S4x4096x2x64, .f32⟩
  | 65 => ⟨S4x2x4096x64, .f32⟩
  | 66 => ⟨S4x2x4096x64, .bf16⟩
  | 67 => ⟨S4x4096x2x64, .f32⟩
  | 68 => ⟨S4x2x4096x64, .f32⟩
  | 69 => ⟨S4x2x4096x64, .bf16⟩
  | 70 => ⟨S4x4096x2x64, .f32⟩
  | 71 => ⟨S4x2x4096x64, .f32⟩
  | 72 => ⟨S4x2x64x4096, .f32⟩
  | 73 => ⟨S4x2x64x4096, .bf16⟩
  | 74 => ⟨S4x4096x2x64, .f32⟩
  | 75 => ⟨S4x2x4096x64, .f32⟩
  | 76 => ⟨S4x2x4096x64, .bf16⟩
  | 77 => ⟨S4x4096x2x64, .f32⟩
  | 78 => ⟨S4x2x4096x64, .f32⟩
  | 79 => ⟨S4x2x64x4096, .f32⟩
  | 80 => ⟨S4x2x64x4096, .bf16⟩
  | 81 => ⟨S4x4096x2x64, .f32⟩
  | 82 => ⟨S4x2x4096x64, .f32⟩
  | 83 => ⟨S4x2x4096x64, .bf16⟩
  | 84 => ⟨S4x4096x2x64, .f32⟩
  | 85 => ⟨S4x2x4096x64, .f32⟩
  | 86 => ⟨S4x2x64x4096, .f32⟩
  | 87 => ⟨S4x2x64x4096, .bf16⟩
  | 88 => ⟨S4x4096x512, .f32⟩
  | 89 => ⟨S4x4096x512, .f32⟩
  | 90 => ⟨S_, .f32⟩
  | 91 => ⟨S4x4096x512, .f32⟩
  | 92 => ⟨S4x4096x512, .f32⟩
  | 93 => ⟨S_, .f32⟩
  | 94 => ⟨S4x4096x512, .f32⟩
  | 95 => ⟨S4x4096x512, .f32⟩
  | 96 => ⟨S4x4096x512, .f32⟩
  | 97 => ⟨S4x4096x512, .bf16⟩
  | 98 => ⟨S4x4096x512, .f32⟩
  | 99 => ⟨S4x4096x512, .f32⟩
  | 100 => ⟨S_, .f32⟩
  | 101 => ⟨S4x4096x512, .f32⟩
  | 102 => ⟨S4x4096x512, .f32⟩
  | 103 => ⟨S_, .f32⟩
  | 104 => ⟨S4x4096x512, .f32⟩
  | 105 => ⟨S4x4096x512, .f32⟩
  | 106 => ⟨S4x4096x512, .f32⟩
  | 107 => ⟨S4x4096x512, .bf16⟩
  | 108 => ⟨S4x4096x1024, .f32⟩
  | 109 => ⟨S4x4096x1024, .f32⟩
  | 110 => ⟨S4x4096x1024, .f32⟩
  | 111 => ⟨S_, .f32⟩
  | 112 => ⟨S4x4096x1024, .f32⟩
  | 113 => ⟨S4x4096x1024, .f32⟩
  | 114 => ⟨S_, .f32⟩
  | 115 => ⟨S4x4096x1024, .f32⟩
  | 116 => ⟨S4x4096x1024, .f32⟩
  | 117 => ⟨S4x4096x1024, .bf16⟩
  | 118 => ⟨S4x4096x1024, .f32⟩
  | 119 => ⟨S4x4096x1024, .f32⟩
  | 120 => ⟨S4x4096x1024, .f32⟩
  | 121 => ⟨S_, .f32⟩
  | 122 => ⟨S4x4096x1024, .f32⟩
  | 123 => ⟨S4x4096x1024, .f32⟩
  | 124 => ⟨S_, .f32⟩
  | 125 => ⟨S4x4096x1024, .f32⟩
  | 126 => ⟨S4x4096x1024, .f32⟩
  | 127 => ⟨S4x4096x1024, .bf16⟩
  | _ => ⟨S4x4096x1024, .f32⟩

abbrev hbmTy0_1 (i : Nat) : BufTy := match i % 128 with
  | 0 => ⟨S4x4096x24, .f32⟩
  | 1 => ⟨S4x4096x24, .f32⟩
  | 2 => ⟨S_, .f32⟩
  | 3 => ⟨S4x4096x24, .f32⟩
  | 4 => ⟨S4x4096x24, .f32⟩
  | 5 => ⟨S_, .f32⟩
  | 6 => ⟨S4x4096x24, .f32⟩
  | 7 => ⟨S4x4096x24, .f32⟩
  | 8 => ⟨S4x24x4096, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_cst_3 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_cst_4 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_call0_v0 : Ref sig .tc := ⟨.hbm, 88, rfl⟩
abbrev main_call0_v1 : Ref sig .tc := ⟨.hbm, 89, rfl⟩
abbrev main_call0_cst : Ref sig .tc := ⟨.hbm, 90, rfl⟩
abbrev main_call0_v2 : Ref sig .tc := ⟨.hbm, 91, rfl⟩
abbrev main_call0_v3 : Ref sig .tc := ⟨.hbm, 92, rfl⟩
abbrev main_call0_cst_0 : Ref sig .tc := ⟨.hbm, 93, rfl⟩
abbrev main_call0_v4 : Ref sig .tc := ⟨.hbm, 94, rfl⟩
abbrev main_call0_v5 : Ref sig .tc := ⟨.hbm, 95, rfl⟩
abbrev main_v77 : Ref sig .tc := ⟨.hbm, 96, rfl⟩
abbrev main_v78 : Ref sig .tc := ⟨.hbm, 97, rfl⟩
abbrev main_call1_v0 : Ref sig .tc := ⟨.hbm, 98, rfl⟩
abbrev main_call1_v1 : Ref sig .tc := ⟨.hbm, 99, rfl⟩
abbrev main_call1_cst : Ref sig .tc := ⟨.hbm, 100, rfl⟩
abbrev main_call1_v2 : Ref sig .tc := ⟨.hbm, 101, rfl⟩
abbrev main_call1_v3 : Ref sig .tc := ⟨.hbm, 102, rfl⟩
abbrev main_call1_cst_0 : Ref sig .tc := ⟨.hbm, 103, rfl⟩
abbrev main_call1_v4 : Ref sig .tc := ⟨.hbm, 104, rfl⟩
abbrev main_call1_v5 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_cst_5 : Ref sig .tc := ⟨.hbm, 111, rfl⟩
abbrev main_v84 : Ref sig .tc := ⟨.hbm, 112, rfl⟩
abbrev main_v85 : Ref sig .tc := ⟨.hbm, 113, rfl⟩
abbrev main_cst_6 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_cst_7 : Ref sig .tc := ⟨.hbm, 121, rfl⟩
abbrev main_v92 : Ref sig .tc := ⟨.hbm, 122, rfl⟩
abbrev main_v93 : Ref sig .tc := ⟨.hbm, 123, rfl⟩
abbrev main_cst_8 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_cst_9 : Ref sig .tc := ⟨.hbm, 130, rfl⟩
abbrev main_v99 : Ref sig .tc := ⟨.hbm, 131, rfl⟩
abbrev main_v100 : Ref sig .tc := ⟨.hbm, 132, rfl⟩
abbrev main_cst_10 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel4.lean ====
abbrev S4x2x4096x64 : Shape := ⟨4, ![4, 2, 4096, 64]⟩
abbrev S32x64 : Shape := ⟨2, ![32, 64]⟩
abbrev S2048x256 : Shape := ⟨2, ![2048, 256]⟩
abbrev S256x64 : Shape := ⟨2, ![256, 64]⟩
abbrev S1x4x2x4096x64 : Shape := ⟨5, ![1, 4, 2, 4096, 64]⟩
abbrev S2x4x2x4096x64 : Shape := ⟨5, ![2, 4, 2, 4096, 64]⟩
abbrev S2x8x256x1024 : Shape := ⟨4, ![2, 8, 256, 1024]⟩
abbrev S1x32x64 : Shape := ⟨3, ![1, 32, 64]⟩
abbrev S2x32x64 : Shape := ⟨3, ![2, 32, 64]⟩
abbrev S2x1x2048 : Shape := ⟨3, ![2, 1, 2048]⟩
abbrev S1x256x64 : Shape := ⟨3, ![1, 256, 64]⟩
abbrev S2x256x64 : Shape := ⟨3, ![2, 256, 64]⟩
abbrev S_ : Shape := ⟨0, ![]⟩
abbrev S2x256x128 : Shape := ⟨3, ![2, 256, 128]⟩
abbrev S1x2048x256 : Shape := ⟨3, ![1, 2048, 256]⟩
abbrev S2x2048x256 : Shape := ⟨3, ![2, 2048, 256]⟩
abbrev S2x8x256x128 : Shape := ⟨4, ![2, 8, 256, 128]⟩
abbrev S2x8x64x256 : Shape := ⟨4, ![2, 8, 64, 256]⟩
abbrev S1x1x256x1024 : Shape := ⟨4, ![1, 1, 256, 1024]⟩
abbrev S1x1x2048 : Shape := ⟨3, ![1, 1, 2048]⟩
abbrev S1x256x128 : Shape := ⟨3, ![1, 256, 128]⟩
abbrev S1x1x256x128 : Shape := ⟨4, ![1, 1, 256, 128]⟩
abbrev S1x1x64x256 : Shape := ⟨4, ![1, 1, 64, 256]⟩
abbrev S256x1024 : Shape := ⟨2, ![256, 1024]⟩
abbrev S1024x256 : Shape := ⟨2, ![1024, 256]⟩
abbrev S256x256 : Shape := ⟨2, ![256, 256]⟩
abbrev S1x2048 : Shape := ⟨2, ![1, 2048]⟩
abbrev S8x2048 : Shape := ⟨2, ![8, 2048]⟩
abbrev S8x256 : Shape := ⟨2, ![8, 256]⟩
abbrev S1x256 : Shape := ⟨2, ![1, 256]⟩
abbrev S256x128 : Shape := ⟨2, ![256, 128]⟩
abbrev S128x256 : Shape := ⟨2, ![128, 256]⟩
abbrev S64x256 : Shape := ⟨2, ![64, 256]⟩
abbrev S1x8x256x128 : Shape := ⟨4, ![1, 8, 256, 128]⟩
abbrev S8x256x128 : Shape := ⟨3, ![8, 256, 128]⟩
abbrev S8x255x64 : Shape := ⟨3, ![8, 255, 64]⟩
abbrev S1x8x64x256 : Shape := ⟨4, ![1, 8, 64, 256]⟩
abbrev S8x64x256 : Shape := ⟨3, ![8, 64, 256]⟩
abbrev S8x64x255 : Shape := ⟨3, ![8, 64, 255]⟩

abbrev nBuf : Space → Nat
  | .hbm => 33
  | .vmem => 12
  | .smem => 0
  | _ => 0

abbrev bufTy : (tb : Table) → Fin (tcTables nBuf tb) → BufTy
  | .hbm, ⟨0, _⟩ => ⟨S4x2x4096x64, .bf16⟩
  | .hbm, ⟨1, _⟩ => ⟨S4x2x4096x64, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S2048x256, .f32⟩
  | .hbm, ⟨6, _⟩ => ⟨S256x64, .f32⟩
  | .hbm, ⟨7, _⟩ => ⟨S256x64, .f32⟩
  | .hbm, ⟨8, _⟩ => ⟨S1x4x2x4096x64, .bf16⟩
  | .hbm, ⟨9, _⟩ => ⟨S1x4x2x4096x64, .bf16⟩
  | .hbm, ⟨10, _⟩ => ⟨S2x4x2x4096x64, .bf16⟩
  | .hbm, ⟨11, _⟩ => ⟨S2x8x256x1024, .bf16⟩
  | .hbm, ⟨12, _⟩ => ⟨S1x32x64, .f32⟩
  | .hbm, ⟨13, _⟩ => ⟨S1x32x64, .f32⟩
  | .hbm, ⟨14, _⟩ => ⟨S2x32x64, .f32⟩
  | .hbm, ⟨15, _⟩ => ⟨S2x1x2048, .f32⟩
  | .hbm, ⟨16, _⟩ => ⟨S1x256x64, .f32⟩
  | .hbm, ⟨17, _⟩ => ⟨S1x256x64, .f32⟩
  | .hbm, ⟨18, _⟩ => ⟨S2x256x64, .f32⟩
  | .hbm, ⟨19, _⟩ => ⟨S_, .i32⟩
  | .hbm, ⟨20, _⟩ => ⟨S_, .f32⟩
  | .hbm, ⟨21, _⟩ => ⟨S2x256x128, .f32⟩
  | .hbm, ⟨22, _⟩ => ⟨S1x2048x256, .f32⟩
  | .hbm, ⟨23, _⟩ => ⟨S1x2048x256, .f32⟩
  | .hbm, ⟨24, _⟩ => ⟨S2x2048x256, .f32⟩
  | .hbm, ⟨25, _⟩ => ⟨S2x8x256x128, .bf16⟩
  | .hbm, ⟨26, _⟩ => ⟨S2x8x64x256, .bf16⟩
  | .hbm, ⟨27, _⟩ => ⟨S1x8x256x128, .bf16⟩
  | .hbm, ⟨28, _⟩ => ⟨S8x256x128, .bf16⟩
  | .hbm, ⟨29, _⟩ => ⟨S8x255x64, .bf16⟩
  | .hbm, ⟨30, _⟩ => ⟨S1x8x64x256, .bf16⟩
  | .hbm, ⟨31, _⟩ => ⟨S8x64x256, .bf16⟩
  | .hbm, ⟨32, _⟩ => ⟨S8x64x255, .bf16⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x2048, .f32⟩
  | .local _ .vmem, ⟨3, _⟩ => ⟨S1x1x2048, .f32⟩
  | .local _ .vmem, ⟨4, _⟩ => ⟨S1x2048x256, .f32⟩
  | .local _ .vmem, ⟨5, _⟩ => ⟨S1x2048x256, .f32⟩
  | .local _ .vmem, ⟨6, _⟩ => ⟨S1x256x128, .f32⟩
  | .local _ .vmem, ⟨7, _⟩ => ⟨S1x256x128, .f32⟩
  | .local _ .vmem, ⟨8, _⟩ => ⟨S1x1x256x128, .bf16⟩
  | .local _ .vmem, ⟨9, _⟩ => ⟨S1x1x256x128, .bf16⟩
  | .local _ .vmem, ⟨10, _⟩ => ⟨S1x1x64x256, .bf16⟩
  | .local _ .vmem, ⟨11, _⟩ => ⟨S1x1x64x256, .bf16⟩
  | _, _ => ⟨S4x2x4096x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c : Ref sig .tc := ⟨.hbm, 19, rfl⟩
abbrev main_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15_0 : Ref sig .tc := ⟨.hbm, 25, rfl⟩
abbrev main_v15_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x64x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S4x2x4096x64 : Shape := ⟨4, ![4, 2, 4096, 64]⟩
abbrev S32x64 : Shape := ⟨2, ![32, 64]⟩
abbrev S2048x256 : Shape := ⟨2, ![2048, 256]⟩
abbrev S256x64 : Shape := ⟨2, ![256, 64]⟩
abbrev S255 : Shape := ⟨1, ![255]⟩
abbrev S255x1 : Shape := ⟨2, ![255, 1]⟩
abbrev S_ : Shape := ⟨0, ![]⟩
abbrev S32 : Shape := ⟨1, ![32]⟩
abbrev S1x32 : Shape := ⟨2, ![1, 32]⟩
abbrev S255x32 : Shape := ⟨2, ![255, 32]⟩
abbrev S255x32x1 : Shape := ⟨3, ![255, 32, 1]⟩
abbrev S4x2x255x32x64 : Shape := ⟨5, ![4, 2, 255, 32, 64]⟩
abbrev S1x1x1x32x64 : Shape := ⟨5, ![1, 1, 1, 32, 64]⟩
abbrev S4x2x255x2048 : Shape := ⟨4, ![4, 2, 255, 2048]⟩
abbrev S4x2x255x256 : Shape := ⟨4, ![4, 2, 255, 256]⟩
abbrev S4x2x255x64 : Shape := ⟨4, ![4, 2, 255, 64]⟩
abbrev S8x255x64 : Shape := ⟨3, ![8, 255, 64]⟩
abbrev S8x64x255 : Shape := ⟨3, ![8, 64, 255]⟩

abbrev nBuf : Space → Nat
  | .hbm => 83
  | .vmem => 0
  | .smem => 0
  | _ => 0

abbrev bufTy : (tb : Table) → Fin (tcTables nBuf tb) → BufTy
  | .hbm, ⟨0, _⟩ => ⟨S4x2x4096x64, .bf16⟩
  | .hbm, ⟨1, _⟩ => ⟨S4x2x4096x64, .bf16⟩
  | .hbm, ⟨2, _⟩ => ⟨S32x64, .f32⟩
  | .hbm, ⟨3, _⟩ => ⟨S32x64, .f32⟩
  | .hbm, ⟨4, _⟩ => ⟨S2048x256, .f32⟩
  | .hbm, ⟨5, _⟩ => ⟨S2048x256, .f32⟩
  | .hbm, ⟨6, _⟩ => ⟨S256x64, .f32⟩
  | .hbm, ⟨7, _⟩ => ⟨S256x64, .f32⟩
  | .hbm, ⟨8, _⟩ => ⟨S255, .i32⟩
  | .hbm, ⟨9, _⟩ => ⟨S255x1, .i32⟩
  | .hbm, ⟨10, _⟩ => ⟨S_, .i32⟩
  | .hbm, ⟨11, _⟩ => ⟨S255x1, .i32⟩
  | .hbm, ⟨12, _⟩ => ⟨S255x1, .i32⟩
  | .hbm, ⟨13, _⟩ => ⟨S32, .i32⟩
  | .hbm, ⟨14, _⟩ => ⟨S1x32, .i32⟩
  | .hbm, ⟨15, _⟩ => ⟨S255x32, .i32⟩
  | .hbm, ⟨16, _⟩ => ⟨S255x32, .i32⟩
  | .hbm, ⟨17, _⟩ => ⟨S255x32, .i32⟩
  | .hbm, ⟨18, _⟩ => ⟨S4x2x4096x64, .f32⟩
  | .hbm, ⟨19, _⟩ => ⟨S_, .i32⟩
  | .hbm, ⟨20, _⟩ => ⟨S255x32, .i32⟩
  | .hbm, ⟨21, _⟩ => ⟨S255x32, .i1⟩
  | .hbm, ⟨22, _⟩ => ⟨S_, .i32⟩
  | .hbm, ⟨23, _⟩ => ⟨S255x32, .i32⟩
  | .hbm, ⟨24, _⟩ => ⟨S255x32, .i32⟩
  | .hbm, ⟨25, _⟩ => ⟨S255x32, .i32⟩
  | .hbm, ⟨26, _⟩ => ⟨S255x32x1, .i32⟩
  | .hbm, ⟨27, _⟩ => ⟨S4x2x255x32x64, .f32⟩
  | .hbm, ⟨28, _⟩ => ⟨S1x1x1x32x64, .f32⟩
  | .hbm, ⟨29, _⟩ => ⟨S4x2x255x32x64, .f32⟩
  | .hbm, ⟨30, _⟩ => ⟨S4x2x255x32x64, .f32⟩
  | .hbm, ⟨31, _⟩ => ⟨S4x2x255x2048, .f32⟩
  | .hbm, ⟨32, _⟩ => ⟨S4x2x255x256, .f32⟩
  | .hbm, ⟨33, _⟩ => ⟨S4x2x255x256, .f32⟩
  | .hbm, ⟨34, _⟩ => ⟨S4x2x255x256, .f32⟩
  | .hbm, ⟨35, _⟩ => ⟨S_, .f32⟩
  | .hbm, ⟨36, _⟩ => ⟨S4x2x255x256, .f32⟩
  | .hbm, ⟨37, _⟩ => ⟨S4x2x255x256, .f32⟩
  | .hbm, ⟨38, _⟩ => ⟨S_, .f32⟩
  | .hbm, ⟨39, _⟩ => ⟨S4x2x255x256, .f32⟩
  | .hbm, ⟨40, _⟩ => ⟨S4x2x255x256, .f32⟩
  | .hbm, ⟨41, _⟩ => ⟨S4x2x255x256, .f32⟩
  | .hbm, ⟨42, _⟩ => ⟨S4x2x255x64, .f32⟩
  | .hbm, ⟨43, _⟩ => ⟨S8x255x64, .f32⟩
  | .hbm, ⟨44, _⟩ => ⟨S8x255x64, .bf16⟩
  | .hbm, ⟨45, _⟩ => ⟨S255, .i32⟩
  | .hbm, ⟨46, _⟩ => ⟨S255x1, .i32⟩
  | .hbm, ⟨47, _⟩ => ⟨S_, .i32⟩
  | .hbm, ⟨48, _⟩ => ⟨S255x1, .i32⟩
  | .hbm, ⟨49, _⟩ => ⟨S255x1, .i32⟩
  | .hbm, ⟨50, _⟩ => ⟨S32, .i32⟩
  | .hbm, ⟨51, _⟩ => ⟨S1x32, .i32⟩
  | .hbm, ⟨52, _⟩ => ⟨S255x32, .i32⟩
  | .hbm, ⟨53, _⟩ => ⟨S255x32, .i32⟩
  | .hbm, ⟨54, _⟩ => ⟨S255x32, .i32⟩
  | .hbm, ⟨55, _⟩ => ⟨S4x2x4096x64, .f32⟩
  | .hbm, ⟨56, _⟩ => ⟨S_, .i32⟩
  | .hbm, ⟨57, _⟩ => ⟨S255x32, .i32⟩
  | .hbm, ⟨58, _⟩ => ⟨S255x32, .i1⟩
  | .hbm, ⟨59, _⟩ => ⟨S_, .i32⟩
  | .hbm, ⟨60, _⟩ => ⟨S255x32, .i32⟩
  | .hbm, ⟨61, _⟩ => ⟨S255x32, .i32⟩
  | .hbm, ⟨62, _⟩ => ⟨S255x32, .i32⟩
  | .hbm, ⟨63, _⟩ => ⟨S255x32x1, .i32⟩
  | .hbm, ⟨64, _⟩ => ⟨S4x2x255x32x64, .f32⟩
  | .hbm, ⟨65, _⟩ => ⟨S1x1x1x32x64, .f32⟩
  | .hbm, ⟨66, _⟩ => ⟨S4x2x255x32x64, .f32⟩
  | .hbm, ⟨67, _⟩ => ⟨S4x2x255x32x64, .f32⟩
  | .hbm, ⟨68, _⟩ => ⟨S4x2x255x2048, .f32⟩
  | .hbm, ⟨69, _⟩ => ⟨S4x2x255x256, .f32⟩
  | .hbm, ⟨70, _⟩ => ⟨S4x2x255x256, .f32⟩
  | .hbm, ⟨71, _⟩ => ⟨S4x2x255x256, .f32⟩
  | .hbm, ⟨72, _⟩ => ⟨S_, .f32⟩
  | .hbm, ⟨73, _⟩ => ⟨S4x2x255x256, .f32⟩
  | .hbm, ⟨74, _⟩ => ⟨S4x2x255x256, .f32⟩
  | .hbm, ⟨75, _⟩ => ⟨S_, .f32⟩
  | .hbm, ⟨76, _⟩ => ⟨S4x2x255x256, .f32⟩
  | .hbm, ⟨77, _⟩ => ⟨S4x2x255x256, .f32⟩
  | .hbm, ⟨78, _⟩ => ⟨S4x2x255x256, .f32⟩
  | .hbm, ⟨79, _⟩ => ⟨S4x2x255x64, .f32⟩
  | .hbm, ⟨80, _⟩ => ⟨S8x255x64, .f32⟩
  | .hbm, ⟨81, _⟩ => ⟨S8x255x64, .bf16⟩
  | .hbm, ⟨82, _⟩ => ⟨S8x64x255, .bf16⟩
  | _, _ => ⟨S4x2x4096x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_c : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_c_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_2 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_3 : Ref sig .tc := ⟨.hbm, 56, rfl⟩
abbrev main_v36 : Ref sig .tc := ⟨.hbm, 57, rfl⟩
abbrev main_v37 : Ref sig .tc := ⟨.hbm, 58, rfl⟩
abbrev main_c_4 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_call1_v0 : Ref sig .tc := ⟨.hbm, 70, rfl⟩
abbrev main_call1_v1 : Ref sig .tc := ⟨.hbm, 71, rfl⟩
abbrev main_call1_cst : Ref sig .tc := ⟨.hbm, 72, rfl⟩
abbrev main_call1_v2 : Ref sig .tc := ⟨.hbm, 73, rfl⟩
abbrev main_call1_v3 : Ref sig .tc := ⟨.hbm, 74, rfl⟩
abbrev main_call1_cst_0 : Ref sig .tc := ⟨.hbm, 75, rfl⟩
abbrev main_call1_v4 : Ref sig .tc := ⟨.hbm, 76, rfl⟩
abbrev main_call1_v5 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== Kernel5.lean ====
abbrev S4x1024 : Shape := ⟨2, ![4, 1024]⟩
abbrev S1024x3072 : Shape := ⟨2, ![1024, 3072]⟩
abbrev S3072 : Shape := ⟨1, ![3072]⟩
abbrev S_ : Shape := ⟨0, ![]⟩
abbrev S8x1024 : Shape := ⟨2, ![8, 1024]⟩
abbrev S1x3072 : Shape := ⟨2, ![1, 3072]⟩
abbrev S8x3072 : Shape := ⟨2, ![8, 3072]⟩
abbrev S1024x1024 : Shape := ⟨2, ![1024, 1024]⟩
abbrev S1x1024 : Shape := ⟨2, ![1, 1024]⟩
abbrev S4x3072 : Shape := ⟨2, ![4, 3072]⟩

abbrev nBuf : Space → Nat
  | .hbm => 12
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S8x1024, .f32⟩
  | .hbm, ⟨6, _⟩ => ⟨S1x3072, .f32⟩
  | .hbm, ⟨7, _⟩ => ⟨S8x3072, .f32⟩
  | .hbm, ⟨8, _⟩ => ⟨S4x3072, .f32⟩
  | .hbm, ⟨9, _⟩ => ⟨S4x1024, .f32⟩
  | .hbm, ⟨10, _⟩ => ⟨S4x1024, .f32⟩
  | .hbm, ⟨11, _⟩ => ⟨S4x1024, .f32⟩
  | .local _ .vmem, ⟨0, _⟩ => ⟨S8x1024, .f32⟩
  | .local _ .vmem, ⟨1, _⟩ => ⟨S1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![3], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S4x1024 : Shape := ⟨2, ![4, 1024]⟩
abbrev S1024x3072 : Shape := ⟨2, ![1024, 3072]⟩
abbrev S3072 : Shape := ⟨1, ![3072]⟩
abbrev S4x3072 : Shape := ⟨2, ![4, 3072]⟩
abbrev S1x3072 : Shape := ⟨2, ![1, 3072]⟩

abbrev nBuf : Space → Nat
  | .hbm => 10
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S1024x3072, .f32⟩
  | .hbm, ⟨2, _⟩ => ⟨S3072, .f32⟩
  | .hbm, ⟨3, _⟩ => ⟨S4x3072, .f32⟩
  | .hbm, ⟨4, _⟩ => ⟨S1x3072, .f32⟩
  | .hbm, ⟨5, _⟩ => ⟨S4x3072, .f32⟩
  | .hbm, ⟨6, _⟩ => ⟨S4x3072, .f32⟩
  | .hbm, ⟨7, _⟩ => ⟨S4x1024, .f32⟩
  | .hbm, ⟨8, _⟩ => ⟨S4x1024, .f32⟩
  | .hbm, ⟨9, _⟩ => ⟨S4x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.Slots.lean ====
module

public import Idealize.ShloMosaic.Lib.Pipeline.FrameBody
public import Idealize.ShloMosaic.Lib.Tactic

@[expose] public section

/-! Loads of a buffer that was written in pieces: a load through the last piece's rectangle reads that piece, and a load
disjoint from the last piece does not see it. -/

namespace Cert.Slots

open Idealize.ShloMosaic

variable {sig : RefSig} {κ : Kind} {sp : Space} {s : Shape} {e : EltTy} {Val : EltTy → Type}

/-- A load disjoint from the last piece reads what was there before it. -/
theorem readAt_skip (v : View sig κ sp s e) (f : v.ty.Contents Val) (p : View.Piece Val s e) (L : List (View.Piece Val s e))
    (B : LoadRect s) (hd : LoadRect.disjAll [p.1] B = true) :
    v.readAt Val B (v.writes Val f (p :: L)) = v.readAt Val B (v.writes Val f L) := by
  have h : v.writes Val f (p :: L) = v.writes Val (v.writes Val f L) [p] := rfl
  rw [h]
  exact View.readAt_writes_of_forall_not_mem v _ [p] B (LoadRect.forall_not_mem_of_disjAll [p] B hd)

/-- A load through the last piece's rectangle reads that piece. -/
theorem readAt_hit [∀ e, Nonempty (Val e)] (v : View sig κ sp s e) (f : v.ty.Contents Val) (r : Rect s) (w : r.shape.Idx → Val e)
    (L : List (View.Piece Val s e)) (hw : LoadRect.within r r.toLoadRect = true) :
    v.readAt Val r.toLoadRect (v.writes Val f (⟨r, w⟩ :: L)) = w :=
  (View.readAt_writes_of_cover v f _ _ fun j => ⟨_, List.mem_cons_self .., LoadRect.idx_mem_of_within hw j⟩).trans
    (View.readCov_cons_toLoadRect v r w L)

end Cert.Slots
-- ==== Proof.KernelIdealLoop.lean ====
module

public import proofs.«01_k».proof.Proof.Gen.KernelIdeal.Frame
public import proofs.«01_k».proof.Proof.Gen.KernelIdeal.Loops
public import Idealize.ShloMosaic.Lib.LoopRemainder
public import proofs.«01_k».proof.Proof.Slots

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- One trip's values: the carried running maximum, denominator and sum, and the scores waiting in the first slot. -/
abbrev St (F : FTy → Type) : Type := (FVec F S1x512 .f32 × FVec F S1x512 .f32 × FVec F S64x512 .f32) × Vec F S1x512x512 .f32

/-- The slot of the score buffer that a pair of tiles begins with. -/
abbrev slot0 : Rect S4x512x512 := Rect.unit (s := S4x512x512) ![0, 0, 0] S1x512x512.size inb_S4x512x512_S1x512x512_0_0_0

/-- What one trip over a pair of key tiles does to the carried values and the waiting scores. -/
def trip (i : grid0.Coords) (q : FVec F S512x256 .bf16) (x8 : Vec F S1x1x4096x128 .bf16) (x9 : Vec F S1x1x64x4096 .bf16)
    (x14 : Vec F S4096x128 .bf16) (k : Fin (k0_t1_loop i).trips) (st : St F) : St F :=
  let s1 : Vec F S1x512x512 .f32 := k0_pay2 q
    (View.ld x8 (Rect.unit (s := S1x1x4096x128) (k0_off12 i k 1#32) S1x1x512x128.size (k0_off12_inb i k 0)))
    (View.ld x14 (Rect.unit (s := S4096x128) (k0_off13 i k 1#32) S512x128.size (k0_off13_inb i k 0)))
  let s2 : Vec F S1x512x512 .f32 := k0_pay11 q
    (View.ld x8 (Rect.unit (s := S1x1x4096x128) (k0_off12 i k 2#32) S1x1x512x128.size (k0_off12_inb i k 1)))
    (View.ld x14 (Rect.unit (s := S4096x128) (k0_off13 i k 2#32) S512x128.size (k0_off13_inb i k 1)))
  let v1 := View.ld x9 (Rect.unit (s := S1x1x64x4096) (k0_off14 i k) S1x1x64x512.size (k0_off14_inb i k))
  let v2 := View.ld x9 (Rect.unit (s := S1x1x64x4096) (k0_off15 i k) S1x1x64x512.size (k0_off15_inb i k))
  let m1 := k0_pay4 st.1.1 st.2
  ((k0_pay13 m1 s1, k0_pay16 m1 (k0_pay7 st.1.1 st.1.2.1 st.2) s1,
    k0_pay796 (k0_pay17 m1 (k0_pay8 st.1.1 st.1.2.2 st.2) (k0_pay9 v1) (k0_pay10 st.1.1 st.2) (constant S64x512 .f32 0x00000000#32) s1)
      (k0_pay18 v2) (k0_pay19 m1 s1)), s2)

/-- The values after the first `k` trips. -/
@[reducible] def trips (i : grid0.Coords) (q : FVec F S512x256 .bf16) (x8 : Vec F S1x1x4096x128 .bf16) (x9 : Vec F S1x1x64x4096 .bf16)
    (x14 : Vec F S4096x128 .bf16) (st : St F) : ℕ → St F
  | 0 => st
  | k + 1 => if h : k < (k0_t1_loop i).trips then trip i q x8 x9 x14 ⟨k, h⟩ (trips i q x8 x9 x14 st k) else trips i q x8 x9 x14 st k

theorem trips_succ (i : grid0.Coords) (q : FVec F S512x256 .bf16) (x8 : Vec F S1x1x4096x128 .bf16) (x9 : Vec F S1x1x64x4096 .bf16)
    (x14 : Vec F S4096x128 .bf16) (st : St F) (k : Fin (k0_t1_loop i).trips) :
    trips i q x8 x9 x14 st (k.val + 1) = trip i q x8 x9 x14 k (trips i q x8 x9 x14 st k.val) := by
  exact dif_pos k.isLt

/-- One trip of the loop over pairs of key tiles, run. -/
theorem trip_run (c : Dev nD) (i : grid0.Coords) (arg3 : Memref sig .tc .smem S8 .f32) (harg3 : arg3.IsWhole) (arg4 : Memref sig .tc .vmem S1x1x4x128x128 .bf16) (harg4 : arg4.IsWhole) (arg5 : Memref sig .tc .vmem S1x1x4x128x128 .bf16) (harg5 : arg5.IsWhole) (arg6 : Memref sig .tc .vmem S1x256x128 .bf16) (harg6 : arg6.IsWhole) (arg7 : Memref sig .tc .vmem S1x64x256 .bf16) (harg7 : arg7.IsWhole) (arg8 : Memref sig .tc .vmem S1x1x4096x128 .bf16) (harg8 : arg8.IsWhole) (arg9 : Memref sig .tc .vmem S1x1x64x4096 .bf16) (harg9 : arg9.IsWhole) (arg10 : Memref sig .tc .vmem S1x1x4608x128 .bf16) (harg10 : arg10.IsWhole) (arg11 : Memref sig .tc .vmem S1x1x64x4608 .bf16) (harg11 : arg11.IsWhole) (arg12 : Memref sig .tc .vmem S1x1x4224x128 .bf16) (harg12 : arg12.IsWhole) (arg13 : Memref sig .tc .vmem S1x1x64x4224 .bf16) (harg13 : arg13.IsWhole) (arg14 : Memref sig .tc .vmem S4096x128 .bf16) (harg14 : arg14.IsWhole) (arg15 : Memref sig .tc .vmem S1x32x128 .f32) (harg15 : arg15.IsWhole) (arg16 : Memref sig .tc .vmem S1x128x256 .bf16) (harg16 : arg16.IsWhole) (arg17 : Memref sig .tc .vmem S1x128x256 .bf16) (harg17 : arg17.IsWhole) (arg18 : Memref sig .tc .vmem S1x128x256 .bf16) (harg18 : arg18.IsWhole) (arg19 : Memref sig .tc .vmem S1x128x256 .bf16) (harg19 : arg19.IsWhole) (arg20 : Memref sig .tc .vmem S4x512x512 .f32) (harg20 : arg20.IsWhole)
    (arg1 : BitVec 32) (v114 : FVec F S64x512 .f32) (v3435 : FVec F S512x256 .bf16) (v3627 : FVec F S64x512 .f32) (v3692 : FVec F S1x512 .f32) (v3701 : FVec F S1x512 .f32) (v3709 : FVec F S64x512 .f32) (c0_i32_1421 : BitVec 32) (v3710 : BitVec 32) (c1_i32_1422 : BitVec 32)
    (X8 : BufTy.Contents (Elt F) arg8.view.ty) (X9 : BufTy.Contents (Elt F) arg9.view.ty) (X14 : BufTy.Contents (Elt F) arg14.view.ty)
    (k : Fin (k0_t1_loop i).trips) (E : Set ℕ) (acc : FVec F S1x512 .f32 × FVec F S1x512 .f32 × FVec F S64x512 .f32) (f : BufTy.Contents (Elt F) arg20.view.ty) :
    (iprop((arg8.view.loc (c : Thread nD τ) ↦[arg8.view.set]{fullShare} X8) ∗ (arg9.view.loc (c : Thread nD τ) ↦[arg9.view.set]{fullShare} X9)
        ∗ (arg14.view.loc (c : Thread nD τ) ↦[arg14.view.set]{fullShare} X14) ∗ (arg20.view.loc (c : Thread nD τ) ↦[arg20.view.set]{fullShare} f)) : sProp 𝕄)
      ⊢ wp Idealize.ShloMosaic.frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v114 v3435 v3627 v3692 v3701 v3709 c0_i32_1421 v3710 c1_i32_1422 k acc)
        (fun yld => iprop((arg8.view.loc (c : Thread nD τ) ↦[arg8.view.set]{fullShare} X8) ∗ (arg9.view.loc (c : Thread nD τ) ↦[arg9.view.set]{fullShare} X9)
          ∗ (arg14.view.loc (c : Thread nD τ) ↦[arg14.view.set]{fullShare} X14)
          ∗ (∃ f', (arg20.view.loc (c : Thread nD τ) ↦[arg20.view.set]{fullShare} f')
            ∗ ⌜(yld, arg20.view.readAt (Elt F) slot0.toLoadRect f')
                = trip i v3435 (arg8.view.read (Elt F) X8) (arg9.view.read (Elt F) X9) (arg14.view.read (Elt F) X14) k (acc, arg20.view.readAt (Elt F) slot0.toLoadRect f)⌝))) := by
  unfold k0_t1_body
  simp only [k0_part1_eq_skeleton, k0_part2_eq_skeleton]
  iintro ⟨H8, H9, H14, H20⟩
  sl_exec
  sl_step
  isplitl [H8]; · iexact H8
  isplitl [H9]; · iexact H9
  isplitl [H14]; · iexact H14
  iexists _
  isplitl [H20]; · iexact H20
  ipureintro
  refine Prod.ext ?_ ?_
  · have e : trip_run.sl.v3906 i arg8 arg14 arg20 v3435 X8 X14 k = _ :=
      (Cert.Slots.readAt_skip arg20.view arg20.view.junk _ _ _ (by rfl)).trans (Cert.Slots.readAt_hit arg20.view _ _ _ _ (by rfl))
    unfold trip_run.sl.r_5 trip_run.sl.r_6 trip_run.sl.r_7 trip_run.sl.r_9
    rw [e]
    rfl
  · exact Cert.Slots.readAt_hit arg20.view f _ _ _ (by rfl)

set_option warn.classDefReducibility false in
/-- The loop over pairs of key tiles: the carried values and the waiting scores before a trip are those of `trips`. -/
@[sl_loop] def loopInv1 (c : Dev nD) (E : Set ℕ) (i : grid0.Coords) (arg3 : Memref sig .tc .smem S8 .f32) (harg3 : arg3.IsWhole) (arg4 : Memref sig .tc .vmem S1x1x4x128x128 .bf16) (harg4 : arg4.IsWhole) (arg5 : Memref sig .tc .vmem S1x1x4x128x128 .bf16) (harg5 : arg5.IsWhole) (arg6 : Memref sig .tc .vmem S1x256x128 .bf16) (harg6 : arg6.IsWhole) (arg7 : Memref sig .tc .vmem S1x64x256 .bf16) (harg7 : arg7.IsWhole) (arg8 : Memref sig .tc .vmem S1x1x4096x128 .bf16) (harg8 : arg8.IsWhole) (arg9 : Memref sig .tc .vmem S1x1x64x4096 .bf16) (harg9 : arg9.IsWhole) (arg10 : Memref sig .tc .vmem S1x1x4608x128 .bf16) (harg10 : arg10.IsWhole) (arg11 : Memref sig .tc .vmem S1x1x64x4608 .bf16) (harg11 : arg11.IsWhole) (arg12 : Memref sig .tc .vmem S1x1x4224x128 .bf16) (harg12 : arg12.IsWhole) (arg13 : Memref sig .tc .vmem S1x1x64x4224 .bf16) (harg13 : arg13.IsWhole) (arg14 : Memref sig .tc .vmem S4096x128 .bf16) (harg14 : arg14.IsWhole) (arg15 : Memref sig .tc .vmem S1x32x128 .f32) (harg15 : arg15.IsWhole) (arg16 : Memref sig .tc .vmem S1x128x256 .bf16) (harg16 : arg16.IsWhole) (arg17 : Memref sig .tc .vmem S1x128x256 .bf16) (harg17 : arg17.IsWhole) (arg18 : Memref sig .tc .vmem S1x128x256 .bf16) (harg18 : arg18.IsWhole) (arg19 : Memref sig .tc .vmem S1x128x256 .bf16) (harg19 : arg19.IsWhole) (arg20 : Memref sig .tc .vmem S4x512x512 .f32) (harg20 : arg20.IsWhole)
    (v3435 : FVec F S512x256 .bf16)
    (X8 : BufTy.Contents (Elt F) arg8.view.ty) (X9 : BufTy.Contents (Elt F) arg9.view.ty) (X14 : BufTy.Contents (Elt F) arg14.view.ty)
    (G : BufTy.Contents (Elt F) arg20.view.ty) (init : FVec F S1x512 .f32 × FVec F S1x512 .f32 × FVec F S64x512 .f32) :
    Gen.LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 init.2.2 v3435 init.2.2 init.1 init.2.1 init.2.2 0#32 0#32 0#32 init where
  inv k acc := iprop((arg8.view.loc (c : Thread nD τ) ↦[arg8.view.set]{fullShare} X8) ∗ (arg9.view.loc (c : Thread nD τ) ↦[arg9.view.set]{fullShare} X9)
      ∗ (arg14.view.loc (c : Thread nD τ) ↦[arg14.view.set]{fullShare} X14)
      ∗ (∃ f, (arg20.view.loc (c : Thread nD τ) ↦[arg20.view.set]{fullShare} f)
        ∗ ⌜(acc, arg20.view.readAt (Elt F) slot0.toLoadRect f)
            = trips i v3435 (arg8.view.read (Elt F) X8) (arg9.view.read (Elt F) X9) (arg14.view.read (Elt F) X14) (init, arg20.view.readAt (Elt F) slot0.toLoadRect G) k⌝))
  step k acc := by
    iintro ⟨H8, H9, H14, ⟨%f, H20, %h⟩⟩
    iapply (wp_wand_r Idealize.ShloMosaic.frame (wpE (defs₀ (F := F)) Variants.none (c : Thread nD τ) none) E)
    isplitl [H8 H9 H14 H20]
    · iapply (trip_run (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 init.2.2 v3435 init.2.2 init.1 init.2.1 init.2.2 0#32 0#32 0#32 X8 X9 X14 k E acc f)
      isplitl [H8]; · iexact H8
      isplitl [H9]; · iexact H9
      isplitl [H14]; · iexact H14
      iexact H20
    · iintro %yld ⟨H8, H9, H14, ⟨%f', H20, %h'⟩⟩
      isplitl [H8]; · iexact H8
      isplitl [H9]; · iexact H9
      isplitl [H14]; · iexact H14
      iexists f'
      isplitl [H20]; · iexact H20
      ipureintro
      rw [h', h, trips_succ]

set_option warn.classDefReducibility false in
/-- The remainder loop that stands behind it makes no trip. -/
@[sl_loop] def loopInv2 (c : Dev nD) (E : Set ℕ) (i : grid0.Coords) (arg3 : Memref sig .tc .smem S8 .f32) (harg3 : arg3.IsWhole) (arg4 : Memref sig .tc .vmem S1x1x4x128x128 .bf16) (harg4 : arg4.IsWhole) (arg5 : Memref sig .tc .vmem S1x1x4x128x128 .bf16) (harg5 : arg5.IsWhole) (arg6 : Memref sig .tc .vmem S1x256x128 .bf16) (harg6 : arg6.IsWhole) (arg7 : Memref sig .tc .vmem S1x64x256 .bf16) (harg7 : arg7.IsWhole) (arg8 : Memref sig .tc .vmem S1x1x4096x128 .bf16) (harg8 : arg8.IsWhole) (arg9 : Memref sig .tc .vmem S1x1x64x4096 .bf16) (harg9 : arg9.IsWhole) (arg10 : Memref sig .tc .vmem S1x1x4608x128 .bf16) (harg10 : arg10.IsWhole) (arg11 : Memref sig .tc .vmem S1x1x64x4608 .bf16) (harg11 : arg11.IsWhole) (arg12 : Memref sig .tc .vmem S1x1x4224x128 .bf16) (harg12 : arg12.IsWhole) (arg13 : Memref sig .tc .vmem S1x1x64x4224 .bf16) (harg13 : arg13.IsWhole) (arg14 : Memref sig .tc .vmem S4096x128 .bf16) (harg14 : arg14.IsWhole) (arg15 : Memref sig .tc .vmem S1x32x128 .f32) (harg15 : arg15.IsWhole) (arg16 : Memref sig .tc .vmem S1x128x256 .bf16) (harg16 : arg16.IsWhole) (arg17 : Memref sig .tc .vmem S1x128x256 .bf16) (harg17 : arg17.IsWhole) (arg18 : Memref sig .tc .vmem S1x128x256 .bf16) (harg18 : arg18.IsWhole) (arg19 : Memref sig .tc .vmem S1x128x256 .bf16) (harg19 : arg19.IsWhole) (arg20 : Memref sig .tc .vmem S4x512x512 .f32) (harg20 : arg20.IsWhole)
    (v3435 : FVec F S512x256 .bf16)
    (init : FVec F S1x512 .f32 × FVec F S1x512 .f32 × FVec F S64x512 .f32) :
    Gen.LoopInvTy_k0_t2 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 0#32 init.2.2 v3435 init.2.2 init.1 init.2.1 init.2.2 0#32 0#32 0#32 0#32 init where
  inv _ acc := iprop(⌜acc = init⌝)
  step k _ := (Scf.rem_no_trip _ _ k).elim

end Cert.KernelIdeal.Body
-- ==== Proof.KernelIdealFrame.lean ====
/-
  The frame of `KernelIdeal`: one run of the body with every load and store, the two loops by their hand-written
  invariants (KernelIdealLoop), and the launch over the grid.  The gated sparse-attention result is left unnamed; the sliding-window result is named, `outB`.
-/
module

public import proofs.«01_k».proof.Proof.KernelIdealLoop
public import Idealize.ShloMosaic.Lib.Pipeline.Frame

@[expose] public section

set_option maxRecDepth 65536

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F] [Named F]

local notation "𝕄" => MT nD τ sig Unit (Elt F) ℕ (UR sig nD τ) ℕ

/-! ## What the body leaves in the sliding-window result -/

/-- The whole block of a gate, of a result. -/
abbrev rG : Rect S1x128x256 := Rect.unit ![0, 0, 0] S1x128x256.size inb_S1x128x256_S1x128x256_0_0_0
/-- The whole block of the queries. -/
abbrev rQ : Rect S1x1x4x128x128 := Rect.unit ![0, 0, 0, 0, 0] S1x1x4x128x128.size inb_S1x1x4x128x128_S1x1x4x128x128_0_0_0_0_0

/-- The first query row of the block at the grid point. -/
abbrev row0 (i : grid0.Coords) : BitVec 32 := Scalar.muli (BitVec.ofNat 32 (i 2).val) 128#32
/-- The head group of the grid point. -/
abbrev grp (i : grid0.Coords) : BitVec 32 := BitVec.ofNat 32 (i 1).val
/-- The columns' numbers. -/
abbrev cols : IVec S1x128 32 := iota .tc S1x128 32 [1] iota_S1x128_d1_w32
/-- The sink of the `r`-th head of the group, as the body reads it. -/
abbrev sink (i : grid0.Coords) (x3 : Vec F S8 .f32) (r : Fin 4) : Elt F .f32 :=
  View.ld x3 (Rect.unit (s := S8) (k0_off7 i (BitVec.ofNat 32 r.val)) S1.size (k0_off7_inb i r)) (Shape.Idx.first (show 0 < S1.numel by rw [numel1_S1]; decide))

/-- The scores of the block: 256 keys by 512 rows (4 heads of 128 queries). -/
abbrev scoresB (i : grid0.Coords) (x5 : Vec F S1x1x4x128x128 .bf16) (x12 : Vec F S1x1x4224x128 .bf16) : FVec F S256x512 .f32 :=
  k0_pay40 (View.ld x5 rQ) (View.ld x12 (Rect.unit (s := S1x1x4224x128) (k0_off1 i) S1x1x256x128.size (k0_off1_inb i)))

/-- The attention of the block before its gate, transposed: 64 dimensions by 512 rows. -/
abbrev attB (i : grid0.Coords) (x3 : Vec F S8 .f32) (x5 : Vec F S1x1x4x128x128 .bf16) (x12 : Vec F S1x1x4224x128 .bf16) (x13 : Vec F S1x1x64x4224 .bf16) : FVec F S64x512 .f32 :=
  k0_pay774 (grp i) (scoresB i x5 x12) (k0_pay770 (row0 i) cols) (k0_pay771 (grp i) (row0 i) cols (sink i x3 0)) (k0_pay772 (grp i) (row0 i) cols (sink i x3 1))
    (k0_pay773 (grp i) (row0 i) cols (sink i x3 2)) (sink i x3 3) (View.ld x13 (Rect.unit (s := S1x1x64x4224) (k0_off8 i) S1x1x64x256.size (k0_off8_inb i)))

/-- The result block: the attention, its heads side by side, times the gate. -/
def outB (i : grid0.Coords) (x3 : Vec F S8 .f32) (x5 : Vec F S1x1x4x128x128 .bf16) (x12 : Vec F S1x1x4224x128 .bf16) (x13 : Vec F S1x1x64x4224 .bf16) (x17 : Vec F S1x128x256 .bf16) : Vec F S1x128x256 .bf16 :=
  View.canon [⟨rG, k0_pay777 (attB i x3 x5 x12 x13)
    (k0_pay775 (grp i) (scoresB i x5 x12) (k0_pay770 (row0 i) cols) (k0_pay771 (grp i) (row0 i) cols (sink i x3 0)) (k0_pay772 (grp i) (row0 i) cols (sink i x3 1))
      (k0_pay773 (grp i) (row0 i) cols (sink i x3 2)) (sink i x3 3) (View.ld x13 (Rect.unit (s := S1x1x64x4224) (k0_off8 i) S1x1x64x256.size (k0_off8_inb i))))
    (k0_pay776 (grp i) (scoresB i x5 x12) (k0_pay770 (row0 i) cols) (k0_pay771 (grp i) (row0 i) cols (sink i x3 0)) (k0_pay772 (grp i) (row0 i) cols (sink i x3 1))
      (k0_pay773 (grp i) (row0 i) cols (sink i x3 2)) (sink i x3 3) (View.ld x13 (Rect.unit (s := S1x1x64x4224) (k0_off8 i) S1x1x64x256.size (k0_off8_inb i))))
    (View.ld x17 rG)⟩]

/-- The one store covers the block. -/
theorem coverB (p0 : Vec F S1x128x256 .bf16) (y : S1x128x256.Idx) :
    ∃ pc ∈ ([⟨rG, p0⟩] : List (View.Piece (Elt F) S1x128x256 .bf16)), y ∈ pc.1.set :=
  View.cover_of_tiled [⟨rG, p0⟩] S1x128x256.size (by rfl) y

/-! ## The body's triple -/

set_option maxHeartbeats 8000000 in
/-- The body at a grid point, the inputs' memrefs holding `x3 … x17` and the results' and the scratch holding anything,
    runs to its return with the inputs as they were, the sliding-window result holding `outB` of them. -/
theorem sound_kernel (c : Dev nD) (E : Set ℕ) (i : grid0.Coords) (arg3 : Memref sig .tc .smem S8 .f32) (harg3 : arg3.IsWhole) (arg4 : Memref sig .tc .vmem S1x1x4x128x128 .bf16) (harg4 : arg4.IsWhole) (arg5 : Memref sig .tc .vmem S1x1x4x128x128 .bf16) (harg5 : arg5.IsWhole) (arg6 : Memref sig .tc .vmem S1x256x128 .bf16) (harg6 : arg6.IsWhole) (arg7 : Memref sig .tc .vmem S1x64x256 .bf16) (harg7 : arg7.IsWhole) (arg8 : Memref sig .tc .vmem S1x1x4096x128 .bf16) (harg8 : arg8.IsWhole) (arg9 : Memref sig .tc .vmem S1x1x64x4096 .bf16) (harg9 : arg9.IsWhole) (arg10 : Memref sig .tc .vmem S1x1x4608x128 .bf16) (harg10 : arg10.IsWhole) (arg11 : Memref sig .tc .vmem S1x1x64x4608 .bf16) (harg11 : arg11.IsWhole) (arg12 : Memref sig .tc .vmem S1x1x4224x128 .bf16) (harg12 : arg12.IsWhole) (arg13 : Memref sig .tc .vmem S1x1x64x4224 .bf16) (harg13 : arg13.IsWhole) (arg14 : Memref sig .tc .vmem S4096x128 .bf16) (harg14 : arg14.IsWhole) (arg15 : Memref sig .tc .vmem S1x32x128 .f32) (harg15 : arg15.IsWhole) (arg16 : Memref sig .tc .vmem S1x128x256 .bf16) (harg16 : arg16.IsWhole) (arg17 : Memref sig .tc .vmem S1x128x256 .bf16) (harg17 : arg17.IsWhole) (arg18 : Memref sig .tc .vmem S1x128x256 .bf16) (harg18 : arg18.IsWhole) (arg19 : Memref sig .tc .vmem S1x128x256 .bf16) (harg19 : arg19.IsWhole) (arg20 : Memref sig .tc .vmem S4x512x512 .f32) (harg20 : arg20.IsWhole) (x3 : Vec F S8 .f32) (x4 : Vec F S1x1x4x128x128 .bf16) (x5 : Vec F S1x1x4x128x128 .bf16) (x6 : Vec F S1x256x128 .bf16) (x7 : Vec F S1x64x256 .bf16) (x8 : Vec F S1x1x4096x128 .bf16) (x9 : Vec F S1x1x64x4096 .bf16) (x10 : Vec F S1x1x4608x128 .bf16) (x11 : Vec F S1x1x64x4608 .bf16) (x12 : Vec F S1x1x4224x128 .bf16) (x13 : Vec F S1x1x64x4224 .bf16) (x14 : Vec F S4096x128 .bf16) (x15 : Vec F S1x32x128 .f32) (x16 : Vec F S1x128x256 .bf16) (x17 : Vec F S1x128x256 .bf16) (K : PUnit → sProp 𝕄) :
    (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ (∃ d, owns (c : Thread nD τ) arg19 fullShare d) ∗ (∃ d, owns (c : Thread nD τ) arg20 fullShare d)
      ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ d, owns (c : Thread nD τ) arg18 fullShare d) ∗ owns (c : Thread nD τ) arg19 fullShare (outB i x3 x5 x12 x13 x17) ∗ (∃ d, owns (c : Thread nD τ) arg20 fullShare d)) -∗ K ⟨⟩)) : sProp 𝕄)
    ⊢ wp Idealize.ShloMosaic.frame (wpE (defs₀ (F := F)) Variants.none c none) E (cc0_mixers i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_mixers_eq_skeleton]; unfold cc0_mixers_skel
  unfold owns
  iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%d18, %f18, -, H18⟩, ⟨%d19, %f19, -, H19⟩, ⟨%d20, %f20, -, H20⟩, Hk⟩
  subst hf3 hf4 hf5 hf6 hf7 hf8 hf9 hf10 hf11 hf12 hf13 hf14 hf15 hf16 hf17
  sl_exec_parts
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists _, _; isplitr; swap; · iexact H18
    ipureintro; rfl
  isplitl [H19]
  · iexists _; isplitr
    swap; · iexact H19
    ipureintro
    exact View.read_writes_eq_canon _ _ _ (coverB _)
  iexists _, _; isplitr; swap; · iexact H20
  ipureintro; rfl

/-! ## The pipeline's proof data -/

variable [∀ e, Nonempty (Elt F e)] (m : (ℓ : Loc nD τ sig) → Buf (Elt F) ℓ) (ρ : Dev nD → PrngReg)

/-- The windows of which nothing is said: the sparse-attention result. -/
def forgets : Fin 17 → Bool := fun w => w == 15

/-- The proof data on core `c`: the arrays as the region finds them, each input's buffer at its block after the body, the sliding-window result at `outB` of the blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => Pipeline.Dat.unnamed (cfg := cfg0) 15 t
    | ⟨16, _⟩ => outB (grid0.coords t) (iblk m c 0 t) (iblk m c 2 t) (iblk m c 9 t) (iblk m c 10 t) (iblk m c 14 t)
    | ⟨n + 17, h⟩ => absurd (show n + 17 < 17 from h) (Nat.not_lt.mpr (Nat.le_add_left 17 n))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_16 (c : Dev nD) (t : Fin cfg0.N) : (dats m 0 c).after 16 t = outB (grid0.coords t) (iblk m c 0 t) (iblk m c 2 t) (iblk m c 9 t) (iblk m c 10 t) (iblk m c 14 t) := by dsimp only [dats]

theorem before0_0 (c : Dev nD) (t : Fin cfg0.N) (d) : (dats m 0 c).before 0 t d = iblk m c 0 t := before0_0_of m (dats m 0 c) (A_eq m c 0) (after0_0 m c) t d
theorem before0_1 (c : Dev nD) (t : Fin cfg0.N) (d) : (dats m 0 c).before 1 t d = iblk m c 1 t := before0_1_of m (dats m 0 c) (A_eq m c 1) (after0_1 m c) t d
theorem before0_2 (c : Dev nD) (t : Fin cfg0.N) (d) : (dats m 0 c).before 2 t d = iblk m c 2 t := before0_2_of m (dats m 0 c) (A_eq m c 2) (after0_2 m c) t d
theorem before0_3 (c : Dev nD) (t : Fin cfg0.N) (d) : (dats m 0 c).before 3 t d = iblk m c 3 t := before0_3_of m (dats m 0 c) (A_eq m c 3) (after0_3 m c) t d
theorem before0_4 (c : Dev nD) (t : Fin cfg0.N) (d) : (dats m 0 c).before 4 t d = iblk m c 4 t := before0_4_of m (dats m 0 c) (A_eq m c 4) (after0_4 m c) t d
theorem before0_5 (c : Dev nD) (t : Fin cfg0.N) (d) : (dats m 0 c).before 5 t d = iblk m c 5 t := before0_5_of m (dats m 0 c) (A_eq m c 5) (after0_5 m c) t d
theorem before0_6 (c : Dev nD) (t : Fin cfg0.N) (d) : (dats m 0 c).before 6 t d = iblk m c 6 t := before0_6_of m (dats m 0 c) (A_eq m c 6) (after0_6 m c) t d
theorem before0_7 (c : Dev nD) (t : Fin cfg0.N) (d) : (dats m 0 c).before 7 t d = iblk m c 7 t := before0_7_of m (dats m 0 c) (A_eq m c 7) (after0_7 m c) t d
theorem before0_8 (c : Dev nD) (t : Fin cfg0.N) (d) : (dats m 0 c).before 8 t d = iblk m c 8 t := before0_8_of m (dats m 0 c) (A_eq m c 8) (after0_8 m c) t d
theorem before0_9 (c : Dev nD) (t : Fin cfg0.N) (d) : (dats m 0 c).before 9 t d = iblk m c 9 t := before0_9_of m (dats m 0 c) (A_eq m c 9) (after0_9 m c) t d
theorem before0_10 (c : Dev nD) (t : Fin cfg0.N) (d) : (dats m 0 c).before 10 t d = iblk m c 10 t := before0_10_of m (dats m 0 c) (A_eq m c 10) (after0_10 m c) t d
theorem before0_11 (c : Dev nD) (t : Fin cfg0.N) (d) : (dats m 0 c).before 11 t d = iblk m c 11 t := before0_11_of m (dats m 0 c) (A_eq m c 11) (after0_11 m c) t d
theorem before0_12 (c : Dev nD) (t : Fin cfg0.N) (d) : (dats m 0 c).before 12 t d = iblk m c 12 t := before0_12_of m (dats m 0 c) (A_eq m c 12) (after0_12 m c) t d
theorem before0_13 (c : Dev nD) (t : Fin cfg0.N) (d) : (dats m 0 c).before 13 t d = iblk m c 13 t := before0_13_of m (dats m 0 c) (A_eq m c 13) (after0_13 m c) t d
theorem before0_14 (c : Dev nD) (t : Fin cfg0.N) (d) : (dats m 0 c).before 14 t d = iblk m c 14 t := before0_14_of m (dats m 0 c) (A_eq m c 14) (after0_14 m c) t d

/-! ## The body obligation, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare d)
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ (∃ d, owns (c : Thread nD τ) (st0_15 t) fullShare d)
    ∗ owns (c : Thread nD τ) (st0_16 t) fullShare ((dats m 0 c).after 16 t))

/-- The scratch, whole. -/
abbrev scM : Memref sig .tc .vmem S4x512x512 .f32 := Memref.whole cc0_scratch0

/-- The invariant, conjunct by conjunct: the scratch at some contents and the generator register. -/
theorem phi_eq (c : Dev nD) :
    (Pipeline.ΦA spec0 c : sProp 𝕄) = iprop((∃ d, owns (c : Thread nD τ) scM fullShare d) ∗ (∃ r, prngReg c r)) := by
  unfold Pipeline.ΦA
  rw [scopedRest0_eq]; simp only [scM, owns_whole]; try rfl

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, phi_eq,
    after0_0, after0_1, after0_2, after0_3, after0_4, after0_5, after0_6, after0_7, after0_8, after0_9, after0_10, after0_11, after0_12, after0_13, after0_14, after0_16]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [HS]; · iexact HS
  iintro ⟨H0, H1, H2, H3, H4, H5, H6, H7, H8, H9, H10, H11, H12, H13, H14, H15, H16, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-! ## The run and the frame -/

set_option backward.isDefEq.respectTransparency.types false in
set_option maxHeartbeats 800000 in
/-- Every weakly fair execution ends, with every argument at its launch contents, the sliding-window result at what the blocks leave and every semaphore counter at zero. -/
theorem run_main_quiescent : θ_run defs (onTc (τ := τ) (main (F := F))) (s₀ m ρ)
    (fun r => Pipeline.RDat.FramePost (cfgs 0) (fun c => (dats m 0 c).toRForget forgets) (V m) r ∧ r.2.sem = fun _ => 0) :=
  Pipeline.θ_run_frame_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hΦ := fun _ _ => rfl)

set_option maxHeartbeats 4000000 in
/-- The arguments are unchanged. -/
theorem args_of {r : PUnit × MemSt nD τ sig (Elt F)}
    (h : Pipeline.RDat.FramePost (cfgs 0) (fun c => (dats (F := F) m 0 c).toRForget forgets) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  ⟨(Pipeline.RDat.FramePost.arr_in h c 0 rfl).trans ((A_eq m c 0).trans (V_main_arg0 m c)),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c),
      (Pipeline.RDat.FramePost.arr_in h c 12 rfl).trans ((A_eq m c 12).trans (V_main_arg11 m c)),
      (Pipeline.RDat.FramePost.arr_in h c 13 rfl).trans ((A_eq m c 13).trans (V_main_arg12 m c)),
      (Pipeline.RDat.FramePost.arr_in h c 14 rfl).trans ((A_eq m c 14).trans (V_main_arg13 m c))⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) ∧ r.2.sem = fun _ => 0) :=
  (θ_run defs _ _).mono (fun _ h => ⟨fun c => args_of m h.1 c, h.2⟩) (run_main_quiescent m ρ)

end Cert.KernelIdeal.Body

end
-- ==== Proof.Attention.lean ====
/-
  Attention over keys with a sink, over the extended reals: the softmax divided before the sum over the values, and after it; the keys of a window
  alone, and all the keys with −∞ outside the window; a real number added to every score.
-/
module

public import Idealize.ShloMosaic.PureOps.Ideal
public import Mathlib.Data.EReal.Operations
public import Mathlib.Data.EReal.Inv

@[expose] public section

noncomputable section

namespace Cert.Attn

open Idealize.ShloMosaic

/-- The slope of the head `4g + r`. -/
def slope (g r : ℕ) : ℝ := (1 / 2) ^ (4 * g + r + 1)

theorem slope_eq (g r : ℕ) : slope g r = (1 / 2) ^ (4 * g + r + 1) := rfl

/-- The largest of the scores and the sink. -/
def top {n : ℕ} (sc : Fin n → EReal) (sk : EReal) : EReal := max (Finset.univ.fold max ⊥ sc) sk

/-- The sum of the exponentials, the sink's among them. -/
def mass {n : ℕ} (sc : Fin n → EReal) (sk : EReal) : EReal := ∑ j, Ideal.exp (sc j - top sc sk) + Ideal.exp (sk - top sc sk)

/-- Attention over `n` keys with a sink, divided after the sum: scores `sc`, values `v`, the sink's score `sk`. -/
def sinkAttention {n : ℕ} (sc v : Fin n → EReal) (sk : EReal) : EReal :=
  Ideal.div (∑ j, v j * Ideal.exp (sc j - top sc sk)) (mass sc sk)

/-- Attention over `n` keys with a sink, as a softmax whose probabilities weigh the values. -/
def sinkSoftmax {n : ℕ} (sc v : Fin n → EReal) (sk : EReal) : EReal :=
  ∑ j, Ideal.div (Ideal.exp (sc j - top sc sk)) (mass sc sk) * v j

theorem exp_nonneg (x : EReal) : 0 ≤ Ideal.exp x := by
  induction x using EReal.rec with
  | bot => simp
  | top => simp
  | coe r => simp only [Ideal.exp_coe]; exact_mod_cast (Real.exp_pos r).le

theorem exp_pos {x : EReal} (h : x ≠ ⊥) : 0 < Ideal.exp x := by
  induction x using EReal.rec with
  | bot => exact absurd rfl h
  | top => simp
  | coe r => simp only [Ideal.exp_coe]; exact_mod_cast Real.exp_pos r

/-- A real number added on both sides of a difference changes nothing. -/
theorem shift_sub (a b : EReal) (c : ℝ) : (a + (c : EReal)) - (b + (c : EReal)) = a - b := by
  induction a using EReal.rec with
  | bot => simp
  | top =>
    induction b using EReal.rec with
    | bot => simp
    | top => simp
    | coe b => rw [EReal.top_add_coe, ← EReal.coe_add, EReal.top_sub_coe, EReal.top_sub_coe]
  | coe a =>
    induction b using EReal.rec with
    | bot => rw [EReal.bot_add, ← EReal.coe_add, EReal.coe_sub_bot, EReal.coe_sub_bot]
    | top => rw [EReal.top_add_coe, EReal.sub_top, EReal.sub_top]
    | coe b => norm_cast; ring

theorem fold_eq_sup {n : ℕ} (f : Fin n → EReal) : Finset.univ.fold max ⊥ f = Finset.univ.sup f := rfl

/-- A sum times a factor which is not negative and not infinite. -/
theorem sum_mul {ι : Type} (s : Finset ι) (f : ι → EReal) {c : EReal} (h0 : 0 ≤ c) (h1 : c ≠ ⊤) : (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 h1, ih]

theorem inv_ne_top (x : EReal) : x⁻¹ ≠ ⊤ := by
  induction x using EReal.rec with
  | bot => simp
  | top => simp
  | coe r => rw [← EReal.coe_inv]; exact EReal.coe_ne_top _

/-- The keys `k` at which the window of the block sits: row `j` of the block is the key `q0 + j − 128`, and rows before the first key are padding. -/
structure Windowed (q0 : ℕ) (s' : Fin 256 → EReal) (s : Fin 4096 → EReal) (c : ℝ) : Prop where
  inside : ∀ j k, k.val + 128 = q0 + j.val → s' j = s k + (c : EReal)
  pad : ∀ j, q0 + j.val < 128 → s' j = ⊥
  outside : ∀ k, ¬ (q0 ≤ k.val + 128 ∧ k.val + 128 < q0 + 256) → s k = ⊥

variable {q0 : ℕ} {s' : Fin 256 → EReal} {s : Fin 4096 → EReal} {c : ℝ}

/-- A sum over the block's rows is the sum over all keys, where nothing is added outside the window. -/
theorem sum_window (hq : q0 + 256 ≤ 4224) (F' : Fin 256 → EReal) (F : Fin 4096 → EReal) (h1 : ∀ j k, k.val + 128 = q0 + j.val → F' j = F k)
    (h2 : ∀ j, q0 + j.val < 128 → F' j = 0) (h3 : ∀ k, ¬ (q0 ≤ k.val + 128 ∧ k.val + 128 < q0 + 256) → F k = 0) : ∑ j, F' j = ∑ k, F k := by
  refine Finset.sum_bij_ne_zero (fun j _ hj => ⟨q0 + j.val - 128, by have := j.isLt; omega⟩) (fun _ _ _ => Finset.mem_univ _) ?_ ?_ ?_
  · intro a _ ha b _ hb hab
    have ha' : ¬ q0 + a.val < 128 := fun h => ha (h2 a h)
    have hb' : ¬ q0 + b.val < 128 := fun h => hb (h2 b h)
    have := congrArg Fin.val hab
    apply Fin.ext
    simp only at this
    omega
  · intro k _ hk
    have hin : q0 ≤ k.val + 128 ∧ k.val + 128 < q0 + 256 := by
      by_contra h
      exact hk (h3 k h)
    refine ⟨⟨k.val + 128 - q0, by omega⟩, Finset.mem_univ _, ?_, ?_⟩
    · rw [h1 _ k (by show k.val + 128 = q0 + (k.val + 128 - q0); omega)]; exact hk
    · apply Fin.ext
      show q0 + (k.val + 128 - q0) - 128 = k.val
      omega
  · intro j _ hj
    have hj' : ¬ q0 + j.val < 128 := fun h => hj (h2 j h)
    exact h1 j _ (by show q0 + j.val - 128 + 128 = q0 + j.val; omega)

theorem Windowed.top_eq (h : Windowed q0 s' s c) (hq : q0 + 256 ≤ 4224) (sk : EReal) : top s' (sk + (c : EReal)) = top s sk + (c : EReal) := by
  have mono : Monotone (fun x : EReal => x + (c : EReal)) := fun _ _ h => add_le_add h le_rfl
  rw [top, top, fold_eq_sup, fold_eq_sup, show max (Finset.univ.sup s) sk + (c : EReal) = max (Finset.univ.sup s + (c : EReal)) (sk + (c : EReal)) from mono.map_max]
  congr 1
  apply le_antisymm
  · refine Finset.sup_le fun j _ => ?_
    by_cases hp : q0 + j.val < 128
    · rw [h.pad j hp]; exact bot_le
    · rw [h.inside j ⟨q0 + j.val - 128, by have := j.isLt; omega⟩ (by show q0 + j.val - 128 + 128 = q0 + j.val; omega)]
      exact mono (Finset.le_sup (f := s) (Finset.mem_univ _))
  · obtain ⟨k, _, hk⟩ := Finset.exists_mem_eq_sup Finset.univ ⟨0, Finset.mem_univ _⟩ s
    rw [hk]
    by_cases hin : q0 ≤ k.val + 128 ∧ k.val + 128 < q0 + 256
    · rw [← h.inside ⟨k.val + 128 - q0, by omega⟩ k (by show k.val + 128 = q0 + (k.val + 128 - q0); omega)]
      exact Finset.le_sup (f := s') (Finset.mem_univ _)
    · rw [h.outside k hin, EReal.bot_add]; exact bot_le

theorem Windowed.mass_eq (h : Windowed q0 s' s c) (hq : q0 + 256 ≤ 4224) (sk : EReal) : mass s' (sk + (c : EReal)) = mass s sk := by
  rw [mass, mass, h.top_eq hq, shift_sub]
  congr 1
  refine sum_window hq _ _ (fun j k e => ?_) (fun j e => ?_) (fun k e => ?_)
  · rw [h.inside j k e, shift_sub]
  · rw [h.pad j e, EReal.bot_sub, Ideal.exp_bot]
  · rw [h.outside k e, EReal.bot_sub, Ideal.exp_bot]

/-- With finite scores below +∞ and a finite sink, the mass is not zero. -/
theorem mass_ne_zero (hs : ∀ k, s k ≠ ⊤) {sk : EReal} (hb : sk ≠ ⊥) (ht : sk ≠ ⊤) : mass s sk ≠ 0 := by
  have htop : top s sk ≠ ⊤ := by
    rw [top, fold_eq_sup]
    obtain ⟨k, _, hk⟩ := Finset.exists_mem_eq_sup Finset.univ ⟨0, Finset.mem_univ _⟩ s
    rw [hk]
    exact (max_lt (lt_top_iff_ne_top.2 (hs k)) (lt_top_iff_ne_top.2 ht)).ne
  have hd : sk - top s sk ≠ ⊥ := by
    induction sk using EReal.rec with
    | bot => exact absurd rfl hb
    | top => exact absurd rfl ht
    | coe r =>
      generalize top s (r : EReal) = M at htop
      induction M using EReal.rec with
      | bot => rw [EReal.coe_sub_bot]; exact top_ne_bot
      | top => exact absurd rfl htop
      | coe m => rw [← EReal.coe_sub]; exact EReal.coe_ne_bot _
  exact (lt_of_lt_of_le (exp_pos hd) (le_add_of_nonneg_left (Finset.sum_nonneg fun _ _ => exp_nonneg _))).ne'

/-- The block's attention, divided after its sum, is the softmax over all the keys. -/
theorem Windowed.attention_eq (h : Windowed q0 s' s c) (hq : q0 + 256 ≤ 4224) (hs : ∀ k, s k ≠ ⊤) {sk : EReal} (hb : sk ≠ ⊥) (ht : sk ≠ ⊤)
    (v' : Fin 256 → EReal) (v : Fin 4096 → EReal) (hv : ∀ j k, k.val + 128 = q0 + j.val → v' j = v k) :
    sinkAttention s' v' (sk + (c : EReal)) = sinkSoftmax s v sk := by
  have hm : 0 ≤ (mass s sk)⁻¹ := EReal.inv_nonneg_of_nonneg (add_nonneg (Finset.sum_nonneg fun _ _ => exp_nonneg _) (exp_nonneg _))
  rw [sinkAttention, sinkSoftmax, h.mass_eq hq, h.top_eq hq]
  simp only [Ideal.div, if_neg (mass_ne_zero hs hb ht)]
  rw [sum_mul _ _ hm (inv_ne_top _)]
  refine sum_window hq _ _ (fun j k e => ?_) (fun j e => ?_) (fun k e => ?_)
  · rw [h.inside j k e, shift_sub, hv j k e, mul_comm (v k), mul_assoc, mul_assoc, mul_comm (v k)]
  · rw [h.pad j e, EReal.bot_sub, Ideal.exp_bot, mul_zero, zero_mul]
  · rw [h.outside k e, EReal.bot_sub, Ideal.exp_bot, zero_mul, zero_mul]

end Cert.Attn
-- ==== Proof.KernelIdealBlock.lean ====
/-
  What the body leaves in the sliding-window result, at an index: attention over the 256 keys of the block, with a sink, times the gate.
-/
module

public import proofs.«01_k».proof.Proof.KernelIdealFrame
public import proofs.«01_k».proof.Proof.Attention
public import Idealize.ShloMosaic.Lib.WordCmp
public import Idealize.ShloMosaic.Lib.Pipeline.ValueKit.Basic
public import Idealize.ShloMosaic.Lib.Claim
public import Idealize.ShloMosaic.Lib.Pointwise
public import Idealize.ShloMosaic.PureOps.Ideal

@[expose] public section

set_option maxRecDepth 16384

noncomputable section

namespace Cert.KernelIdeal.Block

open Idealize.ShloMosaic.WordCmp (cmpi_sgt_ofNat cmpi_sle_ofNat)
open Cert.Attn (slope sinkAttention mass top)
open Cert.KernelIdeal Cert.KernelIdeal.Gen Cert.KernelIdeal.Body Idealize.ShloMosaic Idealize.ShloMosaic.TcCoe Idealize.SL.Sem

/-- What a score of the key `a` of the block is given by the mask of the query `b`: nothing within the window, −∞ outside. -/
def keep (b a : ℕ) : EReal := if b < a ∧ a ≤ b + 128 then 0 else ⊥

theorem keep_low (b a : ℕ) (ha : a < 128) : keep b a = if b < a then (0 : EReal) else ⊥ := by
  unfold keep; congr 1; simp only [eq_iff_iff]; omega

theorem keep_high (b a : ℕ) (hb : b < 128) : keep b (128 + a) = if a ≤ b then (0 : EReal) else ⊥ := by
  unfold keep; congr 1; simp only [eq_iff_iff]; omega

theorem named_mask : (Named.named (F := Ideal) (φ := .f32) κ "mask" 4048155338#32 : EReal) = ⊥ := IdealRules.named_const.ideal_named_scalar _ _ _ _ rfl

/-- The mask of the first half of the block. -/
theorem mask_gt (a b : ℕ) (ha : a < 256) (hb : b < 256) :
    Scalar.select (α := Ideal .f32) (IntOp.cmpi .sgt (BitVec.ofNat 32 a) (BitVec.ofNat 32 b)) (0 : EReal) (Named.named (F := Ideal) (φ := .f32) κ "mask" 4048155338#32)
      = if b < a then (0 : EReal) else ⊥ := by
  rw [cmpi_sgt_ofNat (by omega) (by omega), named_mask]
  by_cases h : b < a <;> simp [h, Scalar.select]

/-- The mask of the second half of the block. -/
theorem mask_le (a b : ℕ) (ha : a < 256) (hb : b < 256) :
    Scalar.select (α := Ideal .f32) (IntOp.cmpi .sle (BitVec.ofNat 32 a) (BitVec.ofNat 32 b)) (0 : EReal) (Named.named (F := Ideal) (φ := .f32) κ "mask" 4048155338#32)
      = if a ≤ b then (0 : EReal) else ⊥ := by
  rw [cmpi_sle_ofNat (by omega) (by omega), named_mask]
  by_cases h : a ≤ b <;> simp [h, Scalar.select]

theorem sum_halves (f : Fin 256 → EReal) : ∑ j, f j = ∑ x : Fin 128, f ⟨x.val, by omega⟩ + ∑ x : Fin 128, f ⟨128 + x.val, by omega⟩ :=
  Fin.sum_univ_add (a := 128) (b := 128) f

theorem neg_inf : Ideal.ofBits FTy.f32 4286578688#32 = (⊥ : EReal) := by simp [Ideal.ofBits, Ideal.ieee]

theorem word_half : Ideal.ofBits FTy.f32 1056964608#32 = ((1 / 2 : ℝ) : EReal) := by simp [Ideal.ofBits, Ideal.ieee, -EReal.coe_mul]; norm_num
theorem word_quarter : Ideal.ofBits FTy.f32 1048576000#32 = ((1 / 4 : ℝ) : EReal) := by simp [Ideal.ofBits, Ideal.ieee, -EReal.coe_mul]; norm_num
theorem word_eighth : Ideal.ofBits FTy.f32 1040187392#32 = ((1 / 8 : ℝ) : EReal) := by simp [Ideal.ofBits, Ideal.ieee, -EReal.coe_mul]; norm_num
theorem word_sixteenth : Ideal.ofBits FTy.f32 1031798784#32 = ((1 / 16 : ℝ) : EReal) := by simp [Ideal.ofBits, Ideal.ieee, -EReal.coe_mul]; norm_num
theorem word_64 : Ideal.ofBits FTy.f32 1115684864#32 = ((64 : ℝ) : EReal) := by simp [Ideal.ofBits, Ideal.ieee, -EReal.coe_mul]; norm_num

/-- The group's factor of the slopes. -/
theorem group_factor (g : Fin 2) :
    Scalar.select (α := Ideal .f32) (Scalar.cmpi .eq (BitVec.ofNat 32 g.val) 0#32) (1 : EReal) (((1 / 16 : ℝ) : EReal)) = (((1 / 16) ^ g.val : ℝ) : EReal) := by
  match g with
  | 0 => simp [Scalar.select, Scalar.cmpi, IntOp.cmpi]
  | 1 => simp [Scalar.select, Scalar.cmpi, IntOp.cmpi]

/-- The position of a query, as a number. -/
theorem pos_cast (n : Fin 32) (x : Fin 128) :
    FloatOps.sitofp (F := Ideal) .f32 (IntOp.addi (Scalar.muli (BitVec.ofNat 32 n.val) 128#32) (BitVec.ofNat 32 x.val)) = ((128 * n.val + x.val : ℝ) : EReal) := by
  have : (IntOp.addi (Scalar.muli (BitVec.ofNat 32 n.val) 128#32) (BitVec.ofNat 32 x.val)) = BitVec.ofNat 32 (128 * n.val + x.val) := by
    apply BitVec.eq_of_toNat_eq
    simp [IntOp.addi, Scalar.muli, IntOp.muli]
    omega
  rw [this]
  show ((((BitVec.ofNat 32 (128 * n.val + x.val)).toInt : ℤ) : ℝ) : EReal) = _
  rw [WordCmp.toInt_ofNat_of_lt (by omega)]
  push_cast
  rfl

set_option maxHeartbeats 8000000 in
/-- The attention of a block at head `r` and query `x`, from the scores and the sinks. -/
theorem pay774_apply (g : Fin 2) (n : Fin 32) (v14 : FVec Ideal S256x512 .f32) (s : Fin 4 → Elt Ideal .f32) (w : Vec Ideal S1x1x64x256 .bf16)
    (d : Fin 64) (r : Fin 4) (x : Fin 128) (c : Fin 512) (hc : c.val = 128 * r.val + x.val) :
    k0_pay774 (BitVec.ofNat 32 g.val) v14 (k0_pay770 (Scalar.muli (BitVec.ofNat 32 n.val) 128#32) cols)
        (k0_pay771 (BitVec.ofNat 32 g.val) (Scalar.muli (BitVec.ofNat 32 n.val) 128#32) cols (s 0))
        (k0_pay772 (BitVec.ofNat 32 g.val) (Scalar.muli (BitVec.ofNat 32 n.val) 128#32) cols (s 1))
        (k0_pay773 (BitVec.ofNat 32 g.val) (Scalar.muli (BitVec.ofNat 32 n.val) 128#32) cols (s 2)) (s 3) w (ix2 d c)
      = sinkAttention (fun j => v14 (ix2 j c) + keep x.val j.val) (fun j => w (ix4 0 0 d j))
         (s r + ((slope g.val r.val : ℝ) : EReal) * ((128 * n.val + x.val : ℝ) : EReal)) := by
  have hf : (fun j : Fin 256 => if h : j.val < 128 then v14 (ix2 j c) + (if x.val < j.val then (0 : EReal) else ⊥)
      else v14 (ix2 ⟨128 + (j.val - 128), by omega⟩ c) + (if j.val - 128 ≤ x.val then (0 : EReal) else ⊥))
      = fun j => v14 (ix2 j c) + keep x.val j.val := by
    funext j
    split
    · rename_i h
      rw [keep_low _ _ (by omega)]
    · have : 128 + (j.val - 128) = j.val := by omega
      rw [← keep_high _ _ x.isLt]
      simp only [this, Fin.eta]
  have hl (a : Fin 128) : keep x.val a.val = if x.val < a.val then (0 : EReal) else ⊥ := keep_low _ _ (by omega)
  have hh (a : Fin 128) : keep x.val (128 + a.val) = if a.val ≤ x.val then (0 : EReal) else ⊥ := keep_high _ _ x.isLt
  have hs : ((slope g.val r.val : ℝ) : EReal) = (((1 / 16) ^ g.val : ℝ) : EReal) * (((1 / 2) ^ (r.val + 1) : ℝ) : EReal) := by
    rw [← EReal.coe_mul, Cert.Attn.slope_eq, show (1 / 16 : ℝ) = (1 / 2) ^ 4 by norm_num, ← pow_mul, ← pow_add]
    rfl
  pointwise [k0_pay774, k0_pay770, k0_pay771, k0_pay772, k0_pay773]
  rw [hs]
  simp only [word_half, word_quarter, word_eighth, word_sixteenth, group_factor]
  rcases (show r = 0 ∨ r = 1 ∨ r = 2 ∨ r = 3 by omega) with rfl | rfl | rfl | rfl
  · have e : c.val = x.val := by rw [hc]; simp
    have h1 : x.val < 128 := x.isLt
    simp only [e, h1, dite_true, Fin.eta, pos_cast]
    simp (disch := omega) only [mask_gt, mask_le, neg_inf]
    simp only [hf, sinkAttention, mass, top, sum_halves, hl, hh]
    norm_num
  · have h1 : ¬ c.val < 128 := by rw [hc]; simp
    have e : c.val - 128 = x.val := by rw [hc]; simp
    have h2 : x.val < 128 := x.isLt
    simp only [h1, e, h2, dite_true, dite_false, Fin.eta, pos_cast]
    simp (disch := omega) only [mask_gt, mask_le, neg_inf]
    simp only [hf, sinkAttention, mass, top, sum_halves, hl, hh]
    norm_num
  · have h1 : ¬ c.val < 128 := by rw [hc]; simp; omega
    have h2 : ¬ c.val - 128 < 128 := by rw [hc]; simp; omega
    have e : c.val - 128 - 128 = x.val := by rw [hc]; simp; omega
    have h3 : x.val < 128 := x.isLt
    simp only [h1, h2, e, h3, dite_true, dite_false, Fin.eta, pos_cast]
    simp (disch := omega) only [mask_gt, mask_le, neg_inf]
    simp only [hf, sinkAttention, mass, top, sum_halves, hl, hh]
    norm_num
  · have h1 : ¬ c.val < 128 := by rw [hc]; simp; omega
    have h2 : ¬ c.val - 128 < 128 := by rw [hc]; simp; omega
    have h3 : ¬ c.val - 128 - 128 < 128 := by rw [hc]; simp; omega
    have e : c.val - 128 - 128 - 128 = x.val := by rw [hc]; simp; omega
    simp only [h1, h2, h3, e, dite_false, Fin.eta, pos_cast]
    simp (disch := omega) only [mask_gt, mask_le, neg_inf]
    simp only [hf, sinkAttention, mass, top, sum_halves, hl, hh]
    norm_num

theorem off_word : ∀ n : Fin 32, (Scalar.indexCast (Scalar.muli (BitVec.ofNat 32 n.val) 128#32)).toNat = 128 * n.val := by decide +kernel
theorem off_sink : ∀ (g : Fin 2) (r : Fin 4), (Scalar.indexCast (Scalar.addi (Scalar.muli (BitVec.ofNat 32 g.val) 4#32) (BitVec.ofNat 32 r.val))).toNat = 4 * g.val + r.val := by decide +kernel

set_option maxHeartbeats 4000000 in
theorem scores_apply (i : grid0.Coords) (x5 : Vec Ideal S1x1x4x128x128 .bf16) (x12 : Vec Ideal S1x1x4224x128 .bf16) (j : Fin 256) (r : Fin 4) (x : Fin 128) (c : Fin 512) (hc : c.val = 128 * r.val + x.val) :
    scoresB i x5 x12 (ix2 j c) = ∑ f : Fin 128, x12 (ix4 0 0 ⟨128 * (i 2).val + j.val, by have := (i 2).isLt; have : (i 2).val < 32 := this; omega⟩ f) * x5 (ix5 0 0 r x f) := by
  pointwise [scoresB, k0_pay40]
  refine Finset.sum_congr rfl fun f _ => ?_
  have e1 : c.val / 128 = r.val := by omega
  have e2 : c.val % 128 = x.val := by omega
  have o := off_word (i 2)
  congr 2
  · simp only [k0_off1]
    simp [o]
  · simp only [e1, e2, Fin.eta]

theorem sink_apply (i : grid0.Coords) (x3 : Vec Ideal S8 .f32) (r : Fin 4) :
    sink i x3 r = x3 (ix1 ⟨4 * (i 1).val + r.val, by have := (i 1).isLt; have : (i 1).val < 2 := this; omega⟩) := by
  unfold sink
  unfold View.ld
  refine congrArg x3 (funext fun a => ?_)
  match a with
  | ⟨0, _⟩ =>
    apply Fin.ext
    have o := off_sink (i 1) r
    show k0_off7 i (BitVec.ofNat 32 r.val) 0 + _ = 4 * (i 1).val + r.val
    have z : ∀ y : S1.Idx, (y ⟨0, by decide⟩).val = 0 := fun y => by have := (y ⟨0, by decide⟩).isLt; exact Nat.lt_one_iff.mp this
    rw [z, Nat.mul_zero, Nat.add_zero, ← o]
    rfl

theorem load_values_apply (i : grid0.Coords) (x13 : Vec Ideal S1x1x64x4224 .bf16) (d : Fin 64) (j : Fin 256) :
    View.ld x13 (Rect.unit (s := S1x1x64x4224) (k0_off8 i) S1x1x64x256.size (k0_off8_inb i)) (ix4 0 0 d j)
      = x13 (ix4 0 0 d ⟨128 * (i 2).val + j.val, by have := (i 2).isLt; have : (i 2).val < 32 := this; omega⟩) := by
  have o := off_word (i 2)
  pointwise
  simp [k0_off8, o]

/-- The scores of the block at head `r` and query `x`, as numbers. -/
def blockScore (i : grid0.Coords) (x5 : Vec Ideal S1x1x4x128x128 .bf16) (x12 : Vec Ideal S1x1x4224x128 .bf16) (r : Fin 4) (x : Fin 128) (j : Fin 256) : EReal :=
  (∑ f : Fin 128, x12 (ix4 0 0 ⟨128 * (i 2).val + j.val, by have := (i 2).isLt; have : (i 2).val < 32 := this; omega⟩ f) * x5 (ix5 0 0 r x f)) + keep x.val j.val

/-- The attention of the block at head `r`, query `x` and dimension `d`. -/
theorem attB_apply (i : grid0.Coords) (x3 : Vec Ideal S8 .f32) (x5 : Vec Ideal S1x1x4x128x128 .bf16) (x12 : Vec Ideal S1x1x4224x128 .bf16) (x13 : Vec Ideal S1x1x64x4224 .bf16)
    (d : Fin 64) (r : Fin 4) (x : Fin 128) (c : Fin 512) (hc : c.val = 128 * r.val + x.val) :
    attB i x3 x5 x12 x13 (ix2 d c)
      = sinkAttention (blockScore i x5 x12 r x) (fun j => x13 (ix4 0 0 d ⟨128 * (i 2).val + j.val, by have := (i 2).isLt; have : (i 2).val < 32 := this; omega⟩))
         (x3 (ix1 ⟨4 * (i 1).val + r.val, by have := (i 1).isLt; have : (i 1).val < 2 := this; omega⟩) + ((slope (i 1).val r.val : ℝ) : EReal) * ((128 * (i 2).val + x.val : ℝ) : EReal)) := by
  refine (pay774_apply (i 1) (i 2) (scoresB i x5 x12) (sink i x3) _ d r x c hc).trans ?_
  rw [sink_apply]
  refine congr (congr (congrArg sinkAttention (funext fun j => ?_)) (funext fun j => ?_)) rfl
  · rw [scores_apply i x5 x12 j r x c hc]; rfl
  · exact load_values_apply i x13 d j

set_option maxHeartbeats 4000000 in
/-- The result block of the body at query `x`, head `r` and dimension `d`. -/
theorem outB_apply (i : grid0.Coords) (x3 : Vec Ideal S8 .f32) (x5 : Vec Ideal S1x1x4x128x128 .bf16) (x12 : Vec Ideal S1x1x4224x128 .bf16) (x13 : Vec Ideal S1x1x64x4224 .bf16) (x17 : Vec Ideal S1x128x256 .bf16)
    (x : Fin 128) (r : Fin 4) (d : Fin 64) (e : Fin 256) (he : e.val = 64 * r.val + d.val) :
    outB i x3 x5 x12 x13 x17 (ix3 0 x e)
      = sinkAttention (blockScore i x5 x12 r x) (fun j => x13 (ix4 0 0 d ⟨128 * (i 2).val + j.val, by have := (i 2).isLt; have : (i 2).val < 32 := this; omega⟩))
         (x3 (ix1 ⟨4 * (i 1).val + r.val, by have := (i 1).isLt; have : (i 1).val < 2 := this; omega⟩) + ((slope (i 1).val r.val : ℝ) : EReal) * ((128 * (i 2).val + x.val : ℝ) : EReal))
        * x17 (ix3 0 x e) := by
  rw [← attB_apply i x3 x5 x12 x13 d r x ⟨128 * r.val + x.val, by omega⟩ rfl]
  unfold outB
  rw [View.canon_cons_unit_lit]
  · pointwise [k0_pay777, k0_pay776, k0_pay775]
    refine congrArg (· * x17 (ix3 0 x e)) ?_
    rcases (show r = 0 ∨ r = 1 ∨ r = 2 ∨ r = 3 by omega) with rfl | rfl | rfl | rfl
    · have e0 : e.val = d.val := by rw [he]; simp
      have h1 : d.val < 64 := d.isLt
      simp only [e0, h1, dite_true]
      simp
    · have h1 : ¬ e.val < 64 := by rw [he]; simp
      have e0 : e.val - 64 = d.val := by rw [he]; simp
      have h2 : d.val < 64 := d.isLt
      simp only [h1, e0, h2, dite_true, dite_false]
      simp
    · have h1 : ¬ e.val < 64 := by rw [he]; simp; omega
      have h2 : ¬ e.val - 64 < 64 := by rw [he]; simp; omega
      have e0 : e.val - 64 - 64 = d.val := by rw [he]; simp; omega
      have h3 : d.val < 64 := d.isLt
      simp only [h1, h2, e0, h3, dite_true, dite_false]
      simp
    · have h1 : ¬ e.val < 64 := by rw [he]; simp; omega
      have h2 : ¬ e.val - 64 < 64 := by rw [he]; simp; omega
      have h3 : ¬ e.val - 64 - 64 < 64 := by rw [he]; simp; omega
      have e0 : e.val - 64 - 64 - 64 = d.val := by rw [he]; simp; omega
      simp only [h1, h2, h3, e0, dite_false]
      simp
  · intro a; match a with | 0 => rfl | 1 => rfl | 2 => rfl

end Cert.KernelIdeal.Block
-- ==== Proof.KernelIdealHost.lean ====
/-
  The arrays that the host prepares for the sliding-window attention, at an index: the values transposed behind 128 rows of zeros, the keys with the two
  features of their position behind 128 rows of padding, the queries over 8 with the two features of their slope.
-/
module

public import proofs.«01_k».proof.Proof.Gen.KernelIdeal.Frame
public import proofs.«01_k».proof.Proof.Attention
public import Idealize.ShloMosaic.Lib.WordCmp
public import Idealize.ShloMosaic.Lib.Routing.OpsOne
public import Idealize.ShloMosaic.Lib.Claim
public import Idealize.ShloMosaic.Lib.Pointwise
public import Idealize.ShloMosaic.PureOps.Ideal

@[expose] public section

set_option maxRecDepth 16384

noncomputable section

namespace Cert.KernelIdeal.Host

open Cert.Attn (slope)
open Cert.KernelIdeal Cert.KernelIdeal.Gen Idealize.ShloMosaic Idealize.ShloMosaic.TcCoe Idealize.SL.Sem

variable (m : (ℓ : Loc nD τ sig) → Buf (Elt Ideal) ℓ)

theorem neg_inf : Ideal.ofBits FTy.f32 4286578688#32 = (⊥ : EReal) := by simp [Ideal.ofBits, Ideal.ieee]
theorem word_eighth : Ideal.ofBits FTy.f32 1040187392#32 = ((1 / 8 : ℝ) : EReal) := by simp [Ideal.ofBits, Ideal.ieee, -EReal.coe_mul]; norm_num
theorem word_64 : Ideal.ofBits FTy.f32 1115684864#32 = ((64 : ℝ) : EReal) := by simp [Ideal.ofBits, Ideal.ieee, -EReal.coe_mul]; norm_num

/-- A scatter of one number into a row, at an entry. -/
theorem scatter_number {N : ℕ} (d : ScatterDims (Routing.shape1 N) (Routing.shape1 1) Routing.shape0) (hiw : d.insertedWindowDims = [0]) (hsd : d.scatterDimsToOperandDims = [0])
    (x0 : (Routing.shape1 N).Idx → EReal) (idx : IVec (Routing.shape1 1) 32) (upd : Routing.shape0.Idx → EReal) (k : Fin N) (hidx : (idx (ix1 0)).toInt = (k.val : ℤ)) (e : Fin N) :
    Host.scatter d (fun _ b => b) x0 idx upd (ix1 e) = if e = k then upd ix0 else x0 (ix1 e) := by
  have one (j : Routing.shape0.Idx) : j = ix0 := funext fun a => a.elim0
  by_cases h : e = k
  · rw [if_pos h]
    exact Routing.scatter_set_hit d x0 idx upd _ _ (fun j _ => congrArg upd (one j)) ix0 ((Routing.lands_one d hiw hsd idx k hidx e).2 h)
  · rw [if_neg h]
    exact Routing.scatter_set_miss d x0 idx upd _ fun j hj => h ((Routing.lands_one d hiw hsd idx k hidx e).1 (by have q := one j; subst q; exact hj))

/-- One over a power of two: the slope. -/
theorem slope_word (g : Fin 2) (r : Fin 4) :
    Ideal.div 1 (FloatOps.sitofp (F := Ideal) FTy.f32 (IntOp.shli ArithUnit.host (2#32) (BitVec.ofNat 32 (g.val * 4 + r.val)))) = ((slope g.val r.val : ℝ) : EReal) := by
  have h : IntOp.shli ArithUnit.host (2#32) (BitVec.ofNat 32 (g.val * 4 + r.val)) = BitVec.ofNat 32 (2 ^ (4 * g.val + r.val + 1)) := by
    revert g r; decide +kernel
  have hb : 2 ^ (4 * g.val + r.val + 1) < 2 ^ 31 := Nat.pow_lt_pow_right (by omega) (by omega)
  rw [h, show FloatOps.sitofp (F := Ideal) FTy.f32 (BitVec.ofNat 32 (2 ^ (4 * g.val + r.val + 1))) = ((((BitVec.ofNat 32 (2 ^ (4 * g.val + r.val + 1))).toInt : ℤ) : ℝ) : EReal) from rfl,
    WordCmp.toInt_ofNat_of_lt hb, Ideal.div_coe (by positivity), one_mul, Cert.Attn.slope_eq]
  congr 1
  push_cast
  rw [one_div, one_div, inv_pow]

/-- The block of 64 of a position, and its place in the block, as numbers. -/
theorem block_word (p : ℕ) (hp : p < 4096) : FloatOps.sitofp (F := Ideal) FTy.f32 (IntOp.shrui ArithUnit.host (BitVec.ofNat 32 p) 6#32) = (((p / 64 : ℕ) : ℝ) : EReal) := by
  have h : IntOp.shrui ArithUnit.host (BitVec.ofNat 32 p) 6#32 = BitVec.ofNat 32 (p / 64) := by
    apply BitVec.eq_of_toNat_eq
    simp [IntOp.shrui, Nat.shiftRight_eq_div_pow]
    omega
  rw [h]
  show ((((BitVec.ofNat 32 (p / 64)).toInt : ℤ) : ℝ) : EReal) = _
  rw [WordCmp.toInt_ofNat_of_lt (by omega)]
  rfl

theorem place_word (p : ℕ) (hp : p < 4096) : FloatOps.sitofp (F := Ideal) FTy.f32 (IntOp.andi (BitVec.ofNat 32 p) 63#32) = (((p % 64 : ℕ) : ℝ) : EReal) := by
  have h : IntOp.andi (BitVec.ofNat 32 p) 63#32 = BitVec.ofNat 32 (p % 64) := by
    apply BitVec.eq_of_toNat_eq
    have : p &&& 63 = p % 64 := Nat.and_two_pow_sub_one_eq_mod p 6
    simp [IntOp.andi, Nat.mod_eq_of_lt (show p < 4294967296 by omega), this]
    omega
  rw [h]
  show ((((BitVec.ofNat 32 (p % 64)).toInt : ℤ) : ℝ) : EReal) = _
  rw [WordCmp.toInt_ofNat_of_lt (by omega)]
  rfl

variable (m : (ℓ : Loc nD τ sig) → Buf (Elt Ideal) ℓ)

set_option maxHeartbeats 4000000 in
/-- The values: those of the key behind 128 rows of padding. -/
theorem values_apply (c : Dev nD) (b : Fin 4) (g : Fin 2) (d : Fin 64) (j : Fin 4224) (hj : 128 ≤ j.val) :
    (V m c main_v68 : (⟨S4x2x64x4224, .bf16⟩ : BufTy).Contents (Elt Ideal)) (ix4 b g d j)
      = (m ((c : Thread nD τ).loc main_arg10) : (⟨S4x2x4096x64, .bf16⟩ : BufTy).Contents (Elt Ideal)) (ix4 b g ⟨j.val - 128, by omega⟩ d) := by
  unfold V
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg (Nat.not_lt.2 hj)]

set_option maxHeartbeats 4000000 in
/-- The keys with their features: the padding's rows hold −∞ in the feature of the block, a key's row the key, its block of 64 and its place in it. -/
theorem keys_apply (c : Dev nD) (b : Fin 4) (g : Fin 2) (j : Fin 4224) (f : Fin 128) :
    (V m c main_v67 : (⟨S4x2x4224x128, .bf16⟩ : BufTy).Contents (Elt Ideal)) (ix4 b g j f)
      = if j.val < 128 then (if f.val = 64 then (⊥ : EReal) else 0)
        else if h : f.val < 64 then (m ((c : Thread nD τ).loc main_arg9) : (⟨S4x2x4096x64, .bf16⟩ : BufTy).Contents (Elt Ideal)) (ix4 b g ⟨j.val - 128, by omega⟩ ⟨f.val, h⟩)
        else if f.val = 64 then ((((j.val - 128) / 64 : ℕ) : ℝ) : EReal)
        else if f.val = 65 then ((((j.val - 128) % 64 : ℕ) : ℝ) : EReal) else 0 := by
  unfold V
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise
  by_cases hj : j.val < 128
  · simp only [hj, dite_true, if_true]
    refine (scatter_number scatter_S128_S1_S__n_0_0_0 rfl rfl _ _ _ ⟨64, by decide⟩ rfl f).trans ?_
    by_cases hf : f.val = 64
    · rw [if_pos hf, if_pos (Fin.ext hf)]; exact neg_inf
    · rw [if_neg hf, if_neg fun e => hf (congrArg Fin.val e)]
      exact Ideal.ofBits_zero_f32
  · simp only [hj, dite_false, if_false, block_word _ (show j.val - 128 < 4096 by omega), place_word _ (show j.val - 128 < 4096 by omega)]
    split_ifs <;> first | rfl | (exfalso; omega)

set_option maxHeartbeats 4000000 in
/-- The queries with their features: the query over 8, 64 slopes, one slope. -/
theorem queries_apply (c : Dev nD) (b : Fin 4) (g : Fin 2) (r : Fin 4) (s : Fin 4096) (f : Fin 128) :
    (V m c main_v102 : (⟨S4x2x4x4096x128, .bf16⟩ : BufTy).Contents (Elt Ideal)) (ix5 b g r s f)
      = if h : f.val < 64 then HMul.hMul (α := EReal) (β := EReal) ((m ((c : Thread nD τ).loc main_arg2) : (⟨S4x2x4x4096x64, .bf16⟩ : BufTy).Contents (Elt Ideal)) (ix5 b g r s ⟨f.val, h⟩)) ((1 / 8 : ℝ) : EReal)
        else if f.val = 64 then ((slope g.val r.val : ℝ) : EReal) * ((64 : ℝ) : EReal)
        else if f.val = 65 then ((slope g.val r.val : ℝ) : EReal) else 0 := by
  unfold V
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise
  rw [slope_word, word_eighth, word_64]
  split_ifs <;> first | rfl | (exfalso; omega)

end Cert.KernelIdeal.Host
-- ==== Proof.ReferenceIdealOut.lean ====
/-
  What the reference computes, at an index: the softmax over all the keys and the sink, masked outside the window, times the values and the gate.
-/
module

public import proofs.«01_k».proof.Proof.Gen.ReferenceIdeal.Read
public import proofs.«01_k».proof.Proof.Gen.ReferenceIdeal.Run
public import proofs.«01_k».proof.Proof.Attention
public import Idealize.ShloMosaic.Lib.WordCmp
public import Idealize.ShloMosaic.Lib.Claim
public import Idealize.ShloMosaic.Lib.Pointwise
public import Idealize.ShloMosaic.PureOps.Ideal

@[expose] public section

set_option maxRecDepth 16384

noncomputable section

namespace Cert.ReferenceIdeal.Out

open Cert.Attn (slope sinkSoftmax mass top)
open Cert.ReferenceIdeal Cert.ReferenceIdeal.Gen Cert.ReferenceIdeal.Read Idealize.ShloMosaic Idealize.ShloMosaic.TcCoe Idealize.SL.Sem

variable (x0 : (⟨S8, .f32⟩ : BufTy).Contents (Elt Ideal)) (x2 : (⟨S4x2x4x4096x64, .bf16⟩ : BufTy).Contents (Elt Ideal)) (x9 x10 : (⟨S4x2x4096x64, .bf16⟩ : BufTy).Contents (Elt Ideal)) (x13 : (⟨S4x4096x512, .bf16⟩ : BufTy).Contents (Elt Ideal))

theorem v41_idx (b : Fin 4) (g : Fin 2) (r : Fin 4) (s : Fin 4096) (k : Fin 4097) : idx_main_v41 (idx_main_v42 (ix5 b g r s k)) = ix4 b g r s := by
  funext a
  match a with
  | 0 => rfl
  | 1 => rfl
  | 2 => rfl
  | 3 => rfl

theorem v44_apply (b : Fin 4) (g : Fin 2) (r : Fin 4) (s : Fin 4096) (k : Fin 4097) :
    val_main_v44 (F := Ideal) x0 x2 x9 (ix5 b g r s k)
      = Ideal.exp (val_main_v37 (F := Ideal) x0 x2 x9 (ix5 b g r s k) - max (Ideal.ofBits FTy.f32 4286578688#32) (val_main_v38 (F := Ideal) x0 x2 x9 (ix4 b g r s))) := by
  rw [val_main_v44_apply, val_main_v43_apply, val_main_v42_apply, val_main_v41_apply, v41_idx, val_main_v40_apply, val_main_v39_apply, val_main_cst_6_apply]
  rfl

theorem neg_inf : Ideal.ofBits FTy.f32 4286578688#32 = (⊥ : EReal) := by simp [Ideal.ofBits, Ideal.ieee]
theorem word_eighth : Ideal.ofBits FTy.f32 1040187392#32 = ((1 / 8 : ℝ) : EReal) := by simp [Ideal.ofBits, Ideal.ieee, -EReal.coe_mul]; norm_num

/-- The score of the key `k` for the query `s` of head `4g + r`: within the window of 128 keys the product over 8 less the slope times the distance, −∞ outside. -/
def score (b : Fin 4) (g : Fin 2) (r : Fin 4) (s k : Fin 4096) : EReal :=
  if k.val ≤ s.val ∧ s.val < k.val + 128 then
    (∑ x : Fin 64, x2 (ix5 b g r s x) * x9 (ix4 b g k x)) * ((1 / 8 : ℝ) : EReal) - ((slope g.val r.val : ℝ) : EReal) * ((s.val - k.val : ℝ) : EReal)
  else ⊥

/-- The mask's word. -/
theorem v25_apply (s k : Fin 4096) : val_main_v25 (F := Ideal) (ix2 s k) = if k.val ≤ s.val ∧ s.val < k.val + 128 then 1#1 else 0#1 := by
  pointwise [val_main_v25, val_main_v24, val_main_v23, val_main_c_3, val_main_v22, val_main_v21, val_main_c_2, val_main_v20, val_main_v19, val_main_v18, val_main_v17, val_main_v16, val_main_v15, val_main_v14]
  have hs : (IntOp.subi (BitVec.ofNat 32 s.val) (BitVec.ofNat 32 k.val)).toInt = (s.val : ℤ) - k.val := by
    simp only [IntOp.subi]
    rw [BitVec.toInt_sub, WordCmp.toInt_ofNat_of_lt (by omega), WordCmp.toInt_ofNat_of_lt (by omega)]
    apply Int.bmod_eq_of_le <;> omega
  rw [WordCmp.cmpi_slt_eq, WordCmp.cmpi_sge_eq, hs]
  simp only [show (0#32 : BitVec 32).toInt = 0 from rfl, show (128#32 : BitVec 32).toInt = 128 from rfl]
  by_cases h1 : k.val ≤ s.val <;> by_cases h2 : s.val < k.val + 128
  · rw [if_pos ⟨h1, h2⟩, decide_eq_true (by omega), decide_eq_true (by omega)]; rfl
  · rw [if_neg (by omega), decide_eq_true (by omega), decide_eq_false (by omega)]; rfl
  · rw [if_neg (by omega), decide_eq_false (by omega), decide_eq_true (by omega)]; rfl
  · rw [if_neg (by omega), decide_eq_false (by omega), decide_eq_false (by omega)]; rfl

/-- One over a power of two: the slope. -/
theorem slope_word (g : Fin 2) (r : Fin 4) :
    Ideal.div 1 (FloatOps.sitofp (F := Ideal) FTy.f32 (IntOp.shli ArithUnit.host (1#32) (IntOp.addi (BitVec.ofNat 32 (g.val * 4 + r.val)) 1#32))) = ((slope g.val r.val : ℝ) : EReal) := by
  have h : IntOp.shli ArithUnit.host (1#32) (IntOp.addi (BitVec.ofNat 32 (g.val * 4 + r.val)) 1#32) = BitVec.ofNat 32 (2 ^ (4 * g.val + r.val + 1)) := by
    revert g r; decide +kernel
  have hb : 2 ^ (4 * g.val + r.val + 1) < 2 ^ 31 := Nat.pow_lt_pow_right (by omega) (by omega)
  rw [h, show FloatOps.sitofp (F := Ideal) FTy.f32 (BitVec.ofNat 32 (2 ^ (4 * g.val + r.val + 1))) = ((((BitVec.ofNat 32 (2 ^ (4 * g.val + r.val + 1))).toInt : ℤ) : ℝ) : EReal) from rfl,
    WordCmp.toInt_ofNat_of_lt hb, Ideal.div_coe (by positivity), one_mul, Cert.Attn.slope_eq]
  congr 1
  push_cast
  rw [one_div, one_div, inv_pow]

theorem v32_apply (b : Fin 4) (g : Fin 2) (r : Fin 4) (s k : Fin 4096) :
    val_main_v32 (F := Ideal) (ix5 b g r s k) = ((slope g.val r.val : ℝ) : EReal) * ((s.val - k.val : ℝ) : EReal) := by
  pointwise [val_main_v32, val_main_v31, val_main_v30, val_main_v29, val_main_v28, val_main_v27, val_main_v26, val_main_v8, val_main_v7, val_main_v6, val_main_v5, val_main_v4, val_main_v3, val_main_v2, val_main_v1, val_main_v0, val_main_c, val_main_c_0, val_main_cst, val_main_v20, val_main_v19, val_main_v18, val_main_v17, val_main_v16, val_main_v15, val_main_v14]
  rw [slope_word]
  congr 1
  have hs : (IntOp.subi (BitVec.ofNat 32 s.val) (BitVec.ofNat 32 k.val)).toInt = (s.val : ℤ) - k.val := by
    simp only [IntOp.subi]
    rw [BitVec.toInt_sub, WordCmp.toInt_ofNat_of_lt (by omega), WordCmp.toInt_ofNat_of_lt (by omega)]
    apply Int.bmod_eq_of_le <;> omega
  show ((((IntOp.subi (BitVec.ofNat 32 s.val) (BitVec.ofNat 32 k.val)).toInt : ℤ) : ℝ) : EReal) = _
  rw [hs]
  push_cast
  rfl

theorem v13_apply (b : Fin 4) (g : Fin 2) (r : Fin 4) (s k : Fin 4096) :
    val_main_v13 (F := Ideal) x2 x9 (ix5 b g r s k) = (∑ x : Fin 64, x2 (ix5 b g r s x) * x9 (ix4 b g k x)) * ((1 / 8 : ℝ) : EReal) := by
  pointwise [val_main_v13, val_main_v12, val_main_v11, val_main_v10, val_main_v9, val_main_cst_1]
  rw [word_eighth]

theorem v34_apply (b : Fin 4) (g : Fin 2) (r : Fin 4) (s k : Fin 4096) :
    val_main_v34 (F := Ideal) x2 x9 (ix5 b g r s k) = score x2 x9 b g r s k := by
  pointwise [val_main_v34, val_main_call0_v0, val_main_call0_v1, val_main_call0_v2, val_main_v33, val_main_cst_4]
  rw [v25_apply, v13_apply, v32_apply, score, id_eq, show constant (F := Ideal) S_ FTy.f32 4286578688#32 ix0 = Ideal.ofBits FTy.f32 4286578688#32 from rfl, neg_inf]
  by_cases h : k.val ≤ s.val ∧ s.val < k.val + 128
  · rw [if_pos h, if_pos h]; rfl
  · rw [if_neg h, if_neg h]; rfl

/-- The scores and, last, the sink. -/
theorem v37_apply (b : Fin 4) (g : Fin 2) (r : Fin 4) (s : Fin 4096) (k : Fin 4097) :
    val_main_v37 (F := Ideal) x0 x2 x9 (ix5 b g r s k) = if h : k.val < 4096 then score x2 x9 b g r s ⟨k.val, h⟩ else x0 (ix1 ⟨4 * g.val + r.val, by omega⟩) := by
  unfold val_main_v37
  pointwise [val_main_v36, val_main_v35]
  simp only [v34_apply, mul_comm g.val 4]

theorem fold_last (f : Fin 4097 → EReal) : Finset.univ.fold max ⊥ f = max (Finset.univ.fold max ⊥ fun k : Fin 4096 => f ⟨k.val, by omega⟩) (f ⟨4096, by omega⟩) := by
  show Finset.univ.sup f = max (Finset.univ.sup fun k : Fin 4096 => f ⟨k.val, by omega⟩) (f ⟨4096, by omega⟩)
  rw [Fin.univ_castSuccEmb, Finset.sup_cons, Finset.sup_map, max_comm]
  rfl

/-- The largest of the scores and the sink. -/
theorem v38_apply (b : Fin 4) (g : Fin 2) (r : Fin 4) (s : Fin 4096) :
    val_main_v38 (F := Ideal) x0 x2 x9 (ix4 b g r s) = top (score x2 x9 b g r s) (x0 (ix1 ⟨4 * g.val + r.val, by omega⟩)) := by
  pointwise [val_main_v38, val_main_cst_5]
  rw [neg_inf, fold_last]
  simp only [v37_apply, top, Fin.is_lt, dite_true, lt_irrefl, dite_false, Fin.eta]

/-- The exponentials. -/
theorem v44_key (b : Fin 4) (g : Fin 2) (r : Fin 4) (s k : Fin 4096) :
    val_main_v44 (F := Ideal) x0 x2 x9 (ix5 b g r s ⟨k.val, by omega⟩)
      = Ideal.exp (score x2 x9 b g r s k - top (score x2 x9 b g r s) (x0 (ix1 ⟨4 * g.val + r.val, by omega⟩))) := by
  rw [v44_apply, v37_apply, v38_apply, neg_inf, max_eq_right bot_le, dif_pos k.isLt]

theorem v44_sink (b : Fin 4) (g : Fin 2) (r : Fin 4) (s : Fin 4096) :
    val_main_v44 (F := Ideal) x0 x2 x9 (ix5 b g r s ⟨4096, by omega⟩)
      = Ideal.exp (x0 (ix1 ⟨4 * g.val + r.val, by omega⟩) - top (score x2 x9 b g r s) (x0 (ix1 ⟨4 * g.val + r.val, by omega⟩))) := by
  rw [v44_apply, v37_apply, v38_apply, neg_inf, max_eq_right bot_le, dif_neg (lt_irrefl 4096)]

theorem v45_apply (b : Fin 4) (g : Fin 2) (r : Fin 4) (s : Fin 4096) :
    val_main_v45 (F := Ideal) x0 x2 x9 (ix4 b g r s) = mass (score x2 x9 b g r s) (x0 (ix1 ⟨4 * g.val + r.val, by omega⟩)) := by
  pointwise [val_main_v45, val_main_cst_7]
  rw [Fin.sum_univ_castSucc]
  refine congrArg₂ (fun y z : EReal => y + z) (Finset.sum_congr rfl fun k _ => ?_) ?_
  · exact v44_key x0 x2 x9 b g r s k
  · exact v44_sink x0 x2 x9 b g r s

/-- The reference's result at query `s`, head `4g + r` and dimension `d`. -/
theorem out_apply (b : Fin 4) (g : Fin 2) (r : Fin 4) (d : Fin 64) (s : Fin 4096) (e : Fin 512) (he : e.val = 256 * g.val + 64 * r.val + d.val) :
    val_main_v58 (F := Ideal) x0 x2 x9 x10 x13 (ix3 b s e)
      = sinkSoftmax (score x2 x9 b g r s) (fun k => x10 (ix4 b g k d)) (x0 (ix1 ⟨4 * g.val + r.val, by omega⟩)) * x13 (ix3 b s e) := by
  pointwise [val_main_v58, val_main_v57, val_main_v56, val_main_v55, val_main_v54, val_main_v53, val_main_v52, val_main_v51, val_main_v50, val_main_v49, val_main_v48, val_main_v47, val_main_v46]
  have h1 : e.val / 256 = g.val := by omega
  have h2 : e.val / 64 % 4 = r.val := by omega
  have h3 : e.val % 64 = d.val := by omega
  simp only [h1, h2, h3, Fin.eta, v44_key, v45_apply, sinkSoftmax]

end Cert.ReferenceIdeal.Out
-- ==== Proof.Features.lean ====
/-
  The product of a key's row and a query's row of 128 features: 64 of the key and the query over 8, one of the key's block of 64 positions, one of its place in the
  block, and zeros.  It is the score of the key plus the slope times the key's position; a row of padding gives −∞.
-/
module

public import proofs.«01_k».proof.Proof.Attention

@[expose] public section

noncomputable section

namespace Cert.Attn

open Idealize.ShloMosaic

/-- A sum over 128 features: the first 64, the next two, and the rest. -/
theorem sum_features (F : Fin 128 → EReal) (h : ∀ f : Fin 128, 66 ≤ f.val → F f = 0) :
    ∑ f, F f = ∑ x : Fin 64, F ⟨x.val, by omega⟩ + (F ⟨64, by omega⟩ + F ⟨65, by omega⟩) := by
  rw [Fin.sum_univ_add (a := 64) (b := 64) F]
  refine congrArg₂ (fun y z : EReal => y + z) rfl ?_
  rw [Fin.sum_univ_succ (n := 63), Fin.sum_univ_succ (n := 62), Finset.sum_eq_zero fun i _ => ?_, add_zero]
  · rfl
  · exact h _ (by show 66 ≤ 64 + (i.val + 1 + 1); omega)

/-- A row of a key against a row of a query. -/
theorem features_key (k q : Fin 64 → EReal) (B O sl : ℝ) (K Q : Fin 128 → EReal)
    (hK : ∀ f, K f = if h : f.val < 64 then k ⟨f.val, h⟩ else if f.val = 64 then (B : EReal) else if f.val = 65 then (O : EReal) else 0)
    (hQ : ∀ f, Q f = if h : f.val < 64 then q ⟨f.val, h⟩ * ((1 / 8 : ℝ) : EReal) else if f.val = 64 then (sl : EReal) * ((64 : ℝ) : EReal) else if f.val = 65 then (sl : EReal) else 0) :
    ∑ f, K f * Q f = (∑ x, q x * k x) * ((1 / 8 : ℝ) : EReal) + ((sl * (64 * B + O) : ℝ) : EReal) := by
  rw [sum_features]
  · refine congrArg₂ (fun y z : EReal => y + z) ?_ ?_
    · rw [sum_mul _ _ (by exact_mod_cast (by norm_num : (0 : ℝ) ≤ 1 / 8)) (EReal.coe_ne_top _)]
      refine Finset.sum_congr rfl fun x _ => ?_
      rw [hK, hQ, dif_pos (by exact x.isLt), dif_pos (by exact x.isLt), mul_left_comm, mul_assoc, mul_left_comm]
    · rw [hK, hK, hQ, hQ]
      norm_num
      rw [← EReal.coe_mul, ← EReal.coe_mul]
      norm_cast
      ring
  · intro f hf
    rw [hK, dif_neg (by omega), if_neg (by omega), if_neg (by omega), zero_mul]

/-- A row of padding against a row of a query. -/
theorem features_pad (q : Fin 64 → EReal) (sl : ℝ) (hsl : 0 < sl) (K Q : Fin 128 → EReal)
    (hK : ∀ f, K f = if f.val = 64 then (⊥ : EReal) else 0)
    (hQ : ∀ f, Q f = if h : f.val < 64 then q ⟨f.val, h⟩ * ((1 / 8 : ℝ) : EReal) else if f.val = 64 then (sl : EReal) * ((64 : ℝ) : EReal) else if f.val = 65 then (sl : EReal) else 0) :
    ∑ f, K f * Q f = ⊥ := by
  rw [sum_features]
  · rw [hK ⟨64, by omega⟩, hQ ⟨64, by omega⟩, if_pos rfl, dif_neg (by simp), if_pos rfl, ← EReal.coe_mul, EReal.bot_mul_coe_of_pos (by positivity), EReal.bot_add, EReal.add_bot]
  · intro f hf
    rw [hK, if_neg (by omega), zero_mul]

/-- The score with its slope times the key's position, and the score less the slope times the distance: they differ by the slope times the query's position. -/
theorem position_shift (A : EReal) (sl p s k : ℝ) (h : p = k) : A + ((sl * p : ℝ) : EReal) = A - (sl : EReal) * ((s - k : ℝ) : EReal) + ((sl * s : ℝ) : EReal) := by
  subst h
  induction A using EReal.rec with
  | bot => simp
  | top => rw [EReal.top_add_coe, ← EReal.coe_mul, EReal.top_sub_coe, EReal.top_add_coe]
  | coe a => rw [← EReal.coe_mul, ← EReal.coe_add, ← EReal.coe_sub, ← EReal.coe_add]; congr 1; ring

end Cert.Attn
-- ==== Proof.KernelIdealOut.lean ====
/-
  The array of the sliding-window result after the run: each grid point writes its block, the block is the reference's result there, and the blocks cover the array.
-/
module

public import proofs.«01_k».proof.Proof.KernelIdealBlock
public import proofs.«01_k».proof.Proof.KernelIdealHost
public import proofs.«01_k».proof.Proof.ReferenceIdealOut
public import proofs.«01_k».proof.Proof.Features
public import Idealize.ShloMosaic.Lib.Pipeline.ValueKit

@[expose] public section

set_option maxRecDepth 16384

noncomputable section

namespace Cert.KernelIdeal.Out

open Cert.Attn (slope sinkAttention sinkSoftmax Windowed)
open Cert.KernelIdeal Cert.KernelIdeal.Gen Cert.KernelIdeal.Body Cert.KernelIdeal.Block Idealize.ShloMosaic Idealize.ShloMosaic.TcCoe Idealize.SL.Sem

variable (m : (ℓ : Loc nD τ sig) → Buf (Elt Ideal) ℓ) (c : Dev nD)

/-! ## The arguments -/

abbrev sinks : (⟨S8, .f32⟩ : BufTy).Contents (Elt Ideal) := m ((c : Thread nD τ).loc main_arg0)
abbrev queries : (⟨S4x2x4x4096x64, .bf16⟩ : BufTy).Contents (Elt Ideal) := m ((c : Thread nD τ).loc main_arg2)
abbrev keys : (⟨S4x2x4096x64, .bf16⟩ : BufTy).Contents (Elt Ideal) := m ((c : Thread nD τ).loc main_arg9)
abbrev values : (⟨S4x2x4096x64, .bf16⟩ : BufTy).Contents (Elt Ideal) := m ((c : Thread nD τ).loc main_arg10)
abbrev gate : (⟨S4x4096x512, .bf16⟩ : BufTy).Contents (Elt Ideal) := m ((c : Thread nD τ).loc main_arg13)

/-- The queries, the keys and the sinks are finite. -/
structure Finite : Prop where
  queries : ∀ i, queries m c i ≠ (⊤ : EReal) ∧ queries m c i ≠ (⊥ : EReal)
  keys : ∀ i, keys m c i ≠ (⊤ : EReal) ∧ keys m c i ≠ (⊥ : EReal)
  sinks : ∀ i, sinks m c i ≠ (⊤ : EReal) ∧ sinks m c i ≠ (⊥ : EReal)

/-! ## The blocks of the windows -/

theorem index0 : ∀ t : Fin cfg0.N, (cfg0.win 0).index t 0 = 0 := by decide +kernel
theorem index2 : ∀ t : Fin cfg0.N, (cfg0.win 2).index t 0 = (grid0.coords t 0).val ∧ (cfg0.win 2).index t 1 = (grid0.coords t 1).val ∧ (cfg0.win 2).index t 2 = 0
    ∧ (cfg0.win 2).index t 3 = (grid0.coords t 2).val ∧ (cfg0.win 2).index t 4 = 0 := by decide +kernel
theorem index9 : ∀ t : Fin cfg0.N, (cfg0.win 9).index t 0 = (grid0.coords t 0).val ∧ (cfg0.win 9).index t 1 = (grid0.coords t 1).val ∧ (cfg0.win 9).index t 2 = 0
    ∧ (cfg0.win 9).index t 3 = 0 := by decide +kernel
theorem index10 : ∀ t : Fin cfg0.N, (cfg0.win 10).index t 0 = (grid0.coords t 0).val ∧ (cfg0.win 10).index t 1 = (grid0.coords t 1).val ∧ (cfg0.win 10).index t 2 = 0
    ∧ (cfg0.win 10).index t 3 = 0 := by decide +kernel
theorem index14 : ∀ t : Fin cfg0.N, (cfg0.win 14).index t 0 = (grid0.coords t 0).val ∧ (cfg0.win 14).index t 1 = (grid0.coords t 2).val
    ∧ (cfg0.win 14).index t 2 = (grid0.coords t 1).val := by decide +kernel
theorem index16 : ∀ t : Fin cfg0.N, (cfg0.win 16).index t 0 = (grid0.coords t 0).val ∧ (cfg0.win 16).index t 1 = (grid0.coords t 2).val
    ∧ (cfg0.win 16).index t 2 = (grid0.coords t 1).val := by decide +kernel

variable (t : Fin cfg0.N)

/-- The batch, the group and the block of queries of a grid point. -/
abbrev batch : Fin 4 := grid0.coords t 0
abbrev group : Fin 2 := grid0.coords t 1
abbrev block : Fin 32 := grid0.coords t 2

/-- The position of the query `x` of the block. -/
abbrev pos (x : Fin 128) : Fin 4096 := ⟨128 * (block t).val + x.val, by have := (block t).isLt; omega⟩

theorem sinks_block (h : Fin 8) : iblk m c 0 t (ix1 h) = sinks m c (ix1 h) := by
  have e0 := index0 t
  blk_ext [iblk, V, e0]

theorem queries_block (r : Fin 4) (x : Fin 128) (f : Fin 128) :
    iblk m c 2 t (ix5 0 0 r x f) = V m c main_v102 (ix5 (batch t) (group t) r (pos t x) f) := by
  obtain ⟨e0, e1, e2, e3, e4⟩ := index2 t
  blk_ext [iblk, e0, e1, e2, e3, e4]
  all_goals first | rfl | exact congrArg (· + _) (Nat.mul_comm _ _)

theorem keys_block (p : Fin 4224) (f : Fin 128) : iblk m c 9 t (ix4 0 0 p f) = V m c main_v67 (ix4 (batch t) (group t) p f) := by
  obtain ⟨e0, e1, e2, e3⟩ := index9 t
  blk_ext [iblk, e0, e1, e2, e3]
  all_goals first | rfl | exact congrArg (· + _) (Nat.mul_comm _ _)

theorem values_block (d : Fin 64) (p : Fin 4224) : iblk m c 10 t (ix4 0 0 d p) = V m c main_v68 (ix4 (batch t) (group t) d p) := by
  obtain ⟨e0, e1, e2, e3⟩ := index10 t
  blk_ext [iblk, e0, e1, e2, e3]
  all_goals first | rfl | exact congrArg (· + _) (Nat.mul_comm _ _)

theorem gate_block (x : Fin 128) (e : Fin 256) :
    iblk m c 14 t (ix3 0 x e) = gate m c (ix3 (batch t) (pos t x) ⟨256 * (group t).val + e.val, by have := (group t).isLt; omega⟩) := by
  obtain ⟨e0, e1, e2⟩ := index14 t
  blk_ext [iblk, V, e0, e1, e2]
  all_goals first | rfl | exact congrArg (· + _) (Nat.mul_comm _ _)

/-! ## The scores of a block are the reference's, moved by a real number -/

theorem windowed (r : Fin 4) (x : Fin 128) :
    Windowed (128 * (block t).val) (blockScore (grid0.coords t) (iblk m c 2 t) (iblk m c 9 t) r x)
      (Cert.ReferenceIdeal.Out.score (queries m c) (keys m c) (batch t) (group t) r (pos t x)) (slope (group t).val r.val * (pos t x).val) where
  inside j k hjk := by
    have hj : ¬ 128 * (block t).val + j.val < 128 := by omega
    unfold blockScore
    simp only [keys_block, queries_block]
    rw [Cert.Attn.features_key (fun y => keys m c (ix4 (batch t) (group t) k y)) (fun y => queries m c (ix5 (batch t) (group t) r (pos t x) y))
      ((k.val / 64 : ℕ) : ℝ) ((k.val % 64 : ℕ) : ℝ) (slope (group t).val r.val) _ _ (fun f => ?_) (fun f => Host.queries_apply m c _ _ _ _ f)]
    · rw [Cert.Attn.position_shift _ _ _ ((pos t x).val : ℝ) (k.val : ℝ) (by exact_mod_cast Nat.div_add_mod k.val 64)]
      unfold Cert.ReferenceIdeal.Out.score keep
      have hx := x.isLt
      by_cases hk : k.val ≤ (pos t x).val ∧ (pos t x).val < k.val + 128
      · rw [if_pos hk, if_pos (by simp only at hk; omega), add_zero]
      · rw [if_neg hk, if_neg (by simp only at hk; omega), EReal.add_bot, EReal.bot_add]
    · have hk : 128 * (block t).val + j.val - 128 = k.val := by omega
      refine (Host.keys_apply m c _ _ _ f).trans ?_
      rw [if_neg hj]
      simp only [hk, Fin.eta]
  pad j hj := by
    unfold blockScore
    simp only [keys_block, queries_block]
    rw [Cert.Attn.features_pad (fun y => queries m c (ix5 (batch t) (group t) r (pos t x) y)) (slope (group t).val r.val) (by unfold Cert.Attn.slope; positivity) _ _
      (fun f => (Host.keys_apply m c _ _ _ f).trans (if_pos hj)) (fun f => Host.queries_apply m c _ _ _ _ f), EReal.bot_add]
  outside k hk := by
    unfold Cert.ReferenceIdeal.Out.score
    have hx := x.isLt
    rw [if_neg]
    simp only
    omega

/-- A score is below +∞. -/
theorem score_ne_top (hf : Finite m c) (b : Fin 4) (g : Fin 2) (r : Fin 4) (s k : Fin 4096) : Cert.ReferenceIdeal.Out.score (queries m c) (keys m c) b g r s k ≠ ⊤ := by
  unfold Cert.ReferenceIdeal.Out.score
  split
  · have hq (i) : queries m c i = (((queries m c i : EReal).toReal : ℝ) : EReal) := (EReal.coe_toReal (hf.queries i).1 (hf.queries i).2).symm
    have hk (i) : keys m c i = (((keys m c i : EReal).toReal : ℝ) : EReal) := (EReal.coe_toReal (hf.keys i).1 (hf.keys i).2).symm
    have hsum : ∃ a : ℝ, ∑ y : Fin 64, HMul.hMul (α := EReal) (β := EReal) (queries m c (ix5 b g r s y)) (keys m c (ix4 b g k y)) = (a : EReal) := by
      refine Finset.sum_induction _ (fun z : EReal => ∃ a : ℝ, z = (a : EReal)) ?_ ⟨0, rfl⟩ fun y _ =>
        ⟨(queries m c (ix5 b g r s y) : EReal).toReal * (keys m c (ix4 b g k y) : EReal).toReal, ?_⟩
      · rintro _ _ ⟨a, rfl⟩ ⟨b, rfl⟩
        exact ⟨a + b, (EReal.coe_add a b).symm⟩
      · rw [EReal.coe_mul, ← hq, ← hk]
    obtain ⟨a, ha⟩ := hsum
    rw [ha, ← EReal.coe_mul, ← EReal.coe_mul, ← EReal.coe_sub]
    exact EReal.coe_ne_top _
  · exact bot_ne_top

/-! ## The block, and the array -/

/-- What a grid point writes at query `x`, head `r` and dimension `d` is the reference's result there. -/
theorem block_eq (hf : Finite m c) (x : Fin 128) (r : Fin 4) (d : Fin 64) (e : Fin 256) (he : e.val = 64 * r.val + d.val) :
    outB (grid0.coords t) (iblk m c 0 t) (iblk m c 2 t) (iblk m c 9 t) (iblk m c 10 t) (iblk m c 14 t) (ix3 0 x e)
      = Cert.ReferenceIdeal.Read.val_main_v58 (F := Ideal) (sinks m c) (queries m c) (keys m c) (values m c) (gate m c)
          (ix3 (batch t) (pos t x) ⟨256 * (group t).val + e.val, by have := (group t).isLt; omega⟩) := by
  rw [outB_apply _ _ _ _ _ _ x r d e he, Cert.ReferenceIdeal.Out.out_apply _ _ _ _ _ (batch t) (group t) r d (pos t x) _ (by show 256 * _ + e.val = _; omega), gate_block]
  have hn := (block t).isLt
  refine congrArg₂ (fun y z : EReal => y * z) ?_ rfl
  refine Eq.trans ?_ ((windowed m c t r x).attention_eq (by omega) (score_ne_top m c hf _ _ _ _) (hf.sinks _).2 (hf.sinks _).1
    (fun j => iblk m c 10 t (ix4 0 0 d ⟨128 * (block t).val + j.val, by omega⟩)) _ (fun j k hjk => ?_))
  · rw [sinks_block]
    refine congrArg (fun y : EReal => sinkAttention _ _ (_ + y)) ?_
    show _ = (((slope (group t).val r.val * ((128 * (block t).val + x.val : ℕ) : ℝ) : ℝ)) : EReal)
    rw [EReal.coe_mul]
    push_cast
    rfl
  · have hk : 128 * (block t).val + j.val - 128 = k.val := by omega
    rw [values_block]
    refine (Host.values_apply m c _ _ d _ (by show 128 ≤ 128 * (block t).val + j.val; omega)).trans ?_
    simp only [hk, Fin.eta]

/-- The array after the run is the reference's result. -/
theorem out_array (hf : Finite m c) :
    (dats m 0 c).arrAt 16 cfg0.N = Cert.ReferenceIdeal.Read.val_main_v58 (F := Ideal) (sinks m c) (queries m c) (keys m c) (values m c) (gate m c) := by
  refine (dats m 0 c).arrAt_eq_of_covers 16 _ (by decide +kernel) fun t _ y => ?_
  obtain ⟨e0, e1, e2⟩ := index16 t
  blk_simp [e0, e1, e2]
  rw [after0_16]
  have h0 : (y 0).val < 1 := (y 0).isLt
  have h1 : (y 1).val < 128 := (y 1).isLt
  have h2 : (y 2).val < 256 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block_eq m c t hf ⟨(y 1).val, h1⟩ ⟨(y 2).val / 64, by omega⟩ ⟨(y 2).val % 64, by omega⟩ ⟨(y 2).val, h2⟩ (by show (y 2).val = 64 * ((y 2).val / 64) + (y 2).val % 64; omega)
  rw [← hy] at key
  refine key.trans (congrArg _ ?_)
  blk_ext [e0, e1, e2]
  all_goals first | rfl | exact congrArg (· + _) (Nat.mul_comm _ _)

end Cert.KernelIdeal.Out
-- ==== Proof.Finite.lean ====
/-
  What the precondition says over the extended reals: the queries, the keys and the sinks are neither +∞ nor −∞.
-/
module

public import proofs.«01_k».proof.Defs
public import proofs.«01_k».proof.Proof.Gen.Pre_scores_finite
public import proofs.«01_k».proof.Proof.KernelIdealOut

@[expose] public section

set_option maxRecDepth 16384

noncomputable section

namespace Cert.KernelIdeal.Out

open Cert.KernelIdeal Idealize.ShloMosaic Idealize.ShloMosaic.TcCoe Idealize.SL.Sem

/-- Two comparisons, with −∞ and with +∞, that both hold. -/
theorem between (x : EReal) (h : IntOp.andi (BitVec.ofBool (decide (Ideal.ofBits .f32 0xFF800000#32 < x))) (BitVec.ofBool (decide (x < Ideal.ofBits .f32 0x7F800000#32))) = 1#1) :
    x ≠ ⊤ ∧ x ≠ ⊥ := by
  have hb : Ideal.ofBits .f32 0xFF800000#32 = (⊥ : EReal) := by simp [Ideal.ofBits, Ideal.ieee]
  have ht : Ideal.ofBits .f32 0x7F800000#32 = (⊤ : EReal) := by simp [Ideal.ofBits, Ideal.ieee]
  rw [hb, ht] at h
  constructor
  · rintro rfl
    simp [IntOp.andi] at h
  · rintro rfl
    simp [IntOp.andi] at h

/-- The precondition. -/
theorem finite_of_pre (m : (ℓ : Loc nD τ sig) → Buf (Elt Ideal) ℓ) (h : Cert.Pre_KernelIdeal_scores_finite (hPre_scores_finite := Cert.Pre_scores_finite.Gen.facts) m) (c : Dev nD) : Finite m c where
  queries i := by
    have e := congrFun (h c).2.1 i
    pointwise [Cert.Pre_scores_finite.fn] at e
    exact between _ e
  keys i := by
    have e := congrFun (h c).2.2 i
    pointwise [Cert.Pre_scores_finite.fn] at e
    exact between _ e
  sinks i := by
    have e := congrFun (h c).1 i
    pointwise [Cert.Pre_scores_finite.fn] at e
    exact between _ e

end Cert.KernelIdeal.Out
-- ==== Proof.OutProj.lean ====
/-
  The output projection. What a grid point leaves in its block and what the reference computes are the same expression of a row: the merged products times
  the output weight, over the root of the mean of their squares, times the weight of the norm and the gate, added to the input. The blocks cover the array.
-/
module

public import proofs.«01_k».proof.Proof.Gen.Kernel2Ideal.Value
public import proofs.«01_k».proof.Proof.Gen.Reference2Ideal.Read
public import proofs.«01_k».proof.Proof.Gen.Reference2Ideal.Run
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.OutProj

open Idealize.ShloMosaic

/-- The two attentions of a row, each times its weight and its merge gate, added. -/
def merged (za zb : Fin 512 → EReal) (sa sb : Fin 1024 → EReal) (woa wob : Fin 512 → Fin 1024 → EReal) (k : Fin 1024) : EReal :=
  sa k * ∑ j, za j * woa j k + sb k * ∑ j, zb j * wob j k

/-- A row times a weight. -/
def times (y : Fin 1024 → EReal) (w : Fin 1024 → Fin 1024 → EReal) (e : Fin 1024) : EReal := ∑ k, y k * w k e

/-- A row over the root of the mean of its squares. -/
def normalised (y : Fin 1024 → EReal) (e : Fin 1024) : EReal :=
  y e * Ideal.rsqrt (Ideal.div (∑ k, y k * y k) (Ideal.ofBits FTy.f32 1149239296#32) + Ideal.ofBits FTy.f32 897988541#32)

end Cert.OutProj

namespace Cert.Reference2Ideal.Out

open Cert.OutProj
open Cert.Reference2Ideal Cert.Reference2Ideal.Gen Cert.Reference2Ideal.Read Idealize.ShloMosaic Idealize.ShloMosaic.TcCoe Idealize.SL.Sem

variable (x0 : (⟨S4x4096x1024, .f32⟩ : BufTy).Contents (Elt Ideal)) (x1 x2 : (⟨S4x4096x512, .bf16⟩ : BufTy).Contents (Elt Ideal))
  (x3 x4 : (⟨S4x4096x1024, .bf16⟩ : BufTy).Contents (Elt Ideal)) (x5 : (⟨S4x1024, .f32⟩ : BufTy).Contents (Elt Ideal))
  (x6 : (⟨S1024, .f32⟩ : BufTy).Contents (Elt Ideal)) (x7 x8 : (⟨S512x1024, .f32⟩ : BufTy).Contents (Elt Ideal))
  (x9 : (⟨S1024x1024, .f32⟩ : BufTy).Contents (Elt Ideal))

/-- The row of the merged products times the output weight. -/
abbrev row (b : Fin 4) (s : Fin 4096) : Fin 1024 → EReal :=
  times (merged (fun j => x1 (ix3 b s j)) (fun j => x2 (ix3 b s j)) (fun k => x3 (ix3 b s k)) (fun k => x4 (ix3 b s k))
    (fun j k => x7 (ix2 j k)) (fun j k => x8 (ix2 j k))) (fun k e => x9 (ix2 k e))

theorem v8_apply (b : Fin 4) (s : Fin 4096) (k : Fin 1024) :
    val_main_v8 (F := Ideal) x1 x2 x3 x4 x7 x8 (ix3 b s k)
      = merged (fun j => x1 (ix3 b s j)) (fun j => x2 (ix3 b s j)) (fun k => x3 (ix3 b s k)) (fun k => x4 (ix3 b s k))
          (fun j k => x7 (ix2 j k)) (fun j k => x8 (ix2 j k)) k := by
  pointwise [val_main_v8, val_main_v7, val_main_v6, val_main_v5, val_main_v4, val_main_v3, val_main_v2, val_main_v1, val_main_v0]
  rfl

theorem v9_apply (b : Fin 4) (s : Fin 4096) (e : Fin 1024) :
    val_main_v9 (F := Ideal) x1 x2 x3 x4 x7 x8 x9 (ix3 b s e) = row x1 x2 x3 x4 x7 x8 x9 b s e := by
  pointwise [val_main_v9]
  simp only [v8_apply]
  rfl

theorem out_apply (b : Fin 4) (s : Fin 4096) (e : Fin 1024) :
    val_main_v26 (F := Ideal) x0 x1 x2 x3 x4 x5 x6 x7 x8 x9 (ix3 b s e)
      = HAdd.hAdd (α := EReal) (β := EReal) (x0 (ix3 b s e)) (HMul.hMul (α := EReal) (β := EReal) (x5 (ix2 b e)) (normalised (row x1 x2 x3 x4 x7 x8 x9 b s) e * x6 (ix1 e))) := by
  pointwise [val_main_v26, val_main_v25, val_main_v24, val_main_v23, val_main_v22, val_main_v21, val_main_v20, val_main_v19, val_main_v18, val_main_v17, val_main_v16, val_main_v15,
    val_main_v14, val_main_v13, val_main_v12, val_main_v11, val_main_v10, val_main_cst, val_main_cst_0, val_main_cst_1]
  simp only [v9_apply]
  rfl

end Cert.Reference2Ideal.Out

namespace Cert.Kernel2Ideal.Out

open Cert.OutProj
open Cert.Kernel2Ideal Cert.Kernel2Ideal.Gen Idealize.ShloMosaic Idealize.ShloMosaic.TcCoe Idealize.SL.Sem

/-- The block at an index. -/
theorem block_apply (x0 : Vec Ideal S1x512x1024 .f32) (x1 : Vec Ideal S1x512x512 .bf16) (x2 : Vec Ideal S1x512x512 .bf16) (x3 : Vec Ideal S1x512x1024 .bf16) (x4 : Vec Ideal S1x512x1024 .bf16) (x5 : Vec Ideal S1x1x1024 .f32) (x6 : Vec Ideal S1x1024 .f32) (x7 : Vec Ideal S512x1024 .bf16) (x8 : Vec Ideal S512x1024 .bf16) (x9 : Vec Ideal S1024x1024 .bf16) (s : Fin 512) (e : Fin 1024) :
    out0_10 (F := Ideal) x0 x1 x2 x3 x4 x5 x6 x7 x8 x9 (ix3 0 s e)
      = x0 (ix3 0 s e) + x5 (ix3 0 0 e) * (normalised (times (merged (fun j => x1 (ix3 0 s j)) (fun j => x2 (ix3 0 s j)) (fun k => x3 (ix3 0 s k)) (fun k => x4 (ix3 0 s k))
          (fun j k => x7 (ix2 j k)) (fun j k => x8 (ix2 j k))) (fun k e => x9 (ix2 k e))) e * x6 (ix2 0 e)) := by
  unfold out0_10
  rw [View.canon_cons_unit_lit]
  · pointwise [k0_pay1, k0_pay2]
    rfl
  · intro a
    match a with
    | 0 => rfl
    | 1 => rfl
    | 2 => rfl

variable (m : (ℓ : Loc nD τ sig) → Buf (Elt Ideal) ℓ) (c : Dev nD)

abbrev a0 : (⟨S4x4096x1024, .f32⟩ : BufTy).Contents (Elt Ideal) := m ((c : Thread nD τ).loc main_arg0)
abbrev a1 : (⟨S4x4096x512, .bf16⟩ : BufTy).Contents (Elt Ideal) := m ((c : Thread nD τ).loc main_arg1)
abbrev a2 : (⟨S4x4096x512, .bf16⟩ : BufTy).Contents (Elt Ideal) := m ((c : Thread nD τ).loc main_arg2)
abbrev a3 : (⟨S4x4096x1024, .bf16⟩ : BufTy).Contents (Elt Ideal) := m ((c : Thread nD τ).loc main_arg3)
abbrev a4 : (⟨S4x4096x1024, .bf16⟩ : BufTy).Contents (Elt Ideal) := m ((c : Thread nD τ).loc main_arg4)
abbrev a5 : (⟨S4x1024, .f32⟩ : BufTy).Contents (Elt Ideal) := m ((c : Thread nD τ).loc main_arg5)
abbrev a6 : (⟨S1024, .f32⟩ : BufTy).Contents (Elt Ideal) := m ((c : Thread nD τ).loc main_arg6)
abbrev a7 : (⟨S512x1024, .f32⟩ : BufTy).Contents (Elt Ideal) := m ((c : Thread nD τ).loc main_arg7)
abbrev a8 : (⟨S512x1024, .f32⟩ : BufTy).Contents (Elt Ideal) := m ((c : Thread nD τ).loc main_arg8)
abbrev a9 : (⟨S1024x1024, .f32⟩ : BufTy).Contents (Elt Ideal) := m ((c : Thread nD τ).loc main_arg9)

/-! ## What the host prepares -/

theorem host_gate (b : Fin 4) (e : Fin 1024) : (V m c main_v0 : (⟨S4x1x1024, .f32⟩ : BufTy).Contents (Elt Ideal)) (ix3 b 0 e) = a5 m c (ix2 b e) := by
  unfold V
  simp only [hostOps0, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_gpost (e : Fin 1024) : (V m c main_v1 : (⟨S1x1024, .f32⟩ : BufTy).Contents (Elt Ideal)) (ix2 0 e) = a6 m c (ix1 e) := by
  unfold V
  simp only [hostOps0, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_woa (j : Fin 512) (e : Fin 1024) : (V m c main_v2 : (⟨S512x1024, .bf16⟩ : BufTy).Contents (Elt Ideal)) (ix2 j e) = a7 m c (ix2 j e) := by
  unfold V
  simp only [hostOps0, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_wob (j : Fin 512) (e : Fin 1024) : (V m c main_v3 : (⟨S512x1024, .bf16⟩ : BufTy).Contents (Elt Ideal)) (ix2 j e) = a8 m c (ix2 j e) := by
  unfold V
  simp only [hostOps0, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_wout (j : Fin 1024) (e : Fin 1024) : (V m c main_v4 : (⟨S1024x1024, .bf16⟩ : BufTy).Contents (Elt Ideal)) (ix2 j e) = a9 m c (ix2 j e) := by
  unfold V
  simp only [hostOps0, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

/-! ## The blocks of the windows -/

theorem index_rows : ∀ t : Fin cfg0.N, ((cfg0.win 0).index t 0 = (grid0.coords t 0).val ∧ (cfg0.win 0).index t 1 = (grid0.coords t 1).val ∧ (cfg0.win 0).index t 2 = 0)
    ∧ ((cfg0.win 1).index t 0 = (grid0.coords t 0).val ∧ (cfg0.win 1).index t 1 = (grid0.coords t 1).val ∧ (cfg0.win 1).index t 2 = 0)
    ∧ ((cfg0.win 2).index t 0 = (grid0.coords t 0).val ∧ (cfg0.win 2).index t 1 = (grid0.coords t 1).val ∧ (cfg0.win 2).index t 2 = 0)
    ∧ ((cfg0.win 3).index t 0 = (grid0.coords t 0).val ∧ (cfg0.win 3).index t 1 = (grid0.coords t 1).val ∧ (cfg0.win 3).index t 2 = 0)
    ∧ ((cfg0.win 4).index t 0 = (grid0.coords t 0).val ∧ (cfg0.win 4).index t 1 = (grid0.coords t 1).val ∧ (cfg0.win 4).index t 2 = 0)
    ∧ ((cfg0.win 10).index t 0 = (grid0.coords t 0).val ∧ (cfg0.win 10).index t 1 = (grid0.coords t 1).val ∧ (cfg0.win 10).index t 2 = 0) := by decide +kernel

theorem index_whole : ∀ t : Fin cfg0.N, ((cfg0.win 5).index t 0 = (grid0.coords t 0).val ∧ (cfg0.win 5).index t 1 = 0 ∧ (cfg0.win 5).index t 2 = 0)
    ∧ ((cfg0.win 6).index t 0 = 0 ∧ (cfg0.win 6).index t 1 = 0) ∧ ((cfg0.win 7).index t 0 = 0 ∧ (cfg0.win 7).index t 1 = 0)
    ∧ ((cfg0.win 8).index t 0 = 0 ∧ (cfg0.win 8).index t 1 = 0) ∧ ((cfg0.win 9).index t 0 = 0 ∧ (cfg0.win 9).index t 1 = 0) := by decide +kernel

variable (t : Fin cfg0.N)

abbrev batch : Fin 4 := grid0.coords t 0
abbrev block : Fin 8 := grid0.coords t 1

/-- The position of the row `x` of the block. -/
abbrev pos (x : Fin 512) : Fin 4096 := ⟨512 * (block t).val + x.val, by have := (block t).isLt; omega⟩

theorem x_block (x : Fin 512) (e : Fin 1024) : iblk m c 0 t (ix3 0 x e) = a0 m c (ix3 (batch t) (pos t x) e) := by
  obtain ⟨⟨e0, e1, e2⟩, -⟩ := index_rows t
  blk_ext [iblk, V, e0, e1, e2]
  all_goals first | rfl | exact congrArg (· + _) (Nat.mul_comm _ _)

theorem oza_block (x : Fin 512) (e : Fin 512) : iblk m c 1 t (ix3 0 x e) = a1 m c (ix3 (batch t) (pos t x) e) := by
  obtain ⟨-, ⟨e0, e1, e2⟩, -⟩ := index_rows t
  blk_ext [iblk, V, e0, e1, e2]
  all_goals first | rfl | exact congrArg (· + _) (Nat.mul_comm _ _)

theorem ozb_block (x : Fin 512) (e : Fin 512) : iblk m c 2 t (ix3 0 x e) = a2 m c (ix3 (batch t) (pos t x) e) := by
  obtain ⟨-, -, ⟨e0, e1, e2⟩, -⟩ := index_rows t
  blk_ext [iblk, V, e0, e1, e2]
  all_goals first | rfl | exact congrArg (· + _) (Nat.mul_comm _ _)

theorem sma_block (x : Fin 512) (e : Fin 1024) : iblk m c 3 t (ix3 0 x e) = a3 m c (ix3 (batch t) (pos t x) e) := by
  obtain ⟨-, -, -, ⟨e0, e1, e2⟩, -⟩ := index_rows t
  blk_ext [iblk, V, e0, e1, e2]
  all_goals first | rfl | exact congrArg (· + _) (Nat.mul_comm _ _)

theorem smb_block (x : Fin 512) (e : Fin 1024) : iblk m c 4 t (ix3 0 x e) = a4 m c (ix3 (batch t) (pos t x) e) := by
  obtain ⟨-, -, -, -, ⟨e0, e1, e2⟩, -⟩ := index_rows t
  blk_ext [iblk, V, e0, e1, e2]
  all_goals first | rfl | exact congrArg (· + _) (Nat.mul_comm _ _)

theorem gate_block (e : Fin 1024) : iblk m c 5 t (ix3 0 0 e) = a5 m c (ix2 (batch t) e) := by
  obtain ⟨⟨e0, e1, e2⟩, -⟩ := index_whole t
  refine Eq.trans (b := V m c main_v0 (ix3 (batch t) 0 e)) ?_ (host_gate m c _ e)
  blk_ext [iblk, e0, e1, e2]
  rfl

theorem gpost_block (e : Fin 1024) : iblk m c 6 t (ix2 0 e) = a6 m c (ix1 e) := by
  obtain ⟨-, ⟨e0, e1⟩, -⟩ := index_whole t
  refine Eq.trans (b := V m c main_v1 (ix2 0 e)) ?_ (host_gpost m c e)
  blk_ext [iblk, e0, e1]

theorem woa_block (j : Fin 512) (e : Fin 1024) : iblk m c 7 t (ix2 j e) = a7 m c (ix2 j e) := by
  obtain ⟨-, -, ⟨e0, e1⟩, -⟩ := index_whole t
  refine Eq.trans (b := V m c main_v2 (ix2 j e)) ?_ (host_woa m c j e)
  blk_ext [iblk, e0, e1]

theorem wob_block (j : Fin 512) (e : Fin 1024) : iblk m c 8 t (ix2 j e) = a8 m c (ix2 j e) := by
  obtain ⟨-, -, -, ⟨e0, e1⟩, -⟩ := index_whole t
  refine Eq.trans (b := V m c main_v3 (ix2 j e)) ?_ (host_wob m c j e)
  blk_ext [iblk, e0, e1]

theorem wout_block (j : Fin 1024) (e : Fin 1024) : iblk m c 9 t (ix2 j e) = a9 m c (ix2 j e) := by
  obtain ⟨-, -, -, -, ⟨e0, e1⟩⟩ := index_whole t
  refine Eq.trans (b := V m c main_v4 (ix2 j e)) ?_ (host_wout m c j e)
  blk_ext [iblk, e0, e1]

/-! ## The block, and the array -/

theorem block_eq (x : Fin 512) (e : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix3 0 x e)
      = Cert.Reference2Ideal.Read.val_main_v26 (F := Ideal) (a0 m c) (a1 m c) (a2 m c) (a3 m c) (a4 m c) (a5 m c) (a6 m c) (a7 m c) (a8 m c) (a9 m c) (ix3 (batch t) (pos t x) e) := by
  refine (block_apply _ _ _ _ _ _ _ _ _ _ x e).trans (Eq.trans ?_ (Cert.Reference2Ideal.Out.out_apply _ _ _ _ _ _ _ _ _ _ (batch t) (pos t x) e).symm)
  simp only [x_block, oza_block, ozb_block, sma_block, smb_block, gate_block, gpost_block, woa_block, wob_block, wout_block]

/-- The array after the run is the reference's result. -/
theorem out_array :
    (dats m 0 c).arrAt 10 cfg0.N = Cert.Reference2Ideal.Read.val_main_v26 (F := Ideal) (a0 m c) (a1 m c) (a2 m c) (a3 m c) (a4 m c) (a5 m c) (a6 m c) (a7 m c) (a8 m c) (a9 m c) := by
  refine (dats m 0 c).arrAt_eq_of_covers 10 _ (by decide +kernel) fun t _ y => ?_
  obtain ⟨-, -, -, -, -, ⟨e0, e1, e2⟩⟩ := index_rows t
  blk_simp [e0, e1, e2]
  rw [after0_10]
  have h0 : (y 0).val < 1 := (y 0).isLt
  have h1 : (y 1).val < 512 := (y 1).isLt
  have h2 : (y 2).val < 1024 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block_eq m c t ⟨(y 1).val, h1⟩ ⟨(y 2).val, h2⟩
  rw [← hy] at key
  refine key.trans (congrArg _ ?_)
  blk_ext [e0, e1, e2]
  all_goals first | rfl | exact congrArg (· + _) (Nat.mul_comm _ _)

end Cert.Kernel2Ideal.Out
-- ==== Proof.InProjReference.lean ====
/-
  What the reference of the input projection computes, at an index: each result is a column of the normalised, scaled and shifted row times the weight,
  with a factor, a silu or a sigmoid.
-/
module

public import proofs.«01_k».proof.Proof.Gen.Reference3Ideal.Read
public import proofs.«01_k».proof.Proof.Gen.Reference3Ideal.Run
public import Idealize.ShloMosaic.Lib.Claim
public import Idealize.ShloMosaic.Lib.Pointwise
public import Idealize.ShloMosaic.PureOps.Ideal

@[expose] public section

set_option maxRecDepth 16384

noncomputable section

namespace Cert.InProj

open Idealize.ShloMosaic

/-- A row over the root of the mean of its squares, times the weight of the norm, scaled and shifted. -/
def hidden (x g sc sh : Fin 1024 → EReal) (k : Fin 1024) : EReal :=
  x k * Ideal.rsqrt (Ideal.div (∑ j, x j * x j) (Ideal.ofBits FTy.f32 1149239296#32) + Ideal.ofBits FTy.f32 897988541#32) * g k * (1 + sc k) + sh k

/-- A row times a column of the weight. -/
def times (h w : Fin 1024 → EReal) : EReal := ∑ k, h k * w k

/-- The sigmoid. -/
def sigmoid (y : EReal) : EReal := Ideal.div 1 (1 + Ideal.exp (-y))

end Cert.InProj

namespace Cert.Reference3Ideal.Out

open Cert.InProj
open Cert.Reference3Ideal Cert.Reference3Ideal.Gen Cert.Reference3Ideal.Read Idealize.ShloMosaic Idealize.ShloMosaic.TcCoe Idealize.SL.Sem

variable (x0 : (⟨S4x4096x1024, .f32⟩ : BufTy).Contents (Elt Ideal)) (x1 x2 : (⟨S4x1024, .f32⟩ : BufTy).Contents (Elt Ideal))
  (x3 : (⟨S1024, .f32⟩ : BufTy).Contents (Elt Ideal)) (x4 : (⟨S1024x5144, .f32⟩ : BufTy).Contents (Elt Ideal))

/-- The row `s` of the batch `b`, as it is projected. -/
abbrev row (b : Fin 4) (s : Fin 4096) : Fin 1024 → EReal :=
  hidden (fun k => x0 (ix3 b s k)) (fun k => x3 (ix1 k)) (fun k => x2 (ix2 b k)) (fun k => x1 (ix2 b k))

/-- A column of the weight. -/
abbrev column (e : Fin 5144) (k : Fin 1024) : EReal := x4 (ix2 k e)

theorem v20_apply (b : Fin 4) (s : Fin 4096) (k : Fin 1024) :
    val_main_v20 (F := Ideal) x0 x1 x2 x3 (ix3 b s k) = row x0 x1 x2 x3 b s k := by
  pointwise [val_main_v20, val_main_v19, val_main_v18, val_main_v17, val_main_v16, val_main_v15, val_main_v14, val_main_v13, val_main_v12, val_main_v11, val_main_v10,
    val_main_v9, val_main_v8, val_main_v7, val_main_v6, val_main_v5, val_main_v4, val_main_v3, val_main_v2, val_main_v1, val_main_v0, val_main_cst, val_main_cst_0, val_main_cst_1, val_main_cst_2]
  rfl

theorem v21_apply (b : Fin 4) (s : Fin 4096) (e : Fin 5144) :
    val_main_v21 (F := Ideal) x0 x1 x2 x3 x4 (ix3 b s e) = times (row x0 x1 x2 x3 b s) (column x4 e) := by
  pointwise [val_main_v21]
  simp only [v20_apply]
  rfl

theorem v44_apply (b : Fin 4) (g : Fin 2) (r : Fin 4) (s : Fin 4096) (d : Fin 64) (e : Fin 5144) (he : e.val = 0 + 256 * g.val + 64 * r.val + d.val) :
    val_main_v44 (F := Ideal) x0 x1 x2 x3 x4 (ix5 b g r s d) = times (row x0 x1 x2 x3 b s) (column x4 e) * Ideal.ofBits FTy.f32 1040187392#32 := by
  pointwise [val_main_v44, val_main_v43, val_main_v42, val_main_v41, val_main_v40, val_main_v22, val_main_cst_3]
  rw [v21_apply]
  exact congrArg (fun e => times (row x0 x1 x2 x3 b s) (column x4 e) * Ideal.ofBits FTy.f32 1040187392#32) (Fin.ext (by simp only; omega))

theorem v49_apply (b : Fin 4) (g : Fin 2) (r : Fin 4) (s : Fin 4096) (d : Fin 64) (e : Fin 5144) (he : e.val = 1816 + 256 * g.val + 64 * r.val + d.val) :
    val_main_v49 (F := Ideal) x0 x1 x2 x3 x4 (ix5 b g r s d) = times (row x0 x1 x2 x3 b s) (column x4 e) * Ideal.ofBits FTy.f32 1040187392#32 := by
  pointwise [val_main_v49, val_main_v48, val_main_v47, val_main_v46, val_main_v45, val_main_v28, val_main_cst_4]
  rw [v21_apply]
  exact congrArg (fun e => times (row x0 x1 x2 x3 b s) (column x4 e) * Ideal.ofBits FTy.f32 1040187392#32) (Fin.ext (by simp only; omega))

theorem v52_apply (b : Fin 4) (g : Fin 2) (s : Fin 4096) (d : Fin 64) (e : Fin 5144) (he : e.val = 512 + 64 * g.val + d.val) :
    val_main_v52 (F := Ideal) x0 x1 x2 x3 x4 (ix4 b g s d) = times (row x0 x1 x2 x3 b s) (column x4 e) := by
  pointwise [val_main_v52, val_main_v51, val_main_v50, val_main_v32, val_main_v23]
  rw [v21_apply]
  exact congrArg (fun e => times (row x0 x1 x2 x3 b s) (column x4 e)) (Fin.ext (by simp only; omega))

theorem v55_apply (b : Fin 4) (g : Fin 2) (s : Fin 4096) (d : Fin 64) (e : Fin 5144) (he : e.val = 640 + 64 * g.val + d.val) :
    val_main_v55 (F := Ideal) x0 x1 x2 x3 x4 (ix4 b g s d) = times (row x0 x1 x2 x3 b s) (column x4 e) := by
  pointwise [val_main_v55, val_main_v54, val_main_v53, val_main_v33, val_main_v23]
  rw [v21_apply]
  exact congrArg (fun e => times (row x0 x1 x2 x3 b s) (column x4 e)) (Fin.ext (by simp only; omega))

theorem v58_apply (b : Fin 4) (g : Fin 2) (s : Fin 4096) (d : Fin 64) (e : Fin 5144) (he : e.val = 768 + 64 * g.val + d.val) :
    val_main_v58 (F := Ideal) x0 x1 x2 x3 x4 (ix4 b g s d) = times (row x0 x1 x2 x3 b s) (column x4 e) := by
  pointwise [val_main_v58, val_main_v57, val_main_v56, val_main_v34, val_main_v24]
  rw [v21_apply]
  exact congrArg (fun e => times (row x0 x1 x2 x3 b s) (column x4 e)) (Fin.ext (by simp only; omega))

theorem v62_apply (b : Fin 4) (g : Fin 2) (s : Fin 4096) (d : Fin 64) (e : Fin 5144) (he : e.val = 896 + 64 * g.val + d.val) :
    val_main_v62 (F := Ideal) x0 x1 x2 x3 x4 (ix4 b g d s) = times (row x0 x1 x2 x3 b s) (column x4 e) := by
  pointwise [val_main_v62, val_main_v61, val_main_v60, val_main_v59, val_main_v35, val_main_v24]
  rw [v21_apply]
  exact congrArg (fun e => times (row x0 x1 x2 x3 b s) (column x4 e)) (Fin.ext (by simp only; omega))

theorem v65_apply (b : Fin 4) (g : Fin 2) (s : Fin 4096) (d : Fin 64) (e : Fin 5144) (he : e.val = 1024 + 64 * g.val + d.val) :
    val_main_v65 (F := Ideal) x0 x1 x2 x3 x4 (ix4 b g s d) = times (row x0 x1 x2 x3 b s) (column x4 e) := by
  pointwise [val_main_v65, val_main_v64, val_main_v63, val_main_v36, val_main_v25]
  rw [v21_apply]
  exact congrArg (fun e => times (row x0 x1 x2 x3 b s) (column x4 e)) (Fin.ext (by simp only; omega))

theorem v69_apply (b : Fin 4) (g : Fin 2) (s : Fin 4096) (d : Fin 64) (e : Fin 5144) (he : e.val = 1152 + 64 * g.val + d.val) :
    val_main_v69 (F := Ideal) x0 x1 x2 x3 x4 (ix4 b g d s) = times (row x0 x1 x2 x3 b s) (column x4 e) := by
  pointwise [val_main_v69, val_main_v68, val_main_v67, val_main_v66, val_main_v37, val_main_v25]
  rw [v21_apply]
  exact congrArg (fun e => times (row x0 x1 x2 x3 b s) (column x4 e)) (Fin.ext (by simp only; omega))

theorem v72_apply (b : Fin 4) (g : Fin 2) (s : Fin 4096) (d : Fin 64) (e : Fin 5144) (he : e.val = 2328 + 64 * g.val + d.val) :
    val_main_v72 (F := Ideal) x0 x1 x2 x3 x4 (ix4 b g s d) = times (row x0 x1 x2 x3 b s) (column x4 e) := by
  pointwise [val_main_v72, val_main_v71, val_main_v70, val_main_v38, val_main_v29]
  rw [v21_apply]
  exact congrArg (fun e => times (row x0 x1 x2 x3 b s) (column x4 e)) (Fin.ext (by simp only; omega))

theorem v76_apply (b : Fin 4) (g : Fin 2) (s : Fin 4096) (d : Fin 64) (e : Fin 5144) (he : e.val = 2456 + 64 * g.val + d.val) :
    val_main_v76 (F := Ideal) x0 x1 x2 x3 x4 (ix4 b g d s) = times (row x0 x1 x2 x3 b s) (column x4 e) := by
  pointwise [val_main_v76, val_main_v75, val_main_v74, val_main_v73, val_main_v39, val_main_v29]
  rw [v21_apply]
  exact congrArg (fun e => times (row x0 x1 x2 x3 b s) (column x4 e)) (Fin.ext (by simp only; omega))

theorem v78_apply (b : Fin 4) (s : Fin 4096) (d : Fin 512) (e : Fin 5144) (he : e.val = 1304 + d.val) :
    val_main_v78 (F := Ideal) x0 x1 x2 x3 x4 (ix3 b s d) = times (row x0 x1 x2 x3 b s) (column x4 e) * sigmoid (times (row x0 x1 x2 x3 b s) (column x4 e)) := by
  pointwise [val_main_v78, val_main_v77, val_main_call0_cst, val_main_call0_cst_0, val_main_call0_v0, val_main_call0_v1, val_main_call0_v2, val_main_call0_v3, val_main_call0_v4, val_main_call0_v5, val_main_v27]
  rw [v21_apply, show (⟨_, _⟩ : Fin 5144) = e from Fin.ext (by simp only; omega)]
  rfl

theorem v80_apply (b : Fin 4) (s : Fin 4096) (d : Fin 512) (e : Fin 5144) (he : e.val = 2584 + d.val) :
    val_main_v80 (F := Ideal) x0 x1 x2 x3 x4 (ix3 b s d) = times (row x0 x1 x2 x3 b s) (column x4 e) * sigmoid (times (row x0 x1 x2 x3 b s) (column x4 e)) := by
  pointwise [val_main_v80, val_main_v79, val_main_call1_cst, val_main_call1_cst_0, val_main_call1_v0, val_main_call1_v1, val_main_call1_v2, val_main_call1_v3, val_main_call1_v4, val_main_call1_v5, val_main_v30]
  rw [v21_apply, show (⟨_, _⟩ : Fin 5144) = e from Fin.ext (by simp only; omega)]
  rfl

theorem v88_apply (b : Fin 4) (s : Fin 4096) (d : Fin 1024) (e : Fin 5144) (he : e.val = 3096 + d.val) :
    val_main_v88 (F := Ideal) x0 x1 x2 x3 x4 (ix3 b s d) = sigmoid (times (row x0 x1 x2 x3 b s) (column x4 e)) := by
  pointwise [val_main_v88, val_main_v87, val_main_v86, val_main_v85, val_main_v84, val_main_v83, val_main_v82, val_main_v81, val_main_v31, val_main_cst_10, val_main_cst_5, val_main_cst_6, val_main_cst_7, val_main_cst_8, val_main_cst_9]
  rw [v21_apply, show (⟨_, _⟩ : Fin 5144) = e from Fin.ext (by simp only; omega)]
  rfl

theorem v96_apply (b : Fin 4) (s : Fin 4096) (d : Fin 1024) (e : Fin 5144) (he : e.val = 4120 + d.val) :
    val_main_v96 (F := Ideal) x0 x1 x2 x3 x4 (ix3 b s d) = sigmoid (times (row x0 x1 x2 x3 b s) (column x4 e)) := by
  pointwise [val_main_v96, val_main_v95, val_main_v94, val_main_v93, val_main_v92, val_main_v91, val_main_v90, val_main_v89, val_main_v31, val_main_cst_10, val_main_cst_5, val_main_cst_6, val_main_cst_7, val_main_cst_8, val_main_cst_9]
  rw [v21_apply, show (⟨_, _⟩ : Fin 5144) = e from Fin.ext (by simp only; omega)]
  rfl

theorem v103_apply (b : Fin 4) (s : Fin 4096) (d : Fin 24) (e : Fin 5144) (he : e.val = 1280 + d.val) :
    val_main_v103 (F := Ideal) x0 x1 x2 x3 x4 (ix3 b d s) = sigmoid (times (row x0 x1 x2 x3 b s) (column x4 e)) := by
  pointwise [val_main_v103, val_main_v102, val_main_v101, val_main_v100, val_main_v99, val_main_v98, val_main_v97, val_main_v26, val_main_cst_10, val_main_cst_5, val_main_cst_6, val_main_cst_7, val_main_cst_8, val_main_cst_9]
  rw [v21_apply, show (⟨_, _⟩ : Fin 5144) = e from Fin.ext (by simp only; omega)]
  rfl

end Cert.Reference3Ideal.Out
-- ==== Proof.InProjBlock.lean ====
/-
  What a grid point of the input projection leaves in its blocks, at an index: a column of the hidden row times the arranged weight, plain, with a silu or
  with a sigmoid. The lanes past the sixty-fourth of a head hold features, which the host drops, so they are not read here.
-/
module

public import proofs.«01_k».proof.Proof.Gen.Kernel3Ideal.Frame
public import proofs.«01_k».proof.Proof.InProjReference
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Kernel3Ideal.Out

open Cert.InProj
open Cert.Kernel3Ideal Cert.Kernel3Ideal.Gen Idealize.ShloMosaic Idealize.ShloMosaic.TcCoe Idealize.SL.Sem

variable (i : grid0.Coords) (x0 : Vec Ideal S1x512x1024 .f32) (x1 : Vec Ideal S1x1x1024 .f32) (x2 : Vec Ideal S1x1x1024 .f32) (x3 : Vec Ideal S1x1024 .f32)
  (x4 : Vec Ideal S1024x5248 .bf16)

/-- The row `s` of the block, as it is projected. -/
abbrev brow (s : Fin 512) : Fin 1024 → EReal :=
  hidden (fun k => x0 (ix3 0 s k)) (fun k => x3 (ix2 0 k)) (fun k => x2 (ix3 0 0 k)) (fun k => x1 (ix3 0 0 k))

/-- A column of the arranged weight. -/
abbrev bcol (e : Fin 5248) (k : Fin 1024) : EReal := x4 (ix2 k e)

theorem pay72_apply (s : Fin 512) (k : Fin 1024) : k0_pay72 (F := Ideal) i x0 x1 x2 x3 x4 (ix2 s k) = brow x0 x1 x2 x3 s k := by
  unfold k0_pay72
  pointwise [k0_pay3]
  rfl

theorem pay9_apply (s : Fin 512) (j : Fin 1024) (e : Fin 5248) (he : e.val = 0 + j.val) :
    k0_pay9 (F := Ideal) (k0_pay72 i x0 x1 x2 x3 x4) (View.ld x4 r0_3) (ix2 s j) = times (brow x0 x1 x2 x3 s) (bcol x4 e) := by
  pointwise [k0_pay9]
  simp only [pay72_apply]
  exact congrArg (fun e => times (brow x0 x1 x2 x3 s) (bcol x4 e)) (Fin.ext (by simp only; omega))

theorem pay41_apply (s : Fin 512) (j : Fin 1024) (e : Fin 5248) (he : e.val = 1024 + j.val) :
    k0_pay41 (F := Ideal) (k0_pay72 i x0 x1 x2 x3 x4) (View.ld x4 r0_12) (ix2 s j) = times (brow x0 x1 x2 x3 s) (bcol x4 e) := by
  pointwise [k0_pay41]
  simp only [pay72_apply]
  exact congrArg (fun e => times (brow x0 x1 x2 x3 s) (bcol x4 e)) (Fin.ext (by simp only; omega))

theorem pay64_apply (s : Fin 512) (j : Fin 1024) (e : Fin 5248) (he : e.val = 2048 + j.val) :
    k0_pay64 (F := Ideal) (k0_pay72 i x0 x1 x2 x3 x4) (View.ld x4 r0_19) (ix2 s j) = times (brow x0 x1 x2 x3 s) (bcol x4 e) := by
  pointwise [k0_pay64]
  simp only [pay72_apply]
  exact congrArg (fun e => times (brow x0 x1 x2 x3 s) (bcol x4 e)) (Fin.ext (by simp only; omega))

theorem out15_apply (s d : Fin 512) (e : Fin 5248) (he : e.val = 2048 + d.val) :
    out0_15 (F := Ideal) i x0 x1 x2 x3 x4 (ix3 0 s d) = times (brow x0 x1 x2 x3 s) (bcol x4 e) * sigmoid (times (brow x0 x1 x2 x3 s) (bcol x4 e)) := by
  unfold out0_15
  rw [View.canon_cons_unit_lit]
  · unfold k0_pay84 k0_pay83
    pointwise [k0_pay67, k0_pay66, k0_pay65]
    rw [pay64_apply i x0 x1 x2 x3 x4 s _ e (by simp only; omega), zero_sub]
    rfl
  · intro a
    match a with
    | 0 => rfl
    | 1 => rfl
    | 2 => rfl

theorem out16_apply (s d : Fin 512) (e : Fin 5248) (he : e.val = 2560 + d.val) :
    out0_16 (F := Ideal) i x0 x1 x2 x3 x4 (ix3 0 s d) = times (brow x0 x1 x2 x3 s) (bcol x4 e) * sigmoid (times (brow x0 x1 x2 x3 s) (bcol x4 e)) := by
  unfold out0_16
  rw [View.canon_cons_unit_lit]
  · unfold k0_pay84 k0_pay83
    pointwise [k0_pay68, k0_pay66, k0_pay65]
    rw [pay64_apply i x0 x1 x2 x3 x4 s _ e (by simp only; omega), zero_sub]
    rfl
  · intro a
    match a with
    | 0 => rfl
    | 1 => rfl
    | 2 => rfl

theorem out17_apply (s : Fin 512) (d : Fin 1024) (e : Fin 5248) (he : e.val = 3072 + d.val) :
    out0_17 (F := Ideal) i x0 x1 x2 x3 x4 (ix3 0 s d) = sigmoid (times (brow x0 x1 x2 x3 s) (bcol x4 e)) := by
  unfold out0_17
  rw [View.canon_cons_unit_lit]
  · pointwise [k0_pay69]
    simp only [pay72_apply, zero_sub]
    exact congrArg (fun e => sigmoid (times (brow x0 x1 x2 x3 s) (bcol x4 e))) (Fin.ext (by simp only; omega))
  · intro a
    match a with
    | 0 => rfl
    | 1 => rfl
    | 2 => rfl

theorem out18_apply (s : Fin 512) (d : Fin 1024) (e : Fin 5248) (he : e.val = 4096 + d.val) :
    out0_18 (F := Ideal) i x0 x1 x2 x3 x4 (ix3 0 s d) = sigmoid (times (brow x0 x1 x2 x3 s) (bcol x4 e)) := by
  unfold out0_18
  rw [View.canon_cons_unit_lit]
  · pointwise [k0_pay1, k0_pay70]
    simp only [pay72_apply, zero_sub]
    exact congrArg (fun e => sigmoid (times (brow x0 x1 x2 x3 s) (bcol x4 e))) (Fin.ext (by simp only; omega))
  · intro a
    match a with
    | 0 => rfl
    | 1 => rfl
    | 2 => rfl

theorem out19_apply (s : Fin 512) (d : Fin 32) (e : Fin 5248) (he : e.val = 5120 + d.val) :
    out0_19 (F := Ideal) i x0 x1 x2 x3 x4 (ix3 0 d s) = sigmoid (times (brow x0 x1 x2 x3 s) (bcol x4 e)) := by
  unfold out0_19
  rw [View.canon_cons_unit_lit]
  · pointwise [k0_pay2]
    simp only [pay72_apply, zero_sub]
    exact congrArg (fun e => sigmoid (times (brow x0 x1 x2 x3 s) (bcol x4 e))) (Fin.ext (by simp only; omega))
  · intro a
    match a with
    | 0 => rfl
    | 1 => rfl
    | 2 => rfl

theorem out7_apply (g : Fin 2) (s : Fin 512) (d : Fin 64) (e : Fin 5248) (he : e.val = 1024 + 64 * g.val + d.val) :
    out0_7 (F := Ideal) i x0 x1 x2 x3 x4 (ix4 0 g s d) = times (brow x0 x1 x2 x3 s) (bcol x4 e) := by
  unfold out0_7
  canon_tiles x h
  · have hg : g.val = 1 + (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay48]
    exact pay41_apply i x0 x1 x2 x3 x4 s _ e (by simp only; omega)
  · have hg : g.val = (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    pointwise [k0_pay42]
    exact pay41_apply i x0 x1 x2 x3 x4 s _ e (by simp only; omega)

theorem out8_apply (g : Fin 2) (s : Fin 512) (d : Fin 64) (e : Fin 5248) (he : e.val = 1152 + 64 * g.val + d.val) :
    out0_8 (F := Ideal) i x0 x1 x2 x3 x4 (ix4 0 g s d) = times (brow x0 x1 x2 x3 s) (bcol x4 e) := by
  unfold out0_8
  canon_tiles x h
  · have hg : g.val = 1 + (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay49]
    exact pay41_apply i x0 x1 x2 x3 x4 s _ e (by simp only; omega)
  · have hg : g.val = (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    pointwise [k0_pay43]
    exact pay41_apply i x0 x1 x2 x3 x4 s _ e (by simp only; omega)

theorem out10_apply (g : Fin 2) (s : Fin 512) (d : Fin 64) (e : Fin 5248) (he : e.val = 1408 + 64 * g.val + d.val) :
    out0_10 (F := Ideal) i x0 x1 x2 x3 x4 (ix4 0 g d s) = times (brow x0 x1 x2 x3 s) (bcol x4 e) := by
  unfold out0_10
  canon_tiles x h
  · have hg : g.val = 1 + (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay61, k0_pay54]
    exact pay41_apply i x0 x1 x2 x3 x4 s _ e (by simp only; omega)
  · have hg : g.val = (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay57, k0_pay54]
    exact pay41_apply i x0 x1 x2 x3 x4 s _ e (by simp only; omega)

theorem out12_apply (g : Fin 2) (s : Fin 512) (d : Fin 64) (e : Fin 5248) (he : e.val = 1664 + 64 * g.val + d.val) :
    out0_12 (F := Ideal) i x0 x1 x2 x3 x4 (ix4 0 g d s) = times (brow x0 x1 x2 x3 s) (bcol x4 e) := by
  unfold out0_12
  canon_tiles x h
  · have hg : g.val = 1 + (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay62, k0_pay55]
    exact pay41_apply i x0 x1 x2 x3 x4 s _ e (by simp only; omega)
  · have hg : g.val = (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81
    pointwise [k0_pay59, k0_pay58, k0_pay55]
    exact pay41_apply i x0 x1 x2 x3 x4 s _ e (by simp only; omega)

theorem out14_apply (g : Fin 2) (s : Fin 512) (d : Fin 64) (e : Fin 5248) (he : e.val = 1920 + 64 * g.val + d.val) :
    out0_14 (F := Ideal) i x0 x1 x2 x3 x4 (ix4 0 g d s) = times (brow x0 x1 x2 x3 s) (bcol x4 e) := by
  unfold out0_14
  canon_tiles x h
  · have hg : g.val = 1 + (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay82 k0_pay81
    pointwise [k0_pay63, k0_pay56]
    exact pay41_apply i x0 x1 x2 x3 x4 s _ e (by simp only; omega)
  · have hg : g.val = (x 1).val := h1
    have hx : x = ix4 0 0 d s := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay82 k0_pay81
    pointwise [k0_pay60, k0_pay56]
    exact pay41_apply i x0 x1 x2 x3 x4 s _ e (by simp only; omega)

/-- The lanes of a head come from the product: they are below the sixty-fourth. -/
theorem lane_lt : ∀ d : Fin 128, d.val < 64 → IntOp.cmpi CmpIPredicate.slt (BitVec.ofNat 32 d.val) 64#32 = 1#1 := by decide +kernel

theorem out9_apply (g : Fin 2) (s : Fin 512) (d : Fin 128) (hd : d.val < 64) (e : Fin 5248) (he : e.val = 1280 + 64 * g.val + d.val) :
    out0_9 (F := Ideal) i x0 x1 x2 x3 x4 (ix4 0 g s d) = times (brow x0 x1 x2 x3 s) (bcol x4 e) := by
  unfold out0_9
  canon_tiles x h
  · have hg : g.val = 1 + (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81 k0_pay71
    pointwise [k0_pay51, k0_pay50]
    rw [lane_lt d hd]
    exact pay41_apply i x0 x1 x2 x3 x4 s _ e (by simp only; omega)
  · have hg : g.val = (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay71
    pointwise [k0_pay45, k0_pay44]
    rw [lane_lt d hd]
    exact pay41_apply i x0 x1 x2 x3 x4 s _ e (by simp only; omega)

theorem out11_apply (g : Fin 2) (s : Fin 512) (d : Fin 128) (hd : d.val < 64) (e : Fin 5248) (he : e.val = 1536 + 64 * g.val + d.val) :
    out0_11 (F := Ideal) i x0 x1 x2 x3 x4 (ix4 0 g s d) = times (brow x0 x1 x2 x3 s) (bcol x4 e) := by
  unfold out0_11
  canon_tiles x h
  · have hg : g.val = 1 + (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81 k0_pay71
    pointwise [k0_pay52]
    rw [lane_lt d hd]
    exact pay41_apply i x0 x1 x2 x3 x4 s _ e (by simp only; omega)
  · have hg : g.val = (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81 k0_pay71
    pointwise [k0_pay46]
    rw [lane_lt d hd]
    exact pay41_apply i x0 x1 x2 x3 x4 s _ e (by simp only; omega)

theorem out13_apply (g : Fin 2) (s : Fin 512) (d : Fin 128) (hd : d.val < 64) (e : Fin 5248) (he : e.val = 1792 + 64 * g.val + d.val) :
    out0_13 (F := Ideal) i x0 x1 x2 x3 x4 (ix4 0 g s d) = times (brow x0 x1 x2 x3 s) (bcol x4 e) := by
  unfold out0_13
  canon_tiles x h
  · have hg : g.val = 1 + (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81 k0_pay71
    pointwise [k0_pay53]
    rw [lane_lt d hd]
    exact pay41_apply i x0 x1 x2 x3 x4 s _ e (by simp only; omega)
  · have hg : g.val = (x 1).val := h1
    have hx : x = ix4 0 0 s d := by
      funext a
      match a with
      | ⟨0, _⟩ => exact Fin.ext (by show (x 0).val = 0; omega)
      | ⟨1, _⟩ => exact Fin.ext (by show (x 1).val = 0; omega)
      | ⟨2, _⟩ => exact Fin.ext h2.symm
      | ⟨3, _⟩ => exact Fin.ext h3.symm
    rw [hx]
    unfold k0_pay81 k0_pay71
    pointwise [k0_pay47]
    rw [lane_lt d hd]
    exact pay41_apply i x0 x1 x2 x3 x4 s _ e (by simp only; omega)

theorem out5_apply (g : Fin 2) (r : Fin 4) (s : Fin 512) (d : Fin 128) (hd : d.val < 64) (e : Fin 5248) (he : e.val = 0 + 256 * g.val + 64 * r.val + d.val) :
    out0_5 (F := Ideal) i x0 x1 x2 x3 x4 (ix5 0 g r s d) = times (brow x0 x1 x2 x3 s) (bcol x4 e) := by
  unfold out0_5
  canon_tiles x h
  · have hg : g.val = 1 + (x 1).val := h1
    have hr : r.val = 3 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay39, k0_pay38]
    rw [lane_lt d hd]
    exact pay9_apply i x0 x1 x2 x3 x4 s _ e (by simp only; omega)
  · have hg : g.val = 1 + (x 1).val := h1
    have hr : r.val = 2 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay35]
    rw [lane_lt d hd]
    exact pay9_apply i x0 x1 x2 x3 x4 s _ e (by simp only; omega)
  · have hg : g.val = 1 + (x 1).val := h1
    have hr : r.val = 1 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay28]
    rw [lane_lt d hd]
    exact pay9_apply i x0 x1 x2 x3 x4 s _ e (by simp only; omega)
  · have hg : g.val = 1 + (x 1).val := h1
    have hr : r.val = (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay24, k0_pay23]
    rw [lane_lt d hd]
    exact pay9_apply i x0 x1 x2 x3 x4 s _ e (by simp only; omega)
  · have hg : g.val = (x 1).val := h1
    have hr : r.val = 3 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay21]
    rw [lane_lt d hd]
    exact pay9_apply i x0 x1 x2 x3 x4 s _ e (by simp only; omega)
  · have hg : g.val = (x 1).val := h1
    have hr : r.val = 2 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay18]
    rw [lane_lt d hd]
    exact pay9_apply i x0 x1 x2 x3 x4 s _ e (by simp only; omega)
  · have hg : g.val = (x 1).val := h1
    have hr : r.val = 1 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay75 k0_pay74 k0_pay71
    pointwise [k0_pay15, k0_pay13, k0_pay14]
    rw [lane_lt d hd]
    exact pay9_apply i x0 x1 x2 x3 x4 s _ e (by simp only; omega)
  · have hg : g.val = (x 1).val := h1
    have hr : r.val = (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay71
    pointwise [k0_pay11]
    rw [lane_lt d hd]
    exact pay9_apply i x0 x1 x2 x3 x4 s _ e (by simp only; omega)

theorem out6_apply (g : Fin 2) (r : Fin 4) (s : Fin 512) (d : Fin 128) (hd : d.val < 64) (e : Fin 5248) (he : e.val = 512 + 256 * g.val + 64 * r.val + d.val) :
    out0_6 (F := Ideal) i x0 x1 x2 x3 x4 (ix5 0 g r s d) = times (brow x0 x1 x2 x3 s) (bcol x4 e) := by
  unfold out0_6
  canon_tiles x h
  · have hg : g.val = 1 + (x 1).val := h1
    have hr : r.val = 3 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay40]
    rw [lane_lt d hd]
    exact pay9_apply i x0 x1 x2 x3 x4 s _ e (by simp only; omega)
  · have hg : g.val = 1 + (x 1).val := h1
    have hr : r.val = 2 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay36]
    rw [lane_lt d hd]
    exact pay9_apply i x0 x1 x2 x3 x4 s _ e (by simp only; omega)
  · have hg : g.val = 1 + (x 1).val := h1
    have hr : r.val = 1 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay29]
    rw [lane_lt d hd]
    exact pay9_apply i x0 x1 x2 x3 x4 s _ e (by simp only; omega)
  · have hg : g.val = 1 + (x 1).val := h1
    have hr : r.val = (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay26, k0_pay25, k0_pay23]
    rw [lane_lt d hd]
    exact pay9_apply i x0 x1 x2 x3 x4 s _ e (by simp only; omega)
  · have hg : g.val = (x 1).val := h1
    have hr : r.val = 3 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay22]
    rw [lane_lt d hd]
    exact pay9_apply i x0 x1 x2 x3 x4 s _ e (by simp only; omega)
  · have hg : g.val = (x 1).val := h1
    have hr : r.val = 2 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay74 k0_pay71
    pointwise [k0_pay19]
    rw [lane_lt d hd]
    exact pay9_apply i x0 x1 x2 x3 x4 s _ e (by simp only; omega)
  · have hg : g.val = (x 1).val := h1
    have hr : r.val = 1 + (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay75 k0_pay74 k0_pay71
    pointwise [k0_pay16, k0_pay13, k0_pay14]
    rw [lane_lt d hd]
    exact pay9_apply i x0 x1 x2 x3 x4 s _ e (by simp only; omega)
  · have hg : g.val = (x 1).val := h1
    have hr : r.val = (x 2).val := h2
    have hx : x = ix5 0 0 0 s d := by
      funext a
      match a with
      | ⟨0, _⟩ => exact Fin.ext (by show (x 0).val = 0; omega)
      | ⟨1, _⟩ => exact Fin.ext (by show (x 1).val = 0; omega)
      | ⟨2, _⟩ => exact Fin.ext (by show (x 2).val = 0; omega)
      | ⟨3, _⟩ => exact Fin.ext h3.symm
      | ⟨4, _⟩ => exact Fin.ext h4.symm
    rw [hx]
    unfold k0_pay71
    pointwise [k0_pay12]
    rw [lane_lt d hd]
    exact pay9_apply i x0 x1 x2 x3 x4 s _ e (by simp only; omega)

end Cert.Kernel3Ideal.Out
-- ==== Proof.InProjHost.lean ====
/-
  What the host prepares for the input projection, at an index: the shift, the scale and the weight of the norm under unit axes, and the weight with its
  columns arranged, the two queries' columns times an eighth.
-/
module

public import proofs.«01_k».proof.Proof.Gen.Kernel3Ideal.Frame
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable (m : (ℓ : Loc nD τ sig) → Buf (Elt Ideal) ℓ) (c : Dev nD)

abbrev a0 : (⟨S4x4096x1024, .f32⟩ : BufTy).Contents (Elt Ideal) := m ((c : Thread nD τ).loc main_arg0)
abbrev a1 : (⟨S4x1024, .f32⟩ : BufTy).Contents (Elt Ideal) := m ((c : Thread nD τ).loc main_arg1)
abbrev a2 : (⟨S4x1024, .f32⟩ : BufTy).Contents (Elt Ideal) := m ((c : Thread nD τ).loc main_arg2)
abbrev a3 : (⟨S1024, .f32⟩ : BufTy).Contents (Elt Ideal) := m ((c : Thread nD τ).loc main_arg3)
abbrev a4 : (⟨S1024x5144, .f32⟩ : BufTy).Contents (Elt Ideal) := m ((c : Thread nD τ).loc main_arg4)

theorem host_shift (b : Fin 4) (k : Fin 1024) : (V m c main_v0 : (⟨S4x1x1024, .f32⟩ : BufTy).Contents (Elt Ideal)) (ix3 b 0 k) = a1 m c (ix2 b k) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_scale (b : Fin 4) (k : Fin 1024) : (V m c main_v1 : (⟨S4x1x1024, .f32⟩ : BufTy).Contents (Elt Ideal)) (ix3 b 0 k) = a2 m c (ix2 b k) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_gpre (k : Fin 1024) : (V m c main_v2 : (⟨S1x1024, .f32⟩ : BufTy).Contents (Elt Ideal)) (ix2 0 k) = a3 m c (ix1 k) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

set_option maxHeartbeats 4000000 in
theorem host_qa (k : Fin 1024) (j : Fin 5248) (e : Fin 5144) (h1 : 0 ≤ j.val) (h2 : j.val < 512) (he : e.val + 0 = j.val + 0) :
    (V m c main_v19 : (⟨S1024x5248, .bf16⟩ : BufTy).Contents (Elt Ideal)) (ix2 k j) = HMul.hMul (α := EReal) (β := EReal) (a4 m c (ix2 k e)) (Ideal.ofBits FTy.f32 1040187392#32) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_pos]
  · after_results_simp
    pointwise
    exact congrArg (fun e => HMul.hMul (α := EReal) (β := EReal) (a4 m c (ix2 k e)) (Ideal.ofBits FTy.f32 1040187392#32)) (Fin.ext (by simp only; omega))
  all_goals (intros; omega)

set_option maxHeartbeats 4000000 in
theorem host_qb (k : Fin 1024) (j : Fin 5248) (e : Fin 5144) (h1 : 512 ≤ j.val) (h2 : j.val < 1024) (he : e.val + 512 = j.val + 1816) :
    (V m c main_v19 : (⟨S1024x5248, .bf16⟩ : BufTy).Contents (Elt Ideal)) (ix2 k j) = HMul.hMul (α := EReal) (β := EReal) (a4 m c (ix2 k e)) (Ideal.ofBits FTy.f32 1040187392#32) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_pos]
  · after_results_simp
    pointwise
    exact congrArg (fun e => HMul.hMul (α := EReal) (β := EReal) (a4 m c (ix2 k e)) (Ideal.ofBits FTy.f32 1040187392#32)) (Fin.ext (by simp only; omega))
  all_goals (intros; omega)

set_option maxHeartbeats 4000000 in
theorem host_kvc (k : Fin 1024) (j : Fin 5248) (e : Fin 5144) (h1 : 1024 ≤ j.val) (h2 : j.val < 1280) (he : e.val + 1024 = j.val + 512) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_pos]
  · after_results_simp
    pointwise
    exact congrArg (fun e => a4 m c (ix2 k e)) (Fin.ext (by simp only; omega))
  all_goals (intros; omega)

set_option maxHeartbeats 4000000 in
theorem host_kvs (k : Fin 1024) (j : Fin 5248) (e : Fin 5144) (h1 : 1280 ≤ j.val) (h2 : j.val < 1536) (he : e.val + 1280 = j.val + 768) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_pos]
  · after_results_simp
    pointwise
    exact congrArg (fun e => a4 m c (ix2 k e)) (Fin.ext (by simp only; omega))
  all_goals (intros; omega)

set_option maxHeartbeats 4000000 in
theorem host_kvw (k : Fin 1024) (j : Fin 5248) (e : Fin 5144) (h1 : 1536 ≤ j.val) (h2 : j.val < 1792) (he : e.val + 1536 = j.val + 1024) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_pos]
  · after_results_simp
    pointwise
    exact congrArg (fun e => a4 m c (ix2 k e)) (Fin.ext (by simp only; omega))
  all_goals (intros; omega)

set_option maxHeartbeats 4000000 in
theorem host_kvb (k : Fin 1024) (j : Fin 5248) (e : Fin 5144) (h1 : 1792 ≤ j.val) (h2 : j.val < 2048) (he : e.val + 1792 = j.val + 2328) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_neg, dif_pos]
  · after_results_simp
    pointwise
    exact congrArg (fun e => a4 m c (ix2 k e)) (Fin.ext (by simp only; omega))
  all_goals (intros; omega)

set_option maxHeartbeats 4000000 in
theorem host_za (k : Fin 1024) (j : Fin 5248) (e : Fin 5144) (h1 : 2048 ≤ j.val) (h2 : j.val < 2560) (he : e.val + 2048 = j.val + 1304) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_neg, dif_neg, dif_pos]
  · after_results_simp
    pointwise
    exact congrArg (fun e => a4 m c (ix2 k e)) (Fin.ext (by simp only; omega))
  all_goals (intros; omega)

set_option maxHeartbeats 4000000 in
theorem host_zb (k : Fin 1024) (j : Fin 5248) (e : Fin 5144) (h1 : 2560 ≤ j.val) (h2 : j.val < 3072) (he : e.val + 2560 = j.val + 2584) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_neg, dif_neg, dif_neg, dif_pos]
  · after_results_simp
    pointwise
    exact congrArg (fun e => a4 m c (ix2 k e)) (Fin.ext (by simp only; omega))
  all_goals (intros; omega)

set_option maxHeartbeats 4000000 in
theorem host_m (k : Fin 1024) (j : Fin 5248) (e : Fin 5144) (h1 : 3072 ≤ j.val) (h2 : j.val < 5120) (he : e.val + 3072 = j.val + 3096) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_neg, dif_neg, dif_neg, dif_neg, dif_pos]
  · after_results_simp
    pointwise
    exact congrArg (fun e => a4 m c (ix2 k e)) (Fin.ext (by simp only; omega))
  all_goals (intros; omega)

set_option maxHeartbeats 4000000 in
theorem host_gate (k : Fin 1024) (j : Fin 5248) (e : Fin 5144) (h1 : 5120 ≤ j.val) (h2 : j.val < 5144) (he : e.val + 5120 = j.val + 1280) :
    (V m c main_v19 : (⟨S1024x5248, .bf16⟩ : BufTy).Contents (Elt Ideal)) (ix2 k j) = a4 m c (ix2 k e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  rw [dif_neg, dif_neg, dif_neg, dif_neg, dif_neg, dif_neg, dif_neg, dif_neg, dif_neg]
  · after_results_simp
    pointwise
    rw [dif_pos (by omega)]
    exact congrArg (fun e => a4 m c (ix2 k e)) (Fin.ext (by simp only; omega))
  all_goals (intros; omega)

end Cert.Kernel3Ideal.Out
-- ==== Proof.InProjOut.lean ====
/-
  The results of the input projection: what a grid point leaves in its blocks is the reference's result there, and the blocks cover the arrays. Of an array
  whose heads are followed by features the first sixty-four lanes are read, of the gates' array the first twenty-four rows.
-/
module

public import proofs.«01_k».proof.Proof.Gen.Kernel3Ideal.Frame
public import proofs.«01_k».proof.Proof.InProjReference
public import proofs.«01_k».proof.Proof.InProjBlock
public import proofs.«01_k».proof.Proof.InProjHost
public import proofs.«01_k».proof.Proof.Attention
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Kernel3Ideal.Out

open Cert.InProj
open Cert.Reference3Ideal.Out (row column)
open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The blocks of the windows -/

theorem index_in : ∀ t : Fin cfg0.N, ((cfg0.win 0).index t 0 = (grid0.coords t 0).val ∧ (cfg0.win 0).index t 1 = (grid0.coords t 1).val ∧ (cfg0.win 0).index t 2 = 0)
    ∧ ((cfg0.win 1).index t 0 = (grid0.coords t 0).val ∧ (cfg0.win 1).index t 1 = 0 ∧ (cfg0.win 1).index t 2 = 0)
    ∧ ((cfg0.win 2).index t 0 = (grid0.coords t 0).val ∧ (cfg0.win 2).index t 1 = 0 ∧ (cfg0.win 2).index t 2 = 0)
    ∧ ((cfg0.win 3).index t 0 = 0 ∧ (cfg0.win 3).index t 1 = 0) ∧ ((cfg0.win 4).index t 0 = 0 ∧ (cfg0.win 4).index t 1 = 0) := by decide +kernel

variable (t : Fin cfg0.N)

abbrev batch : Fin 4 := grid0.coords t 0
abbrev block : Fin 8 := grid0.coords t 1

/-- The position of the row `x` of the block. -/
abbrev pos (x : Fin 512) : Fin 4096 := ⟨512 * (block t).val + x.val, by have := (block t).isLt; omega⟩

theorem x_block (x : Fin 512) (k : Fin 1024) : iblk m c 0 t (ix3 0 x k) = a0 m c (ix3 (batch t) (pos t x) k) := by
  obtain ⟨⟨e0, e1, e2⟩, -⟩ := index_in t
  refine Eq.trans (b := V m c main_arg0 (ix3 (batch t) (pos t x) k)) ?_ (congrFun (V_main_arg0 m c) _)
  blk_ext [iblk, e0, e1, e2]
  all_goals first | rfl | exact congrArg (· + _) (Nat.mul_comm _ _)

theorem shift_block (k : Fin 1024) : iblk m c 1 t (ix3 0 0 k) = a1 m c (ix2 (batch t) k) := by
  obtain ⟨-, ⟨e0, e1, e2⟩, -⟩ := index_in t
  refine Eq.trans (b := V m c main_v0 (ix3 (batch t) 0 k)) ?_ (host_shift m c _ k)
  blk_ext [iblk, e0, e1, e2]
  rfl

theorem scale_block (k : Fin 1024) : iblk m c 2 t (ix3 0 0 k) = a2 m c (ix2 (batch t) k) := by
  obtain ⟨-, -, ⟨e0, e1, e2⟩, -⟩ := index_in t
  refine Eq.trans (b := V m c main_v1 (ix3 (batch t) 0 k)) ?_ (host_scale m c _ k)
  blk_ext [iblk, e0, e1, e2]
  rfl

theorem gpre_block (k : Fin 1024) : iblk m c 3 t (ix2 0 k) = a3 m c (ix1 k) := by
  obtain ⟨-, -, -, ⟨e0, e1⟩, -⟩ := index_in t
  refine Eq.trans (b := V m c main_v2 (ix2 0 k)) ?_ (host_gpre m c k)
  blk_ext [iblk, e0, e1]

theorem w_block (k : Fin 1024) (j : Fin 5248) : iblk m c 4 t (ix2 k j) = V m c main_v19 (ix2 k j) := by
  obtain ⟨-, -, -, -, ⟨e0, e1⟩⟩ := index_in t
  blk_ext [iblk, e0, e1]

/-- The block's row is the reference's. -/
theorem brow_eq (s : Fin 512) :
    brow (iblk m c 0 t) (iblk m c 1 t) (iblk m c 2 t) (iblk m c 3 t) s = row (a0 m c) (a1 m c) (a2 m c) (a3 m c) (batch t) (pos t s) := by
  unfold brow row
  simp only [x_block, shift_block, scale_block, gpre_block]

/-- A factor of a column comes out of the product. -/
theorem times_eighth (h w : Fin 1024 → EReal) :
    times h (fun k => w k * Ideal.ofBits FTy.f32 1040187392#32) = times h w * Ideal.ofBits FTy.f32 1040187392#32 := by
  have e : Ideal.ofBits FTy.f32 1040187392#32 = ((1 / 8 : ℝ) : EReal) := by
    simp [Ideal.ofBits, Ideal.ieee, -EReal.coe_mul]
    norm_num
  unfold times
  rw [Cert.Attn.sum_mul _ _ (by rw [e]; exact_mod_cast (by norm_num : (0 : ℝ) ≤ 1 / 8)) (by rw [e]; exact EReal.coe_ne_top _)]
  exact Finset.sum_congr rfl fun k _ => (mul_assoc _ _ _).symm

/-! ## The blocks -/

theorem block5 (g : Fin 2) (r : Fin 4) (s : Fin 512) (l : Fin 128) (d : Fin 64) (hl : l.val = d.val) :
    out0_5 (F := Ideal) (grid0.coords t) (iblk m c 0 t) (iblk m c 1 t) (iblk m c 2 t) (iblk m c 3 t) (iblk m c 4 t) (ix5 0 g r s l) = Cert.Reference3Ideal.Read.val_main_v44 (F := Ideal) (a0 m c) (a1 m c) (a2 m c) (a3 m c) (a4 m c) (ix5 (batch t) g r (pos t s) d) := by
  refine (out5_apply _ _ _ _ _ _ g r s l (by omega) ⟨0 + 256 * g.val + 64 * r.val + l.val, by omega⟩ rfl).trans ?_
  rw [Cert.Reference3Ideal.Out.v44_apply _ _ _ _ _ (batch t) g r (pos t s) d ⟨0 + 256 * g.val + 64 * r.val + d.val, by omega⟩ rfl, brow_eq, ← times_eighth]
  exact congrArg (times _) (funext fun k => (w_block m c t k _).trans (host_qa m c k _ ⟨0 + 256 * g.val + 64 * r.val + d.val, by omega⟩ (by simp only; omega) (by simp only; omega) (by simp only; omega)))

theorem block6 (g : Fin 2) (r : Fin 4) (s : Fin 512) (l : Fin 128) (d : Fin 64) (hl : l.val = d.val) :
    out0_6 (F := Ideal) (grid0.coords t) (iblk m c 0 t) (iblk m c 1 t) (iblk m c 2 t) (iblk m c 3 t) (iblk m c 4 t) (ix5 0 g r s l) = Cert.Reference3Ideal.Read.val_main_v49 (F := Ideal) (a0 m c) (a1 m c) (a2 m c) (a3 m c) (a4 m c) (ix5 (batch t) g r (pos t s) d) := by
  refine (out6_apply _ _ _ _ _ _ g r s l (by omega) ⟨512 + 256 * g.val + 64 * r.val + l.val, by omega⟩ rfl).trans ?_
  rw [Cert.Reference3Ideal.Out.v49_apply _ _ _ _ _ (batch t) g r (pos t s) d ⟨1816 + 256 * g.val + 64 * r.val + d.val, by omega⟩ rfl, brow_eq, ← times_eighth]
  exact congrArg (times _) (funext fun k => (w_block m c t k _).trans (host_qb m c k _ ⟨1816 + 256 * g.val + 64 * r.val + d.val, by omega⟩ (by simp only; omega) (by simp only; omega) (by simp only; omega)))

theorem block7 (g : Fin 2) (s : Fin 512) (d : Fin 64) :
    out0_7 (F := Ideal) (grid0.coords t) (iblk m c 0 t) (iblk m c 1 t) (iblk m c 2 t) (iblk m c 3 t) (iblk m c 4 t) (ix4 0 g s d) = Cert.Reference3Ideal.Read.val_main_v52 (F := Ideal) (a0 m c) (a1 m c) (a2 m c) (a3 m c) (a4 m c) (ix4 (batch t) g (pos t s) d) := by
  refine (out7_apply _ _ _ _ _ _ g s d ⟨1024 + 64 * g.val + d.val, by omega⟩ rfl).trans ?_
  rw [Cert.Reference3Ideal.Out.v52_apply _ _ _ _ _ (batch t) g (pos t s) d ⟨512 + 64 * g.val + d.val, by omega⟩ rfl, brow_eq]
  exact congrArg (times _) (funext fun k => (w_block m c t k _).trans (host_kvc m c k _ ⟨512 + 64 * g.val + d.val, by omega⟩ (by simp only; omega) (by simp only; omega) (by simp only; omega)))

theorem block8 (g : Fin 2) (s : Fin 512) (d : Fin 64) :
    out0_8 (F := Ideal) (grid0.coords t) (iblk m c 0 t) (iblk m c 1 t) (iblk m c 2 t) (iblk m c 3 t) (iblk m c 4 t) (ix4 0 g s d) = Cert.Reference3Ideal.Read.val_main_v55 (F := Ideal) (a0 m c) (a1 m c) (a2 m c) (a3 m c) (a4 m c) (ix4 (batch t) g (pos t s) d) := by
  refine (out8_apply _ _ _ _ _ _ g s d ⟨1152 + 64 * g.val + d.val, by omega⟩ rfl).trans ?_
  rw [Cert.Reference3Ideal.Out.v55_apply _ _ _ _ _ (batch t) g (pos t s) d ⟨640 + 64 * g.val + d.val, by omega⟩ rfl, brow_eq]
  exact congrArg (times _) (funext fun k => (w_block m c t k _).trans (host_kvc m c k _ ⟨640 + 64 * g.val + d.val, by omega⟩ (by simp only; omega) (by simp only; omega) (by simp only; omega)))

theorem block9 (g : Fin 2) (s : Fin 512) (l : Fin 128) (d : Fin 64) (hl : l.val = d.val) :
    out0_9 (F := Ideal) (grid0.coords t) (iblk m c 0 t) (iblk m c 1 t) (iblk m c 2 t) (iblk m c 3 t) (iblk m c 4 t) (ix4 0 g s l) = Cert.Reference3Ideal.Read.val_main_v58 (F := Ideal) (a0 m c) (a1 m c) (a2 m c) (a3 m c) (a4 m c) (ix4 (batch t) g (pos t s) d) := by
  refine (out9_apply _ _ _ _ _ _ g s l (by omega) ⟨1280 + 64 * g.val + l.val, by omega⟩ rfl).trans ?_
  rw [Cert.Reference3Ideal.Out.v58_apply _ _ _ _ _ (batch t) g (pos t s) d ⟨768 + 64 * g.val + d.val, by omega⟩ rfl, brow_eq]
  exact congrArg (times _) (funext fun k => (w_block m c t k _).trans (host_kvs m c k _ ⟨768 + 64 * g.val + d.val, by omega⟩ (by simp only; omega) (by simp only; omega) (by simp only; omega)))

theorem block10 (g : Fin 2) (s : Fin 512) (d : Fin 64) :
    out0_10 (F := Ideal) (grid0.coords t) (iblk m c 0 t) (iblk m c 1 t) (iblk m c 2 t) (iblk m c 3 t) (iblk m c 4 t) (ix4 0 g d s) = Cert.Reference3Ideal.Read.val_main_v62 (F := Ideal) (a0 m c) (a1 m c) (a2 m c) (a3 m c) (a4 m c) (ix4 (batch t) g d (pos t s)) := by
  refine (out10_apply _ _ _ _ _ _ g s d ⟨1408 + 64 * g.val + d.val, by omega⟩ rfl).trans ?_
  rw [Cert.Reference3Ideal.Out.v62_apply _ _ _ _ _ (batch t) g (pos t s) d ⟨896 + 64 * g.val + d.val, by omega⟩ rfl, brow_eq]
  exact congrArg (times _) (funext fun k => (w_block m c t k _).trans (host_kvs m c k _ ⟨896 + 64 * g.val + d.val, by omega⟩ (by simp only; omega) (by simp only; omega) (by simp only; omega)))

theorem block11 (g : Fin 2) (s : Fin 512) (l : Fin 128) (d : Fin 64) (hl : l.val = d.val) :
    out0_11 (F := Ideal) (grid0.coords t) (iblk m c 0 t) (iblk m c 1 t) (iblk m c 2 t) (iblk m c 3 t) (iblk m c 4 t) (ix4 0 g s l) = Cert.Reference3Ideal.Read.val_main_v65 (F := Ideal) (a0 m c) (a1 m c) (a2 m c) (a3 m c) (a4 m c) (ix4 (batch t) g (pos t s) d) := by
  refine (out11_apply _ _ _ _ _ _ g s l (by omega) ⟨1536 + 64 * g.val + l.val, by omega⟩ rfl).trans ?_
  rw [Cert.Reference3Ideal.Out.v65_apply _ _ _ _ _ (batch t) g (pos t s) d ⟨1024 + 64 * g.val + d.val, by omega⟩ rfl, brow_eq]
  exact congrArg (times _) (funext fun k => (w_block m c t k _).trans (host_kvw m c k _ ⟨1024 + 64 * g.val + d.val, by omega⟩ (by simp only; omega) (by simp only; omega) (by simp only; omega)))

theorem block12 (g : Fin 2) (s : Fin 512) (d : Fin 64) :
    out0_12 (F := Ideal) (grid0.coords t) (iblk m c 0 t) (iblk m c 1 t) (iblk m c 2 t) (iblk m c 3 t) (iblk m c 4 t) (ix4 0 g d s) = Cert.Reference3Ideal.Read.val_main_v69 (F := Ideal) (a0 m c) (a1 m c) (a2 m c) (a3 m c) (a4 m c) (ix4 (batch t) g d (pos t s)) := by
  refine (out12_apply _ _ _ _ _ _ g s d ⟨1664 + 64 * g.val + d.val, by omega⟩ rfl).trans ?_
  rw [Cert.Reference3Ideal.Out.v69_apply _ _ _ _ _ (batch t) g (pos t s) d ⟨1152 + 64 * g.val + d.val, by omega⟩ rfl, brow_eq]
  exact congrArg (times _) (funext fun k => (w_block m c t k _).trans (host_kvw m c k _ ⟨1152 + 64 * g.val + d.val, by omega⟩ (by simp only; omega) (by simp only; omega) (by simp only; omega)))

theorem block13 (g : Fin 2) (s : Fin 512) (l : Fin 128) (d : Fin 64) (hl : l.val = d.val) :
    out0_13 (F := Ideal) (grid0.coords t) (iblk m c 0 t) (iblk m c 1 t) (iblk m c 2 t) (iblk m c 3 t) (iblk m c 4 t) (ix4 0 g s l) = Cert.Reference3Ideal.Read.val_main_v72 (F := Ideal) (a0 m c) (a1 m c) (a2 m c) (a3 m c) (a4 m c) (ix4 (batch t) g (pos t s) d) := by
  refine (out13_apply _ _ _ _ _ _ g s l (by omega) ⟨1792 + 64 * g.val + l.val, by omega⟩ rfl).trans ?_
  rw [Cert.Reference3Ideal.Out.v72_apply _ _ _ _ _ (batch t) g (pos t s) d ⟨2328 + 64 * g.val + d.val, by omega⟩ rfl, brow_eq]
  exact congrArg (times _) (funext fun k => (w_block m c t k _).trans (host_kvb m c k _ ⟨2328 + 64 * g.val + d.val, by omega⟩ (by simp only; omega) (by simp only; omega) (by simp only; omega)))

theorem block14 (g : Fin 2) (s : Fin 512) (d : Fin 64) :
    out0_14 (F := Ideal) (grid0.coords t) (iblk m c 0 t) (iblk m c 1 t) (iblk m c 2 t) (iblk m c 3 t) (iblk m c 4 t) (ix4 0 g d s) = Cert.Reference3Ideal.Read.val_main_v76 (F := Ideal) (a0 m c) (a1 m c) (a2 m c) (a3 m c) (a4 m c) (ix4 (batch t) g d (pos t s)) := by
  refine (out14_apply _ _ _ _ _ _ g s d ⟨1920 + 64 * g.val + d.val, by omega⟩ rfl).trans ?_
  rw [Cert.Reference3Ideal.Out.v76_apply _ _ _ _ _ (batch t) g (pos t s) d ⟨2456 + 64 * g.val + d.val, by omega⟩ rfl, brow_eq]
  exact congrArg (times _) (funext fun k => (w_block m c t k _).trans (host_kvb m c k _ ⟨2456 + 64 * g.val + d.val, by omega⟩ (by simp only; omega) (by simp only; omega) (by simp only; omega)))

theorem block15 (s : Fin 512) (d : Fin 512) :
    out0_15 (F := Ideal) (grid0.coords t) (iblk m c 0 t) (iblk m c 1 t) (iblk m c 2 t) (iblk m c 3 t) (iblk m c 4 t) (ix3 0 s d) = Cert.Reference3Ideal.Read.val_main_v78 (F := Ideal) (a0 m c) (a1 m c) (a2 m c) (a3 m c) (a4 m c) (ix3 (batch t) (pos t s) d) := by
  refine (out15_apply _ _ _ _ _ _ s d ⟨2048 + d.val, by omega⟩ rfl).trans ?_
  rw [Cert.Reference3Ideal.Out.v78_apply _ _ _ _ _ (batch t) (pos t s) d ⟨1304 + d.val, by omega⟩ rfl, brow_eq]
  have hw : bcol (iblk m c 4 t) ⟨2048 + d.val, by omega⟩ = column (a4 m c) ⟨1304 + d.val, by omega⟩ :=
    funext fun k => (w_block m c t k _).trans (host_za m c k _ ⟨1304 + d.val, by omega⟩ (by simp only; omega) (by simp only; omega) (by simp only; omega))
  rw [hw]

theorem block16 (s : Fin 512) (d : Fin 512) :
    out0_16 (F := Ideal) (grid0.coords t) (iblk m c 0 t) (iblk m c 1 t) (iblk m c 2 t) (iblk m c 3 t) (iblk m c 4 t) (ix3 0 s d) = Cert.Reference3Ideal.Read.val_main_v80 (F := Ideal) (a0 m c) (a1 m c) (a2 m c) (a3 m c) (a4 m c) (ix3 (batch t) (pos t s) d) := by
  refine (out16_apply _ _ _ _ _ _ s d ⟨2560 + d.val, by omega⟩ rfl).trans ?_
  rw [Cert.Reference3Ideal.Out.v80_apply _ _ _ _ _ (batch t) (pos t s) d ⟨2584 + d.val, by omega⟩ rfl, brow_eq]
  have hw : bcol (iblk m c 4 t) ⟨2560 + d.val, by omega⟩ = column (a4 m c) ⟨2584 + d.val, by omega⟩ :=
    funext fun k => (w_block m c t k _).trans (host_zb m c k _ ⟨2584 + d.val, by omega⟩ (by simp only; omega) (by simp only; omega) (by simp only; omega))
  rw [hw]

theorem block17 (s : Fin 512) (d : Fin 1024) :
    out0_17 (F := Ideal) (grid0.coords t) (iblk m c 0 t) (iblk m c 1 t) (iblk m c 2 t) (iblk m c 3 t) (iblk m c 4 t) (ix3 0 s d) = Cert.Reference3Ideal.Read.val_main_v88 (F := Ideal) (a0 m c) (a1 m c) (a2 m c) (a3 m c) (a4 m c) (ix3 (batch t) (pos t s) d) := by
  refine (out17_apply _ _ _ _ _ _ s d ⟨3072 + d.val, by omega⟩ rfl).trans ?_
  rw [Cert.Reference3Ideal.Out.v88_apply _ _ _ _ _ (batch t) (pos t s) d ⟨3096 + d.val, by omega⟩ rfl, brow_eq]
  have hw : bcol (iblk m c 4 t) ⟨3072 + d.val, by omega⟩ = column (a4 m c) ⟨3096 + d.val, by omega⟩ :=
    funext fun k => (w_block m c t k _).trans (host_m m c k _ ⟨3096 + d.val, by omega⟩ (by simp only; omega) (by simp only; omega) (by simp only; omega))
  rw [hw]

theorem block18 (s : Fin 512) (d : Fin 1024) :
    out0_18 (F := Ideal) (grid0.coords t) (iblk m c 0 t) (iblk m c 1 t) (iblk m c 2 t) (iblk m c 3 t) (iblk m c 4 t) (ix3 0 s d) = Cert.Reference3Ideal.Read.val_main_v96 (F := Ideal) (a0 m c) (a1 m c) (a2 m c) (a3 m c) (a4 m c) (ix3 (batch t) (pos t s) d) := by
  refine (out18_apply _ _ _ _ _ _ s d ⟨4096 + d.val, by omega⟩ rfl).trans ?_
  rw [Cert.Reference3Ideal.Out.v96_apply _ _ _ _ _ (batch t) (pos t s) d ⟨4120 + d.val, by omega⟩ rfl, brow_eq]
  have hw : bcol (iblk m c 4 t) ⟨4096 + d.val, by omega⟩ = column (a4 m c) ⟨4120 + d.val, by omega⟩ :=
    funext fun k => (w_block m c t k _).trans (host_m m c k _ ⟨4120 + d.val, by omega⟩ (by simp only; omega) (by simp only; omega) (by simp only; omega))
  rw [hw]

theorem block19 (s : Fin 512) (l : Fin 32) (d : Fin 24) (hl : l.val = d.val) :
    out0_19 (F := Ideal) (grid0.coords t) (iblk m c 0 t) (iblk m c 1 t) (iblk m c 2 t) (iblk m c 3 t) (iblk m c 4 t) (ix3 0 l s) = Cert.Reference3Ideal.Read.val_main_v103 (F := Ideal) (a0 m c) (a1 m c) (a2 m c) (a3 m c) (a4 m c) (ix3 (batch t) d (pos t s)) := by
  refine (out19_apply _ _ _ _ _ _ s l ⟨5120 + l.val, by omega⟩ rfl).trans ?_
  rw [Cert.Reference3Ideal.Out.v103_apply _ _ _ _ _ (batch t) (pos t s) d ⟨1280 + d.val, by omega⟩ rfl, brow_eq]
  have hw : bcol (iblk m c 4 t) ⟨5120 + l.val, by omega⟩ = column (a4 m c) ⟨1280 + d.val, by omega⟩ :=
    funext fun k => (w_block m c t k _).trans (host_gate m c k _ ⟨1280 + d.val, by omega⟩ (by simp only; omega) (by simp only; omega) (by simp only; omega))
  rw [hw]

/-! ## The arrays -/

theorem index_out : ∀ t : Fin cfg0.N, ((cfg0.win 5).index t 0 = (grid0.coords t 0).val ∧ (cfg0.win 5).index t 1 = 0 ∧ (cfg0.win 5).index t 2 = 0 ∧ (cfg0.win 5).index t 3 = (grid0.coords t 1).val ∧ (cfg0.win 5).index t 4 = 0)
    ∧ ((cfg0.win 6).index t 0 = (grid0.coords t 0).val ∧ (cfg0.win 6).index t 1 = 0 ∧ (cfg0.win 6).index t 2 = 0 ∧ (cfg0.win 6).index t 3 = (grid0.coords t 1).val ∧ (cfg0.win 6).index t 4 = 0)
    ∧ ((cfg0.win 7).index t 0 = (grid0.coords t 0).val ∧ (cfg0.win 7).index t 1 = 0 ∧ (cfg0.win 7).index t 2 = (grid0.coords t 1).val ∧ (cfg0.win 7).index t 3 = 0)
    ∧ ((cfg0.win 8).index t 0 = (grid0.coords t 0).val ∧ (cfg0.win 8).index t 1 = 0 ∧ (cfg0.win 8).index t 2 = (grid0.coords t 1).val ∧ (cfg0.win 8).index t 3 = 0)
    ∧ ((cfg0.win 9).index t 0 = (grid0.coords t 0).val ∧ (cfg0.win 9).index t 1 = 0 ∧ (cfg0.win 9).index t 2 = (grid0.coords t 1).val ∧ (cfg0.win 9).index t 3 = 0)
    ∧ ((cfg0.win 10).index t 0 = (grid0.coords t 0).val ∧ (cfg0.win 10).index t 1 = 0 ∧ (cfg0.win 10).index t 2 = 0 ∧ (cfg0.win 10).index t 3 = (grid0.coords t 1).val)
    ∧ ((cfg0.win 11).index t 0 = (grid0.coords t 0).val ∧ (cfg0.win 11).index t 1 = 0 ∧ (cfg0.win 11).index t 2 = (grid0.coords t 1).val ∧ (cfg0.win 11).index t 3 = 0)
    ∧ ((cfg0.win 12).index t 0 = (grid0.coords t 0).val ∧ (cfg0.win 12).index t 1 = 0 ∧ (cfg0.win 12).index t 2 = 0 ∧ (cfg0.win 12).index t 3 = (grid0.coords t 1).val)
    ∧ ((cfg0.win 13).index t 0 = (grid0.coords t 0).val ∧ (cfg0.win 13).index t 1 = 0 ∧ (cfg0.win 13).index t 2 = (grid0.coords t 1).val ∧ (cfg0.win 13).index t 3 = 0)
    ∧ ((cfg0.win 14).index t 0 = (grid0.coords t 0).val ∧ (cfg0.win 14).index t 1 = 0 ∧ (cfg0.win 14).index t 2 = 0 ∧ (cfg0.win 14).index t 3 = (grid0.coords t 1).val)
    ∧ ((cfg0.win 15).index t 0 = (grid0.coords t 0).val ∧ (cfg0.win 15).index t 1 = (grid0.coords t 1).val ∧ (cfg0.win 15).index t 2 = 0)
    ∧ ((cfg0.win 16).index t 0 = (grid0.coords t 0).val ∧ (cfg0.win 16).index t 1 = (grid0.coords t 1).val ∧ (cfg0.win 16).index t 2 = 0)
    ∧ ((cfg0.win 17).index t 0 = (grid0.coords t 0).val ∧ (cfg0.win 17).index t 1 = (grid0.coords t 1).val ∧ (cfg0.win 17).index t 2 = 0)
    ∧ ((cfg0.win 18).index t 0 = (grid0.coords t 0).val ∧ (cfg0.win 18).index t 1 = (grid0.coords t 1).val ∧ (cfg0.win 18).index t 2 = 0)
    ∧ ((cfg0.win 19).index t 0 = (grid0.coords t 0).val ∧ (cfg0.win 19).index t 1 = 0 ∧ (cfg0.win 19).index t 2 = (grid0.coords t 1).val) := by decide +kernel

theorem array5 (i : S4x2x4x4096x128.Idx) (d : Fin 64) (hd : (i 4).val = d.val) :
    (dats m 0 c).arrAt 5 cfg0.N i = Cert.Reference3Ideal.Read.val_main_v44 (F := Ideal) (a0 m c) (a1 m c) (a2 m c) (a3 m c) (a4 m c) (ix5 (i 0) (i 1) (i 2) (i 3) d) := by
  refine ((dats m 0 c).arrAt_forall_of_covers 5 (fun (i : S4x2x4x4096x128.Idx) v => ∀ d : Fin 64, (i 4).val = d.val → v = Cert.Reference3Ideal.Read.val_main_v44 (F := Ideal) (a0 m c) (a1 m c) (a2 m c) (a3 m c) (a4 m c) (ix5 (i 0) (i 1) (i 2) (i 3) d)) (by decide +kernel) (fun t _ y => ?_) i) d hd
  obtain ⟨⟨e0, e1, e2, e3, e4⟩, -⟩ := index_out t
  blk_simp [e0, e1, e2, e3, e4]
  rw [after0_5]
  have h0 : (y 0).val < 1 := (y 0).isLt
  have h1 : (y 1).val < 2 := (y 1).isLt
  have h2 : (y 2).val < 4 := (y 2).isLt
  have h3 : (y 3).val < 512 := (y 3).isLt
  have h4 : (y 4).val < 128 := (y 4).isLt
  have hy : y = ix5 0 ⟨(y 1).val, h1⟩ ⟨(y 2).val, h2⟩ ⟨(y 3).val, h3⟩ ⟨(y 4).val, h4⟩ := by
    funext a
    match a with
    | ⟨0, _⟩ => exact Fin.ext (by show (y 0).val = 0; omega)
    | ⟨1, _⟩ => rfl
    | ⟨2, _⟩ => rfl
    | ⟨3, _⟩ => rfl
    | ⟨4, _⟩ => rfl
  intro d hd
  have key := block5 m c t ⟨(y 1).val, h1⟩ ⟨(y 2).val, h2⟩ ⟨(y 3).val, h3⟩ ⟨(y 4).val, h4⟩ d hd
  rw [← hy] at key
  refine key.trans (congrArg _ ?_)
  blk_ext [e0, e1, e2, e3, e4]
  all_goals first | rfl | exact congrArg (· + _) (Nat.mul_comm _ _)

theorem array6 (i : S4x2x4x4096x128.Idx) (d : Fin 64) (hd : (i 4).val = d.val) :
    (dats m 0 c).arrAt 6 cfg0.N i = Cert.Reference3Ideal.Read.val_main_v49 (F := Ideal) (a0 m c) (a1 m c) (a2 m c) (a3 m c) (a4 m c) (ix5 (i 0) (i 1) (i 2) (i 3) d) := by
  refine ((dats m 0 c).arrAt_forall_of_covers 6 (fun (i : S4x2x4x4096x128.Idx) v => ∀ d : Fin 64, (i 4).val = d.val → v = Cert.Reference3Ideal.Read.val_main_v49 (F := Ideal) (a0 m c) (a1 m c) (a2 m c) (a3 m c) (a4 m c) (ix5 (i 0) (i 1) (i 2) (i 3) d)) (by decide +kernel) (fun t _ y => ?_) i) d hd
  obtain ⟨-, ⟨e0, e1, e2, e3, e4⟩, -⟩ := index_out t
  blk_simp [e0, e1, e2, e3, e4]
  rw [after0_6]
  have h0 : (y 0).val < 1 := (y 0).isLt
  have h1 : (y 1).val < 2 := (y 1).isLt
  have h2 : (y 2).val < 4 := (y 2).isLt
  have h3 : (y 3).val < 512 := (y 3).isLt
  have h4 : (y 4).val < 128 := (y 4).isLt
  have hy : y = ix5 0 ⟨(y 1).val, h1⟩ ⟨(y 2).val, h2⟩ ⟨(y 3).val, h3⟩ ⟨(y 4).val, h4⟩ := by
    funext a
    match a with
    | ⟨0, _⟩ => exact Fin.ext (by show (y 0).val = 0; omega)
    | ⟨1, _⟩ => rfl
    | ⟨2, _⟩ => rfl
    | ⟨3, _⟩ => rfl
    | ⟨4, _⟩ => rfl
  intro d hd
  have key := block6 m c t ⟨(y 1).val, h1⟩ ⟨(y 2).val, h2⟩ ⟨(y 3).val, h3⟩ ⟨(y 4).val, h4⟩ d hd
  rw [← hy] at key
  refine key.trans (congrArg _ ?_)
  blk_ext [e0, e1, e2, e3, e4]
  all_goals first | rfl | exact congrArg (· + _) (Nat.mul_comm _ _)

theorem array7 : (dats m 0 c).arrAt 7 cfg0.N = Cert.Reference3Ideal.Read.val_main_v52 (F := Ideal) (a0 m c) (a1 m c) (a2 m c) (a3 m c) (a4 m c) := by
  refine (dats m 0 c).arrAt_eq_of_covers 7 _ (by decide +kernel) fun t _ y => ?_
  obtain ⟨-, -, ⟨e0, e1, e2, e3⟩, -⟩ := index_out t
  blk_simp [e0, e1, e2, e3]
  rw [after0_7]
  have h0 : (y 0).val < 1 := (y 0).isLt
  have h1 : (y 1).val < 2 := (y 1).isLt
  have h2 : (y 2).val < 512 := (y 2).isLt
  have h3 : (y 3).val < 64 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  have key := block7 m c t ⟨(y 1).val, h1⟩ ⟨(y 2).val, h2⟩ ⟨(y 3).val, h3⟩
  rw [← hy] at key
  refine key.trans (congrArg _ ?_)
  blk_ext [e0, e1, e2, e3]
  all_goals first | rfl | exact congrArg (· + _) (Nat.mul_comm _ _)

theorem array8 : (dats m 0 c).arrAt 8 cfg0.N = Cert.Reference3Ideal.Read.val_main_v55 (F := Ideal) (a0 m c) (a1 m c) (a2 m c) (a3 m c) (a4 m c) := by
  refine (dats m 0 c).arrAt_eq_of_covers 8 _ (by decide +kernel) fun t _ y => ?_
  obtain ⟨-, -, -, ⟨e0, e1, e2, e3⟩, -⟩ := index_out t
  blk_simp [e0, e1, e2, e3]
  rw [after0_8]
  have h0 : (y 0).val < 1 := (y 0).isLt
  have h1 : (y 1).val < 2 := (y 1).isLt
  have h2 : (y 2).val < 512 := (y 2).isLt
  have h3 : (y 3).val < 64 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  have key := block8 m c t ⟨(y 1).val, h1⟩ ⟨(y 2).val, h2⟩ ⟨(y 3).val, h3⟩
  rw [← hy] at key
  refine key.trans (congrArg _ ?_)
  blk_ext [e0, e1, e2, e3]
  all_goals first | rfl | exact congrArg (· + _) (Nat.mul_comm _ _)

theorem array9 (i : S4x2x4096x128.Idx) (d : Fin 64) (hd : (i 3).val = d.val) :
    (dats m 0 c).arrAt 9 cfg0.N i = Cert.Reference3Ideal.Read.val_main_v58 (F := Ideal) (a0 m c) (a1 m c) (a2 m c) (a3 m c) (a4 m c) (ix4 (i 0) (i 1) (i 2) d) := by
  refine ((dats m 0 c).arrAt_forall_of_covers 9 (fun (i : S4x2x4096x128.Idx) v => ∀ d : Fin 64, (i 3).val = d.val → v = Cert.Reference3Ideal.Read.val_main_v58 (F := Ideal) (a0 m c) (a1 m c) (a2 m c) (a3 m c) (a4 m c) (ix4 (i 0) (i 1) (i 2) d)) (by decide +kernel) (fun t _ y => ?_) i) d hd
  obtain ⟨-, -, -, -, ⟨e0, e1, e2, e3⟩, -⟩ := index_out t
  blk_simp [e0, e1, e2, e3]
  rw [after0_9]
  have h0 : (y 0).val < 1 := (y 0).isLt
  have h1 : (y 1).val < 2 := (y 1).isLt
  have h2 : (y 2).val < 512 := (y 2).isLt
  have h3 : (y 3).val < 128 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  intro d hd
  have key := block9 m c t ⟨(y 1).val, h1⟩ ⟨(y 2).val, h2⟩ ⟨(y 3).val, h3⟩ d hd
  rw [← hy] at key
  refine key.trans (congrArg _ ?_)
  blk_ext [e0, e1, e2, e3]
  all_goals first | rfl | exact congrArg (· + _) (Nat.mul_comm _ _)

theorem array10 : (dats m 0 c).arrAt 10 cfg0.N = Cert.Reference3Ideal.Read.val_main_v62 (F := Ideal) (a0 m c) (a1 m c) (a2 m c) (a3 m c) (a4 m c) := by
  refine (dats m 0 c).arrAt_eq_of_covers 10 _ (by decide +kernel) fun t _ y => ?_
  obtain ⟨-, -, -, -, -, ⟨e0, e1, e2, e3⟩, -⟩ := index_out t
  blk_simp [e0, e1, e2, e3]
  rw [after0_10]
  have h0 : (y 0).val < 1 := (y 0).isLt
  have h1 : (y 1).val < 2 := (y 1).isLt
  have h2 : (y 2).val < 64 := (y 2).isLt
  have h3 : (y 3).val < 512 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  have key := block10 m c t ⟨(y 1).val, h1⟩ ⟨(y 3).val, h3⟩ ⟨(y 2).val, h2⟩
  rw [← hy] at key
  refine key.trans (congrArg _ ?_)
  blk_ext [e0, e1, e2, e3]
  all_goals first | rfl | exact congrArg (· + _) (Nat.mul_comm _ _)

theorem array11 (i : S4x2x4096x128.Idx) (d : Fin 64) (hd : (i 3).val = d.val) :
    (dats m 0 c).arrAt 11 cfg0.N i = Cert.Reference3Ideal.Read.val_main_v65 (F := Ideal) (a0 m c) (a1 m c) (a2 m c) (a3 m c) (a4 m c) (ix4 (i 0) (i 1) (i 2) d) := by
  refine ((dats m 0 c).arrAt_forall_of_covers 11 (fun (i : S4x2x4096x128.Idx) v => ∀ d : Fin 64, (i 3).val = d.val → v = Cert.Reference3Ideal.Read.val_main_v65 (F := Ideal) (a0 m c) (a1 m c) (a2 m c) (a3 m c) (a4 m c) (ix4 (i 0) (i 1) (i 2) d)) (by decide +kernel) (fun t _ y => ?_) i) d hd
  obtain ⟨-, -, -, -, -, -, ⟨e0, e1, e2, e3⟩, -⟩ := index_out t
  blk_simp [e0, e1, e2, e3]
  rw [after0_11]
  have h0 : (y 0).val < 1 := (y 0).isLt
  have h1 : (y 1).val < 2 := (y 1).isLt
  have h2 : (y 2).val < 512 := (y 2).isLt
  have h3 : (y 3).val < 128 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  intro d hd
  have key := block11 m c t ⟨(y 1).val, h1⟩ ⟨(y 2).val, h2⟩ ⟨(y 3).val, h3⟩ d hd
  rw [← hy] at key
  refine key.trans (congrArg _ ?_)
  blk_ext [e0, e1, e2, e3]
  all_goals first | rfl | exact congrArg (· + _) (Nat.mul_comm _ _)

theorem array12 : (dats m 0 c).arrAt 12 cfg0.N = Cert.Reference3Ideal.Read.val_main_v69 (F := Ideal) (a0 m c) (a1 m c) (a2 m c) (a3 m c) (a4 m c) := by
  refine (dats m 0 c).arrAt_eq_of_covers 12 _ (by decide +kernel) fun t _ y => ?_
  obtain ⟨-, -, -, -, -, -, -, ⟨e0, e1, e2, e3⟩, -⟩ := index_out t
  blk_simp [e0, e1, e2, e3]
  rw [after0_12]
  have h0 : (y 0).val < 1 := (y 0).isLt
  have h1 : (y 1).val < 2 := (y 1).isLt
  have h2 : (y 2).val < 64 := (y 2).isLt
  have h3 : (y 3).val < 512 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  have key := block12 m c t ⟨(y 1).val, h1⟩ ⟨(y 3).val, h3⟩ ⟨(y 2).val, h2⟩
  rw [← hy] at key
  refine key.trans (congrArg _ ?_)
  blk_ext [e0, e1, e2, e3]
  all_goals first | rfl | exact congrArg (· + _) (Nat.mul_comm _ _)

theorem array13 (i : S4x2x4096x128.Idx) (d : Fin 64) (hd : (i 3).val = d.val) :
    (dats m 0 c).arrAt 13 cfg0.N i = Cert.Reference3Ideal.Read.val_main_v72 (F := Ideal) (a0 m c) (a1 m c) (a2 m c) (a3 m c) (a4 m c) (ix4 (i 0) (i 1) (i 2) d) := by
  refine ((dats m 0 c).arrAt_forall_of_covers 13 (fun (i : S4x2x4096x128.Idx) v => ∀ d : Fin 64, (i 3).val = d.val → v = Cert.Reference3Ideal.Read.val_main_v72 (F := Ideal) (a0 m c) (a1 m c) (a2 m c) (a3 m c) (a4 m c) (ix4 (i 0) (i 1) (i 2) d)) (by decide +kernel) (fun t _ y => ?_) i) d hd
  obtain ⟨-, -, -, -, -, -, -, -, ⟨e0, e1, e2, e3⟩, -⟩ := index_out t
  blk_simp [e0, e1, e2, e3]
  rw [after0_13]
  have h0 : (y 0).val < 1 := (y 0).isLt
  have h1 : (y 1).val < 2 := (y 1).isLt
  have h2 : (y 2).val < 512 := (y 2).isLt
  have h3 : (y 3).val < 128 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  intro d hd
  have key := block13 m c t ⟨(y 1).val, h1⟩ ⟨(y 2).val, h2⟩ ⟨(y 3).val, h3⟩ d hd
  rw [← hy] at key
  refine key.trans (congrArg _ ?_)
  blk_ext [e0, e1, e2, e3]
  all_goals first | rfl | exact congrArg (· + _) (Nat.mul_comm _ _)

theorem array14 : (dats m 0 c).arrAt 14 cfg0.N = Cert.Reference3Ideal.Read.val_main_v76 (F := Ideal) (a0 m c) (a1 m c) (a2 m c) (a3 m c) (a4 m c) := by
  refine (dats m 0 c).arrAt_eq_of_covers 14 _ (by decide +kernel) fun t _ y => ?_
  obtain ⟨-, -, -, -, -, -, -, -, -, ⟨e0, e1, e2, e3⟩, -⟩ := index_out t
  blk_simp [e0, e1, e2, e3]
  rw [after0_14]
  have h0 : (y 0).val < 1 := (y 0).isLt
  have h1 : (y 1).val < 2 := (y 1).isLt
  have h2 : (y 2).val < 64 := (y 2).isLt
  have h3 : (y 3).val < 512 := (y 3).isLt
  have hy : y = ix4 0 ⟨(y 1).val, h1⟩ ⟨(y 2).val, h2⟩ ⟨(y 3).val, h3⟩ := by
    funext a
    match a with
    | ⟨0, _⟩ => exact Fin.ext (by show (y 0).val = 0; omega)
    | ⟨1, _⟩ => rfl
    | ⟨2, _⟩ => rfl
    | ⟨3, _⟩ => rfl
  have key := block14 m c t ⟨(y 1).val, h1⟩ ⟨(y 3).val, h3⟩ ⟨(y 2).val, h2⟩
  rw [← hy] at key
  refine key.trans (congrArg _ ?_)
  blk_ext [e0, e1, e2, e3]
  all_goals first | rfl | exact congrArg (· + _) (Nat.mul_comm _ _)

theorem array15 : (dats m 0 c).arrAt 15 cfg0.N = Cert.Reference3Ideal.Read.val_main_v78 (F := Ideal) (a0 m c) (a1 m c) (a2 m c) (a3 m c) (a4 m c) := by
  refine (dats m 0 c).arrAt_eq_of_covers 15 _ (by decide +kernel) fun t _ y => ?_
  obtain ⟨-, -, -, -, -, -, -, -, -, -, ⟨e0, e1, e2⟩, -⟩ := index_out t
  blk_simp [e0, e1, e2]
  rw [after0_15]
  have h0 : (y 0).val < 1 := (y 0).isLt
  have h1 : (y 1).val < 512 := (y 1).isLt
  have h2 : (y 2).val < 512 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block15 m c t ⟨(y 1).val, h1⟩ ⟨(y 2).val, h2⟩
  rw [← hy] at key
  refine key.trans (congrArg _ ?_)
  blk_ext [e0, e1, e2]
  all_goals first | rfl | exact congrArg (· + _) (Nat.mul_comm _ _)

theorem array16 : (dats m 0 c).arrAt 16 cfg0.N = Cert.Reference3Ideal.Read.val_main_v80 (F := Ideal) (a0 m c) (a1 m c) (a2 m c) (a3 m c) (a4 m c) := by
  refine (dats m 0 c).arrAt_eq_of_covers 16 _ (by decide +kernel) fun t _ y => ?_
  obtain ⟨-, -, -, -, -, -, -, -, -, -, -, ⟨e0, e1, e2⟩, -⟩ := index_out t
  blk_simp [e0, e1, e2]
  rw [after0_16]
  have h0 : (y 0).val < 1 := (y 0).isLt
  have h1 : (y 1).val < 512 := (y 1).isLt
  have h2 : (y 2).val < 512 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block16 m c t ⟨(y 1).val, h1⟩ ⟨(y 2).val, h2⟩
  rw [← hy] at key
  refine key.trans (congrArg _ ?_)
  blk_ext [e0, e1, e2]
  all_goals first | rfl | exact congrArg (· + _) (Nat.mul_comm _ _)

theorem array17 : (dats m 0 c).arrAt 17 cfg0.N = Cert.Reference3Ideal.Read.val_main_v88 (F := Ideal) (a0 m c) (a1 m c) (a2 m c) (a3 m c) (a4 m c) := by
  refine (dats m 0 c).arrAt_eq_of_covers 17 _ (by decide +kernel) fun t _ y => ?_
  obtain ⟨-, -, -, -, -, -, -, -, -, -, -, -, ⟨e0, e1, e2⟩, -⟩ := index_out t
  blk_simp [e0, e1, e2]
  rw [after0_17]
  have h0 : (y 0).val < 1 := (y 0).isLt
  have h1 : (y 1).val < 512 := (y 1).isLt
  have h2 : (y 2).val < 1024 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block17 m c t ⟨(y 1).val, h1⟩ ⟨(y 2).val, h2⟩
  rw [← hy] at key
  refine key.trans (congrArg _ ?_)
  blk_ext [e0, e1, e2]
  all_goals first | rfl | exact congrArg (· + _) (Nat.mul_comm _ _)

theorem array18 : (dats m 0 c).arrAt 18 cfg0.N = Cert.Reference3Ideal.Read.val_main_v96 (F := Ideal) (a0 m c) (a1 m c) (a2 m c) (a3 m c) (a4 m c) := by
  refine (dats m 0 c).arrAt_eq_of_covers 18 _ (by decide +kernel) fun t _ y => ?_
  obtain ⟨-, -, -, -, -, -, -, -, -, -, -, -, -, ⟨e0, e1, e2⟩, -⟩ := index_out t
  blk_simp [e0, e1, e2]
  rw [after0_18]
  have h0 : (y 0).val < 1 := (y 0).isLt
  have h1 : (y 1).val < 512 := (y 1).isLt
  have h2 : (y 2).val < 1024 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  have key := block18 m c t ⟨(y 1).val, h1⟩ ⟨(y 2).val, h2⟩
  rw [← hy] at key
  refine key.trans (congrArg _ ?_)
  blk_ext [e0, e1, e2]
  all_goals first | rfl | exact congrArg (· + _) (Nat.mul_comm _ _)

theorem array19 (i : S4x32x4096.Idx) (d : Fin 24) (hd : (i 1).val = d.val) :
    (dats m 0 c).arrAt 19 cfg0.N i = Cert.Reference3Ideal.Read.val_main_v103 (F := Ideal) (a0 m c) (a1 m c) (a2 m c) (a3 m c) (a4 m c) (ix3 (i 0) d (i 2)) := by
  refine ((dats m 0 c).arrAt_forall_of_covers 19 (fun (i : S4x32x4096.Idx) v => ∀ d : Fin 24, (i 1).val = d.val → v = Cert.Reference3Ideal.Read.val_main_v103 (F := Ideal) (a0 m c) (a1 m c) (a2 m c) (a3 m c) (a4 m c) (ix3 (i 0) d (i 2))) (by decide +kernel) (fun t _ y => ?_) i) d hd
  obtain ⟨-, -, -, -, -, -, -, -, -, -, -, -, -, -, ⟨e0, e1, e2⟩⟩ := index_out t
  blk_simp [e0, e1, e2]
  rw [after0_19]
  have h0 : (y 0).val < 1 := (y 0).isLt
  have h1 : (y 1).val < 32 := (y 1).isLt
  have h2 : (y 2).val < 512 := (y 2).isLt
  have hy : y = ix3 0 ⟨(y 1).val, h1⟩ ⟨(y 2).val, h2⟩ := by
    funext a
    match a with
    | ⟨0, _⟩ => exact Fin.ext (by show (y 0).val = 0; omega)
    | ⟨1, _⟩ => rfl
    | ⟨2, _⟩ => rfl
  intro d hd
  have key := block19 m c t ⟨(y 2).val, h2⟩ ⟨(y 1).val, h1⟩ d hd
  rw [← hy] at key
  refine key.trans (congrArg _ ?_)
  blk_ext [e0, e1, e2]
  all_goals first | rfl | exact congrArg (· + _) (Nat.mul_comm _ _)

end Cert.Kernel3Ideal.Out
-- ==== Proof.InProjRun.lean ====
/-
  The run of the input projection: after the call's region the host takes the sixty-four lanes of the heads and the twenty-four rows of the gates, and what
  it leaves is the reference's results. The arguments end as launched.
-/
module

public import proofs.«01_k».proof.Proof.InProjOut

@[expose] public section

set_option maxRecDepth 16384

noncomputable section

namespace Cert.Kernel3Ideal.Out

open Cert.Kernel3Ideal Cert.Kernel3Ideal.Gen Idealize.ShloMosaic Idealize.ShloMosaic.TcCoe Idealize.SL.Sem

variable (m : (ℓ : Loc nD τ sig) → Buf (Elt Ideal) ℓ) (c : Dev nD)

/-! ## The slices after the region -/

theorem arrays_distinct : Function.Injective (Pipeline.arrRef spec0) := by decide +kernel

theorem tail_v21 : Pipeline.afterTail₀ cfgs (dats m) 0 (V0 m) [hostOps1] c main_v21
    = extractStridedSlice S4x2x4x4096x64 ![0, 0, 0, 0, 0] (((dats m 0 c).arrAt 5 cfg0.N : (⟨S4x2x4x4096x128, .bf16⟩ : BufTy).Contents (Elt Ideal))) slices_S4x2x4x4096x128_S4x2x4x4096x64_0_0_0_0_0 := by
  unfold Pipeline.afterTail₀
  simp only [hostOps1, List.flatten_cons, List.flatten_nil, List.append_nil, List.cons_append, List.nil_append]
  after_results_simp
  exact congrArg (extractStridedSlice S4x2x4x4096x64 ![0, 0, 0, 0, 0] · slices_S4x2x4x4096x128_S4x2x4x4096x64_0_0_0_0_0) (Pipeline.withArrays_arr spec0 arrays_distinct c (V0 m c) _ 5)

theorem result_v21 : Pipeline.afterTail₀ cfgs (dats m) 0 (V0 m) [hostOps1] c main_v21 = Cert.Reference3Ideal.Read.val_main_v44 (F := Ideal) (a0 m c) (a1 m c) (a2 m c) (a3 m c) (a4 m c) := by
  refine (tail_v21 m c).trans (funext fun i => ?_)
  pointwise
  refine (array5 m c _ (i 4) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)
  | ⟨3, _⟩ => first | rfl | exact Fin.ext (by simp)
  | ⟨4, _⟩ => first | rfl | exact Fin.ext (by simp)

theorem tail_v22 : Pipeline.afterTail₀ cfgs (dats m) 0 (V0 m) [hostOps1] c main_v22
    = extractStridedSlice S4x2x4x4096x64 ![0, 0, 0, 0, 0] (((dats m 0 c).arrAt 6 cfg0.N : (⟨S4x2x4x4096x128, .bf16⟩ : BufTy).Contents (Elt Ideal))) slices_S4x2x4x4096x128_S4x2x4x4096x64_0_0_0_0_0 := by
  unfold Pipeline.afterTail₀
  simp only [hostOps1, List.flatten_cons, List.flatten_nil, List.append_nil, List.cons_append, List.nil_append]
  after_results_simp
  exact congrArg (extractStridedSlice S4x2x4x4096x64 ![0, 0, 0, 0, 0] · slices_S4x2x4x4096x128_S4x2x4x4096x64_0_0_0_0_0) (Pipeline.withArrays_arr spec0 arrays_distinct c (V0 m c) _ 6)

theorem result_v22 : Pipeline.afterTail₀ cfgs (dats m) 0 (V0 m) [hostOps1] c main_v22 = Cert.Reference3Ideal.Read.val_main_v49 (F := Ideal) (a0 m c) (a1 m c) (a2 m c) (a3 m c) (a4 m c) := by
  refine (tail_v22 m c).trans (funext fun i => ?_)
  pointwise
  refine (array6 m c _ (i 4) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)
  | ⟨3, _⟩ => first | rfl | exact Fin.ext (by simp)
  | ⟨4, _⟩ => first | rfl | exact Fin.ext (by simp)

theorem tail_v23 : Pipeline.afterTail₀ cfgs (dats m) 0 (V0 m) [hostOps1] c main_v23
    = extractStridedSlice S4x2x4096x64 ![0, 0, 0, 0] (((dats m 0 c).arrAt 9 cfg0.N : (⟨S4x2x4096x128, .bf16⟩ : BufTy).Contents (Elt Ideal))) slices_S4x2x4096x128_S4x2x4096x64_0_0_0_0 := by
  unfold Pipeline.afterTail₀
  simp only [hostOps1, List.flatten_cons, List.flatten_nil, List.append_nil, List.cons_append, List.nil_append]
  after_results_simp
  exact congrArg (extractStridedSlice S4x2x4096x64 ![0, 0, 0, 0] · slices_S4x2x4096x128_S4x2x4096x64_0_0_0_0) (Pipeline.withArrays_arr spec0 arrays_distinct c (V0 m c) _ 9)

theorem result_v23 : Pipeline.afterTail₀ cfgs (dats m) 0 (V0 m) [hostOps1] c main_v23 = Cert.Reference3Ideal.Read.val_main_v58 (F := Ideal) (a0 m c) (a1 m c) (a2 m c) (a3 m c) (a4 m c) := by
  refine (tail_v23 m c).trans (funext fun i => ?_)
  pointwise
  refine (array9 m c _ (i 3) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)
  | ⟨3, _⟩ => first | rfl | exact Fin.ext (by simp)

theorem tail_v24 : Pipeline.afterTail₀ cfgs (dats m) 0 (V0 m) [hostOps1] c main_v24
    = extractStridedSlice S4x2x4096x64 ![0, 0, 0, 0] (((dats m 0 c).arrAt 11 cfg0.N : (⟨S4x2x4096x128, .bf16⟩ : BufTy).Contents (Elt Ideal))) slices_S4x2x4096x128_S4x2x4096x64_0_0_0_0 := by
  unfold Pipeline.afterTail₀
  simp only [hostOps1, List.flatten_cons, List.flatten_nil, List.append_nil, List.cons_append, List.nil_append]
  after_results_simp
  exact congrArg (extractStridedSlice S4x2x4096x64 ![0, 0, 0, 0] · slices_S4x2x4096x128_S4x2x4096x64_0_0_0_0) (Pipeline.withArrays_arr spec0 arrays_distinct c (V0 m c) _ 11)

theorem result_v24 : Pipeline.afterTail₀ cfgs (dats m) 0 (V0 m) [hostOps1] c main_v24 = Cert.Reference3Ideal.Read.val_main_v65 (F := Ideal) (a0 m c) (a1 m c) (a2 m c) (a3 m c) (a4 m c) := by
  refine (tail_v24 m c).trans (funext fun i => ?_)
  pointwise
  refine (array11 m c _ (i 3) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)
  | ⟨3, _⟩ => first | rfl | exact Fin.ext (by simp)

theorem tail_v25 : Pipeline.afterTail₀ cfgs (dats m) 0 (V0 m) [hostOps1] c main_v25
    = extractStridedSlice S4x2x4096x64 ![0, 0, 0, 0] (((dats m 0 c).arrAt 13 cfg0.N : (⟨S4x2x4096x128, .bf16⟩ : BufTy).Contents (Elt Ideal))) slices_S4x2x4096x128_S4x2x4096x64_0_0_0_0 := by
  unfold Pipeline.afterTail₀
  simp only [hostOps1, List.flatten_cons, List.flatten_nil, List.append_nil, List.cons_append, List.nil_append]
  after_results_simp
  exact congrArg (extractStridedSlice S4x2x4096x64 ![0, 0, 0, 0] · slices_S4x2x4096x128_S4x2x4096x64_0_0_0_0) (Pipeline.withArrays_arr spec0 arrays_distinct c (V0 m c) _ 13)

theorem result_v25 : Pipeline.afterTail₀ cfgs (dats m) 0 (V0 m) [hostOps1] c main_v25 = Cert.Reference3Ideal.Read.val_main_v72 (F := Ideal) (a0 m c) (a1 m c) (a2 m c) (a3 m c) (a4 m c) := by
  refine (tail_v25 m c).trans (funext fun i => ?_)
  pointwise
  refine (array13 m c _ (i 3) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)
  | ⟨3, _⟩ => first | rfl | exact Fin.ext (by simp)

theorem tail_v26 : Pipeline.afterTail₀ cfgs (dats m) 0 (V0 m) [hostOps1] c main_v26
    = extractStridedSlice S4x24x4096 ![0, 0, 0] (((dats m 0 c).arrAt 19 cfg0.N : (⟨S4x32x4096, .f32⟩ : BufTy).Contents (Elt Ideal))) slices_S4x32x4096_S4x24x4096_0_0_0 := by
  unfold Pipeline.afterTail₀
  simp only [hostOps1, List.flatten_cons, List.flatten_nil, List.append_nil, List.cons_append, List.nil_append]
  after_results_simp
  exact congrArg (extractStridedSlice S4x24x4096 ![0, 0, 0] · slices_S4x32x4096_S4x24x4096_0_0_0) (Pipeline.withArrays_arr spec0 arrays_distinct c (V0 m c) _ 19)

theorem result_v26 : Pipeline.afterTail₀ cfgs (dats m) 0 (V0 m) [hostOps1] c main_v26 = Cert.Reference3Ideal.Read.val_main_v103 (F := Ideal) (a0 m c) (a1 m c) (a2 m c) (a3 m c) (a4 m c) := by
  refine (tail_v26 m c).trans (funext fun i => ?_)
  pointwise
  refine (array19 m c _ (i 1) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)

/-! ## The run -/

set_option maxHeartbeats 1200000 in
theorem run (g : Dev nD → PrngReg) : θ_run defs (onTc (τ := τ) (main (F := Ideal))) ⟨m, fun _ => 0, g⟩ (fun r => ∀ c : Dev nD,
      r.2.mem ((c.tc : Thread nD τ).loc main_v21) = Cert.Reference3Ideal.Read.val_main_v44 (F := Ideal) (a0 m c) (a1 m c) (a2 m c) (a3 m c) (a4 m c)
      ∧ r.2.mem ((c.tc : Thread nD τ).loc main_v22) = Cert.Reference3Ideal.Read.val_main_v49 (F := Ideal) (a0 m c) (a1 m c) (a2 m c) (a3 m c) (a4 m c)
      ∧ r.2.mem ((c.tc : Thread nD τ).loc main_v20_2) = Cert.Reference3Ideal.Read.val_main_v52 (F := Ideal) (a0 m c) (a1 m c) (a2 m c) (a3 m c) (a4 m c)
      ∧ r.2.mem ((c.tc : Thread nD τ).loc main_v20_3) = Cert.Reference3Ideal.Read.val_main_v55 (F := Ideal) (a0 m c) (a1 m c) (a2 m c) (a3 m c) (a4 m c)
      ∧ r.2.mem ((c.tc : Thread nD τ).loc main_v23) = Cert.Reference3Ideal.Read.val_main_v58 (F := Ideal) (a0 m c) (a1 m c) (a2 m c) (a3 m c) (a4 m c)
      ∧ r.2.mem ((c.tc : Thread nD τ).loc main_v20_5) = Cert.Reference3Ideal.Read.val_main_v62 (F := Ideal) (a0 m c) (a1 m c) (a2 m c) (a3 m c) (a4 m c)
      ∧ r.2.mem ((c.tc : Thread nD τ).loc main_v24) = Cert.Reference3Ideal.Read.val_main_v65 (F := Ideal) (a0 m c) (a1 m c) (a2 m c) (a3 m c) (a4 m c)
      ∧ r.2.mem ((c.tc : Thread nD τ).loc main_v20_7) = Cert.Reference3Ideal.Read.val_main_v69 (F := Ideal) (a0 m c) (a1 m c) (a2 m c) (a3 m c) (a4 m c)
      ∧ r.2.mem ((c.tc : Thread nD τ).loc main_v25) = Cert.Reference3Ideal.Read.val_main_v72 (F := Ideal) (a0 m c) (a1 m c) (a2 m c) (a3 m c) (a4 m c)
      ∧ r.2.mem ((c.tc : Thread nD τ).loc main_v20_9) = Cert.Reference3Ideal.Read.val_main_v76 (F := Ideal) (a0 m c) (a1 m c) (a2 m c) (a3 m c) (a4 m c)
      ∧ r.2.mem ((c.tc : Thread nD τ).loc main_v20_10) = Cert.Reference3Ideal.Read.val_main_v78 (F := Ideal) (a0 m c) (a1 m c) (a2 m c) (a3 m c) (a4 m c)
      ∧ r.2.mem ((c.tc : Thread nD τ).loc main_v20_11) = Cert.Reference3Ideal.Read.val_main_v80 (F := Ideal) (a0 m c) (a1 m c) (a2 m c) (a3 m c) (a4 m c)
      ∧ r.2.mem ((c.tc : Thread nD τ).loc main_v20_12) = Cert.Reference3Ideal.Read.val_main_v88 (F := Ideal) (a0 m c) (a1 m c) (a2 m c) (a3 m c) (a4 m c)
      ∧ r.2.mem ((c.tc : Thread nD τ).loc main_v20_13) = Cert.Reference3Ideal.Read.val_main_v96 (F := Ideal) (a0 m c) (a1 m c) (a2 m c) (a3 m c) (a4 m c)
      ∧ r.2.mem ((c.tc : Thread nD τ).loc main_v26) = Cert.Reference3Ideal.Read.val_main_v103 (F := Ideal) (a0 m c) (a1 m c) (a2 m c) (a3 m c) (a4 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨((h c).2 main_v21 (Pipeline.mem_restRefs_of main_v21 (by decide) (by decide))).trans (result_v21 m c),
    ((h c).2 main_v22 (Pipeline.mem_restRefs_of main_v22 (by decide) (by decide))).trans (result_v22 m c),
    ((h c).1 7).trans (array7 m c),
    ((h c).1 8).trans (array8 m c),
    ((h c).2 main_v23 (Pipeline.mem_restRefs_of main_v23 (by decide) (by decide))).trans (result_v23 m c),
    ((h c).1 10).trans (array10 m c),
    ((h c).2 main_v24 (Pipeline.mem_restRefs_of main_v24 (by decide) (by decide))).trans (result_v24 m c),
    ((h c).1 12).trans (array12 m c),
    ((h c).2 main_v25 (Pipeline.mem_restRefs_of main_v25 (by decide) (by decide))).trans (result_v25 m c),
    ((h c).1 14).trans (array14 m c),
    ((h c).1 15).trans (array15 m c),
    ((h c).1 16).trans (array16 m c),
    ((h c).1 17).trans (array17 m c),
    ((h c).1 18).trans (array18 m c),
    ((h c).2 main_v26 (Pipeline.mem_restRefs_of main_v26 (by decide) (by decide))).trans (result_v26 m c),
    ((h c).1 0).trans (((dats m 0 c).arrAt_in 0 rfl _).trans ((A_eq m c 0).trans (V_main_arg0 m c))),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m g)

end Cert.Kernel3Ideal.Out
-- ==== Proof.CompressReference.lean ====
/-
  What the reference of the compression computes, at an index: the token of a block of thirty-two positions, each position's row plus its embedding, through
  the two layers.
-/
module

public import proofs.«01_k».proof.Proof.Gen.Reference4Ideal.Read
public import proofs.«01_k».proof.Proof.Gen.Reference4Ideal.Run
public import proofs.«01_k».proof.Proof.InProjReference
public import Idealize.ShloMosaic.Lib.Claim
public import Idealize.ShloMosaic.Lib.Pointwise
public import Idealize.ShloMosaic.PureOps.Ideal

@[expose] public section

set_option maxRecDepth 16384

noncomputable section

namespace Cert.Compress

open Idealize.ShloMosaic
open Cert.InProj (sigmoid)

/-- The second layer, on the silu of the first. -/
def second (h w : Fin 256 → EReal) : EReal := ∑ j, h j * sigmoid (h j) * w j

/-- The token of a block. -/
def token (t pe : Fin 2048 → EReal) (w1 : Fin 2048 → Fin 256 → EReal) (w2 : Fin 256 → EReal) : EReal :=
  second (fun j => ∑ k, (t k + pe k) * w1 k j) w2

end Cert.Compress

namespace Cert.Reference4Ideal.Out

open Cert.Compress
open Cert.InProj (sigmoid)
open Cert.Reference4Ideal Cert.Reference4Ideal.Gen Cert.Reference4Ideal.Read Idealize.ShloMosaic Idealize.ShloMosaic.TcCoe Idealize.SL.Sem

variable (x : (⟨S4x2x4096x64, .bf16⟩ : BufTy).Contents (Elt Ideal)) (pe : (⟨S32x64, .f32⟩ : BufTy).Contents (Elt Ideal))
  (w1 : (⟨S2048x256, .f32⟩ : BufTy).Contents (Elt Ideal)) (w2 : (⟨S256x64, .f32⟩ : BufTy).Contents (Elt Ideal))

/-- The position of the gather, as the words compute it. -/
theorem start_word : ∀ (c : Fin 255) (l : Fin 32),
    (Scalar.select (IntOp.cmpi CmpIPredicate.slt (IntOp.addi (IntOp.muli (BitVec.ofNat 32 c.val) 16#32) (BitVec.ofNat 32 l.val)) 0#32)
      (IntOp.addi (IntOp.addi (IntOp.muli (BitVec.ofNat 32 c.val) 16#32) (BitVec.ofNat 32 l.val)) 4096#32)
      (IntOp.addi (IntOp.muli (BitVec.ofNat 32 c.val) 16#32) (BitVec.ofNat 32 l.val)) : BitVec 32).toInt.toNat = 16 * c.val + l.val := by decide +kernel

theorem v15_apply (c : Fin 255) (l : Fin 32) : (val_main_v15 (F := Ideal) (ix3 c l 0)).toInt.toNat = 16 * c.val + l.val := by
  refine Eq.trans (congrArg (fun b : BitVec 32 => b.toInt.toNat) ?_) (start_word c l)
  pointwise [val_main_v15, val_main_v14, val_main_v13, val_main_v12, val_main_v11, val_main_v10, val_main_v8, val_main_v7, val_main_v6, val_main_v5, val_main_v4, val_main_v3,
    val_main_v2, val_main_v1, val_main_v0, val_main_c, val_main_c_0, val_main_c_1]

theorem v16_apply (b : Fin 4) (g : Fin 2) (c : Fin 255) (l : Fin 32) (d : Fin 64) :
    val_main_v16 (F := Ideal) x (ix5 b g c l d) = x (ix4 b g ⟨16 * c.val + l.val, by omega⟩ d) := by
  unfold val_main_v16 Host.gather
  have e : val_main_v9 (F := Ideal) x = x := rfl
  rw [e]
  refine congrArg x (funext fun a => Fin.ext ?_)
  show (gather_S4x2x4096x64_S255x32x1_S4x2x255x32x64_014_2_n_n_2_2_42164).start (ix5 b g c l d) (val_main_v15 (F := Ideal)) a
    + (gather_S4x2x4096x64_S255x32x1_S4x2x255x32x64_014_2_n_n_2_2_42164).batchCoord (ix5 b g c l d) a
    + (gather_S4x2x4096x64_S255x32x1_S4x2x255x32x64_014_2_n_n_2_2_42164).offCoord (ix5 b g c l d) a = _
  rw [GatherDims.batchCoord_eq_zero _ _ _ List.not_mem_nil]
  match a with
  | ⟨0, _⟩ =>
    unfold GatherDims.start GatherDims.offCoord
    rw [dif_neg (show ¬(⟨0, by decide⟩ : Fin S4x2x4096x64.rank) ∈ gather_S4x2x4096x64_S255x32x1_S4x2x255x32x64_014_2_n_n_2_2_42164.startIndexMap by decide), dif_pos (show (⟨0, by decide⟩ : Fin S4x2x4096x64.rank) ∈ gather_S4x2x4096x64_S255x32x1_S4x2x255x32x64_014_2_n_n_2_2_42164.sKept by decide)]
    exact (Nat.zero_add _).trans rfl
  | ⟨1, _⟩ =>
    unfold GatherDims.start GatherDims.offCoord
    rw [dif_neg (show ¬(⟨1, by decide⟩ : Fin S4x2x4096x64.rank) ∈ gather_S4x2x4096x64_S255x32x1_S4x2x255x32x64_014_2_n_n_2_2_42164.startIndexMap by decide), dif_pos (show (⟨1, by decide⟩ : Fin S4x2x4096x64.rank) ∈ gather_S4x2x4096x64_S255x32x1_S4x2x255x32x64_014_2_n_n_2_2_42164.sKept by decide)]
    exact (Nat.zero_add _).trans rfl
  | ⟨2, _⟩ =>
    unfold GatherDims.start GatherDims.offCoord
    rw [dif_pos (show (⟨2, by decide⟩ : Fin S4x2x4096x64.rank) ∈ gather_S4x2x4096x64_S255x32x1_S4x2x255x32x64_014_2_n_n_2_2_42164.startIndexMap by decide), dif_neg (show ¬(⟨2, by decide⟩ : Fin S4x2x4096x64.rank) ∈ gather_S4x2x4096x64_S255x32x1_S4x2x255x32x64_014_2_n_n_2_2_42164.sKept by decide)]
    refine Eq.trans (b := min (val_main_v15 (F := Ideal) (ix3 c l 0)).toInt.toNat 4095) ?_ ?_
    · refine congrArg (fun i => min (val_main_v15 (F := Ideal) i).toInt.toNat 4095) (funext fun b => Fin.ext ?_)
      match b with
      | ⟨0, _⟩ => rfl
      | ⟨1, _⟩ => rfl
      | ⟨2, _⟩ => rfl
    · rw [v15_apply]
      exact min_eq_left (by omega)
  | ⟨3, _⟩ =>
    unfold GatherDims.start GatherDims.offCoord
    rw [dif_neg (show ¬(⟨3, by decide⟩ : Fin S4x2x4096x64.rank) ∈ gather_S4x2x4096x64_S255x32x1_S4x2x255x32x64_014_2_n_n_2_2_42164.startIndexMap by decide), dif_pos (show (⟨3, by decide⟩ : Fin S4x2x4096x64.rank) ∈ gather_S4x2x4096x64_S255x32x1_S4x2x255x32x64_014_2_n_n_2_2_42164.sKept by decide)]
    exact (Nat.zero_add _).trans rfl

theorem v20_apply (b : Fin 4) (g : Fin 2) (c : Fin 255) (k : Fin 2048) :
    val_main_v20 (F := Ideal) x pe (ix4 b g c k)
      = x (ix4 b g ⟨16 * c.val + k.val / 64, by omega⟩ ⟨k.val % 64, by omega⟩) + pe (ix2 ⟨k.val / 64, by omega⟩ ⟨k.val % 64, by omega⟩) := by
  rw [val_main_v20_apply]
  have e : idx_main_v20 (ix4 b g c k) = ix5 b g c ⟨k.val / 64, by omega⟩ ⟨k.val % 64, by omega⟩ := by
    funext a
    match a with
    | ⟨0, _⟩ => exact Fin.ext (by show (((b.val * 2 + g.val) * 255 + c.val) * 2048 + k.val) / 1044480 = b.val; omega)
    | ⟨1, _⟩ => exact Fin.ext (by show (((b.val * 2 + g.val) * 255 + c.val) * 2048 + k.val) / 522240 % 2 = g.val; omega)
    | ⟨2, _⟩ => exact Fin.ext (by show (((b.val * 2 + g.val) * 255 + c.val) * 2048 + k.val) / 2048 % 255 = c.val; omega)
    | ⟨3, _⟩ => exact Fin.ext (by show (((b.val * 2 + g.val) * 255 + c.val) * 2048 + k.val) / 64 % 32 = k.val / 64; omega)
    | ⟨4, _⟩ => exact Fin.ext (by show (((b.val * 2 + g.val) * 255 + c.val) * 2048 + k.val) % 64 = k.val % 64; omega)
  rw [e, val_main_v19_apply, v16_apply]
  pointwise [val_main_v18, val_main_v17]

/-- The positions of the block `c`, row after row. -/
abbrev rows (n : Fin 8) (c : Fin 255) (k : Fin 2048) : EReal :=
  x (ix4 ⟨n.val / 2, by omega⟩ ⟨n.val % 2, by omega⟩ ⟨16 * c.val + k.val / 64, by omega⟩ ⟨k.val % 64, by omega⟩)

/-- The embeddings, row after row. -/
abbrev places (k : Fin 2048) : EReal := pe (ix2 ⟨k.val / 64, by omega⟩ ⟨k.val % 64, by omega⟩)

theorem v25_apply (n : Fin 8) (c : Fin 255) (d : Fin 64) :
    val_main_v25 (F := Ideal) x pe w1 w2 (ix3 n c d) = token (rows x n c) (places pe) (fun k j => w1 (ix2 k j)) (fun j => w2 (ix2 j d)) := by
  show val_main_v24 (F := Ideal) x pe w1 w2 (ix3 n c d) = _
  rw [val_main_v24_apply]
  have e : idx_main_v24 (ix3 n c d) = ix4 ⟨n.val / 2, by omega⟩ ⟨n.val % 2, by omega⟩ c d := by
    funext a
    match a with
    | ⟨0, _⟩ => exact Fin.ext (by show ((n.val * 255 + c.val) * 64 + d.val) / 32640 = n.val / 2; omega)
    | ⟨1, _⟩ => exact Fin.ext (by show ((n.val * 255 + c.val) * 64 + d.val) / 16320 % 2 = n.val % 2; omega)
    | ⟨2, _⟩ => exact Fin.ext (by show ((n.val * 255 + c.val) * 64 + d.val) / 64 % 255 = c.val; omega)
    | ⟨3, _⟩ => exact Fin.ext (by show ((n.val * 255 + c.val) * 64 + d.val) % 64 = d.val; omega)
  rw [e, val_main_v23_apply]
  unfold token second
  refine Finset.sum_congr rfl fun j _ => ?_
  have h21 : ∀ j : Fin 256, val_main_v21 (F := Ideal) x pe w1 (ix4 ⟨n.val / 2, by omega⟩ ⟨n.val % 2, by omega⟩ c j)
      = ∑ k, (rows x n c k + places pe k) * w1 (ix2 k j) := fun j => by
    rw [val_main_v21_apply]
    refine Finset.sum_congr rfl fun k _ => ?_
    refine congrArg₂ (· * ·) (Eq.trans (congrArg _ ?_) (v20_apply x pe _ _ c k)) (congrArg w1 ?_)
    · funext a
      match a with
      | ⟨0, _⟩ => rfl
      | ⟨1, _⟩ => rfl
      | ⟨2, _⟩ => rfl
      | ⟨3, _⟩ => rfl
    · funext a
      match a with
      | ⟨0, _⟩ => rfl
      | ⟨1, _⟩ => rfl
  refine congrArg₂ (· * ·) ?_ (congrArg w2 ?_)
  · refine Eq.trans (b := val_main_v22 (F := Ideal) x pe w1 (ix4 ⟨n.val / 2, by omega⟩ ⟨n.val % 2, by omega⟩ c j)) (congrArg _ ?_) ?_
    · funext a
      match a with
      | ⟨0, _⟩ => rfl
      | ⟨1, _⟩ => rfl
      | ⟨2, _⟩ => rfl
      | ⟨3, _⟩ => rfl
    · refine Eq.trans (b := val_main_v21 (F := Ideal) x pe w1 (ix4 ⟨n.val / 2, by omega⟩ ⟨n.val % 2, by omega⟩ c j) * sigmoid (val_main_v21 (F := Ideal) x pe w1 (ix4 ⟨n.val / 2, by omega⟩ ⟨n.val % 2, by omega⟩ c j))) ?_ (by rw [h21 j])
      generalize hy : val_main_v21 (F := Ideal) x pe w1 = y
      pointwise [val_main_v22, val_main_call0_v5, val_main_call0_v4, val_main_call0_v3, val_main_call0_v2, val_main_call0_v1, val_main_call0_v0, val_main_call0_cst, val_main_call0_cst_0]
      rw [hy]
      rfl
  · funext a
    match a with
    | ⟨0, _⟩ => rfl
    | ⟨1, _⟩ => rfl

/-- The values' tokens are computed as the keys' are, and transposed. -/
theorem v52_apply (n : Fin 8) (c : Fin 255) (d : Fin 64) :
    val_main_v52 (F := Ideal) x pe w1 w2 (ix3 n d c) = token (rows x n c) (places pe) (fun k j => w1 (ix2 k j)) (fun j => w2 (ix2 j d)) := by
  refine Eq.trans (b := val_main_v51 (F := Ideal) x pe w1 w2 (ix3 n c d)) (by pointwise [val_main_v52]) ?_
  exact (congrFun (show val_main_v51 (F := Ideal) x pe w1 w2 = val_main_v25 (F := Ideal) x pe w1 w2 from rfl) _).trans (v25_apply x pe w1 w2 n c d)

end Cert.Reference4Ideal.Out
-- ==== Proof.CompressBlock.lean ====
/-
  What a grid point of the compression leaves in its blocks, at an index: the token of thirty-two positions. The kernel multiplies a row of sixteen positions
  with the first half of the first weight, the next row with the second half, and adds the product of the embedding: where the embedding and the weight are
  finite this is the product of the sum.
-/
module

public import proofs.«01_k».proof.Proof.Gen.Kernel4Ideal.Frame
public import proofs.«01_k».proof.Proof.CompressReference
public import Idealize.ShloMosaic.Lib.KernelVsHost
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Compress

open Idealize.ShloMosaic

/-- A product with a finite factor over a sum with a finite summand. -/
theorem add_mul_finite (t p w : EReal) (hp : p ≠ ⊤ ∧ p ≠ ⊥) (hw : w ≠ ⊤ ∧ w ≠ ⊥) : (t + p) * w = t * w + p * w := by
  lift p to ℝ using hp
  lift w to ℝ using hw
  induction t with
  | bot =>
    rcases lt_trichotomy w 0 with h | h | h
    · rw [EReal.bot_add, EReal.bot_mul_coe_of_neg h, ← EReal.coe_mul, EReal.top_add_coe]
    · subst h
      simp
    · rw [EReal.bot_add, EReal.bot_mul_coe_of_pos h, EReal.bot_add]
  | coe t => exact_mod_cast add_mul t p w
  | top =>
    rcases lt_trichotomy w 0 with h | h | h
    · rw [EReal.top_add_coe, EReal.top_mul_coe_of_neg h, EReal.bot_add]
    · subst h
      simp
    · rw [EReal.top_add_coe, EReal.top_mul_coe_of_pos h, ← EReal.coe_mul, EReal.top_add_coe]

/-- The kernel's first layer: two halves and the embedding's product. -/
def halves (t0 t1 : Fin 1024 → EReal) (pe : Fin 2048 → EReal) (w1 : Fin 2048 → Fin 256 → EReal) (j : Fin 256) : EReal :=
  (∑ k : Fin 1024, t0 k * w1 ⟨k.val, by omega⟩ j) + (∑ k : Fin 1024, t1 k * w1 ⟨1024 + k.val, by omega⟩ j) + ∑ k, pe k * w1 k j

theorem halves_eq (t pe : Fin 2048 → EReal) (w1 : Fin 2048 → Fin 256 → EReal) (hp : ∀ k, pe k ≠ ⊤ ∧ pe k ≠ ⊥) (hw : ∀ k j, w1 k j ≠ ⊤ ∧ w1 k j ≠ ⊥) (j : Fin 256) :
    halves (fun k => t ⟨k.val, by omega⟩) (fun k => t ⟨1024 + k.val, by omega⟩) pe w1 j = ∑ k, (t k + pe k) * w1 k j := by
  have e : ∀ k, (t k + pe k) * w1 k j = t k * w1 k j + pe k * w1 k j := fun k => add_mul_finite _ _ _ (hp k) (hw k j)
  simp only [e, Finset.sum_add_distrib]
  exact congrArg (· + _) (Fin.sum_univ_add (a := 1024) (b := 1024) fun k => t k * w1 k j).symm

end Cert.Compress

namespace Cert.Kernel4Ideal.Out

open Cert.Compress
open Cert.InProj (sigmoid)
open Cert.Kernel4Ideal Cert.Kernel4Ideal.Gen Idealize.ShloMosaic Idealize.ShloMosaic.TcCoe Idealize.SL.Sem

variable (x0 : Vec Ideal S1x1x256x1024 .bf16) (x1 : Vec Ideal S1x1x2048 .f32) (x2 : Vec Ideal S1x2048x256 .f32) (x3 : Vec Ideal S1x256x128 .f32)

/-- The row `r` of the block, sixteen positions. -/
abbrev bhalf (r : Fin 256) (k : Fin 1024) : EReal := x0 (ix4 0 0 r k)

theorem pay3_apply (r : Fin 255) (d : Fin 128) :
    k0_pay3 (F := Ideal) x0 x2 x1 x3 (ix2 ⟨r.val, by omega⟩ d)
      = second (halves (bhalf x0 ⟨r.val, by omega⟩) (bhalf x0 ⟨r.val + 1, by omega⟩) (fun k => x1 (ix3 0 0 k)) (fun k j => x2 (ix3 0 k j))) (fun j => x3 (ix3 0 j d)) := by
  have next : (r.val + 256 - 255) % 256 = r.val + 1 := by
    have := r.isLt
    omega
  pointwise [k0_pay3]
  simp only [next, zero_sub]
  rfl

theorem pay5_apply (r : Fin 255) (d : Fin 128) :
    k0_pay5 (F := Ideal) x0 x1 x2 x3 (ix2 ⟨r.val, by omega⟩ d)
      = second (halves (bhalf x0 ⟨r.val, by omega⟩) (bhalf x0 ⟨r.val + 1, by omega⟩) (fun k => x1 (ix3 0 0 k)) (fun k j => x2 (ix3 0 k j))) (fun j => x3 (ix3 0 j d)) := by
  have z4 : ∀ a : Fin 4, (![0, 0, 0, 0] : Fin 4 → ℕ) a = 0 := by decide
  have z3 : ∀ a : Fin 3, (![0, 0, 0] : Fin 3 → ℕ) a = 0 := by decide
  unfold k0_pay5
  rw [View.ld_unit_zero (funext z4), View.ld_unit_zero (funext z3), View.ld_unit_zero (funext z3), View.ld_unit_zero (funext z3)]
  exact pay3_apply _ _ _ _ r d

theorem out4_apply (r : Fin 255) (d : Fin 64) :
    out0_4 (F := Ideal) x0 x1 x2 x3 (ix4 0 0 ⟨r.val, by omega⟩ ⟨d.val, by omega⟩)
      = second (halves (bhalf x0 ⟨r.val, by omega⟩) (bhalf x0 ⟨r.val + 1, by omega⟩) (fun k => x1 (ix3 0 0 k)) (fun k j => x2 (ix3 0 k j))) (fun j => x3 (ix3 0 j ⟨d.val, by omega⟩)) := by
  have lane : ∀ d : Fin 64, IntOp.cmpi CmpIPredicate.slt (BitVec.ofNat 32 d.val) 64#32 = 1#1 := by decide +kernel
  refine Eq.trans ?_ (pay5_apply x0 x1 x2 x3 r ⟨d.val, by omega⟩)
  unfold out0_4
  rw [View.canon_cons_unit_lit]
  · pointwise [k0_pay1]
    simp only [lane]
    rfl
  · intro a
    match a with
    | 0 => rfl
    | 1 => rfl
    | 2 => rfl
    | 3 => rfl

theorem out5_apply (r : Fin 255) (d : Fin 64) :
    out0_5 (F := Ideal) x0 x1 x2 x3 (ix4 0 0 d ⟨r.val, by omega⟩)
      = second (halves (bhalf x0 ⟨r.val, by omega⟩) (bhalf x0 ⟨r.val + 1, by omega⟩) (fun k => x1 (ix3 0 0 k)) (fun k j => x2 (ix3 0 k j))) (fun j => x3 (ix3 0 j ⟨d.val, by omega⟩)) := by
  refine Eq.trans ?_ (pay5_apply x0 x1 x2 x3 r ⟨d.val, by omega⟩)
  unfold out0_5
  rw [View.canon_cons_unit_lit]
  · pointwise [k0_pay2]
  · intro a
    match a with
    | 0 => rfl
    | 1 => rfl
    | 2 => rfl
    | 3 => rfl

end Cert.Kernel4Ideal.Out
-- ==== Proof.CompressHost.lean ====
/-
  What the host prepares for the compression, at an index: the keys and the values stacked, with their embeddings and weights, and the second weight's rows
  followed by zeros, which are not read here.
-/
module

public import proofs.«01_k».proof.Proof.Gen.Kernel4Ideal.Frame
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Kernel4Ideal.Out

open Cert.Kernel4Ideal Cert.Kernel4Ideal.Gen Idealize.ShloMosaic Idealize.ShloMosaic.TcCoe Idealize.SL.Sem

variable (m : (ℓ : Loc nD τ sig) → Buf (Elt Ideal) ℓ) (c : Dev nD)

abbrev a0 : (⟨S4x2x4096x64, .bf16⟩ : BufTy).Contents (Elt Ideal) := m ((c : Thread nD τ).loc main_arg0)
abbrev a1 : (⟨S4x2x4096x64, .bf16⟩ : BufTy).Contents (Elt Ideal) := m ((c : Thread nD τ).loc main_arg1)
abbrev a2 : (⟨S32x64, .f32⟩ : BufTy).Contents (Elt Ideal) := m ((c : Thread nD τ).loc main_arg2)
abbrev a3 : (⟨S32x64, .f32⟩ : BufTy).Contents (Elt Ideal) := m ((c : Thread nD τ).loc main_arg3)
abbrev a4 : (⟨S2048x256, .f32⟩ : BufTy).Contents (Elt Ideal) := m ((c : Thread nD τ).loc main_arg4)
abbrev a5 : (⟨S2048x256, .f32⟩ : BufTy).Contents (Elt Ideal) := m ((c : Thread nD τ).loc main_arg5)
abbrev a6 : (⟨S256x64, .f32⟩ : BufTy).Contents (Elt Ideal) := m ((c : Thread nD τ).loc main_arg6)
abbrev a7 : (⟨S256x64, .f32⟩ : BufTy).Contents (Elt Ideal) := m ((c : Thread nD τ).loc main_arg7)

theorem host_t0 (n : Fin 8) (r : Fin 256) (k : Fin 1024) :
    (V m c main_v3 : (⟨S2x8x256x1024, .bf16⟩ : BufTy).Contents (Elt Ideal)) (ix4 0 n r k)
      = a0 m c (ix4 ⟨n.val / 2, by omega⟩ ⟨n.val % 2, by omega⟩ ⟨16 * r.val + k.val / 64, by omega⟩ ⟨k.val % 64, by omega⟩) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise
  simp only [Nat.mul_comm 16]

theorem host_pe0 (k : Fin 2048) :
    (V m c main_v7 : (⟨S2x1x2048, .f32⟩ : BufTy).Contents (Elt Ideal)) (ix3 0 0 k) = a2 m c (ix2 ⟨k.val / 64, by omega⟩ ⟨k.val % 64, by omega⟩) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise

theorem host_w0 (k : Fin 2048) (j : Fin 256) :
    (V m c main_v14 : (⟨S2x2048x256, .f32⟩ : BufTy).Contents (Elt Ideal)) (ix3 0 k j) = a4 m c (ix2 k j) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_x0 (j : Fin 256) (d : Fin 64) :
    (V m c main_v11 : (⟨S2x256x128, .f32⟩ : BufTy).Contents (Elt Ideal)) (ix3 0 j ⟨d.val, by omega⟩) = a6 m c (ix2 j d) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise

theorem host_t1 (n : Fin 8) (r : Fin 256) (k : Fin 1024) :
    (V m c main_v3 : (⟨S2x8x256x1024, .bf16⟩ : BufTy).Contents (Elt Ideal)) (ix4 1 n r k)
      = a1 m c (ix4 ⟨n.val / 2, by omega⟩ ⟨n.val % 2, by omega⟩ ⟨16 * r.val + k.val / 64, by omega⟩ ⟨k.val % 64, by omega⟩) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise
  simp only [Nat.mul_comm 16]

theorem host_pe1 (k : Fin 2048) :
    (V m c main_v7 : (⟨S2x1x2048, .f32⟩ : BufTy).Contents (Elt Ideal)) (ix3 1 0 k) = a3 m c (ix2 ⟨k.val / 64, by omega⟩ ⟨k.val % 64, by omega⟩) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise

theorem host_w1 (k : Fin 2048) (j : Fin 256) :
    (V m c main_v14 : (⟨S2x2048x256, .f32⟩ : BufTy).Contents (Elt Ideal)) (ix3 1 k j) = a5 m c (ix2 k j) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

theorem host_x1 (j : Fin 256) (d : Fin 64) :
    (V m c main_v11 : (⟨S2x256x128, .f32⟩ : BufTy).Contents (Elt Ideal)) (ix3 1 j ⟨d.val, by omega⟩) = a7 m c (ix2 j d) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  after_results_simp
  pointwise

end Cert.Kernel4Ideal.Out
-- ==== Proof.CompressOut.lean ====
/-
  The results of the compression: where the embeddings and the first weights are finite, what a grid point leaves in its blocks is the reference's result
  there, and the blocks cover the arrays. The keys' array is read at the first half of the grid, the values' at the second, each at 255 tokens of sixty-four
  lanes.
-/
module

public import proofs.«01_k».proof.Proof.Gen.Kernel4Ideal.Frame
public import proofs.«01_k».proof.Proof.CompressReference
public import proofs.«01_k».proof.Proof.CompressBlock
public import proofs.«01_k».proof.Proof.CompressHost
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Kernel4Ideal.Out

open Cert.Compress
open Cert.Reference4Ideal.Out (rows places)
open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The embeddings and the first weights are neither +∞ nor −∞. -/
structure Finite : Prop where
  pe_k : ∀ i, a2 m c i ≠ ⊤ ∧ a2 m c i ≠ ⊥
  pe_v : ∀ i, a3 m c i ≠ ⊤ ∧ a3 m c i ≠ ⊥
  w_k : ∀ i, a4 m c i ≠ ⊤ ∧ a4 m c i ≠ ⊥
  w_v : ∀ i, a5 m c i ≠ ⊤ ∧ a5 m c i ≠ ⊥

/-! ## The blocks of the windows -/

theorem index_in : ∀ t : Fin cfg0.N, ((cfg0.win 0).index t 0 = (grid0.coords t 0).val ∧ (cfg0.win 0).index t 1 = (grid0.coords t 1).val ∧ (cfg0.win 0).index t 2 = 0 ∧ (cfg0.win 0).index t 3 = 0)
    ∧ ((cfg0.win 1).index t 0 = (grid0.coords t 0).val ∧ (cfg0.win 1).index t 1 = 0 ∧ (cfg0.win 1).index t 2 = 0)
    ∧ ((cfg0.win 2).index t 0 = (grid0.coords t 0).val ∧ (cfg0.win 2).index t 1 = 0 ∧ (cfg0.win 2).index t 2 = 0)
    ∧ ((cfg0.win 3).index t 0 = (grid0.coords t 0).val ∧ (cfg0.win 3).index t 1 = 0 ∧ (cfg0.win 3).index t 2 = 0) := by decide +kernel

variable (t : Fin cfg0.N)

/-- The batch and group of the grid point. -/
abbrev group : Fin 8 := grid0.coords t 1

/-- The keys' half of the grid, or the values'. -/
abbrev side : Fin 2 := grid0.coords t 0

/-- The rows' block of an array. -/
theorem t_read (X : (⟨S2x8x256x1024, .bf16⟩ : BufTy).Contents (Elt Ideal)) (r : Fin 256) (k : Fin 1024) :
    ((cfg0.win 0).blk t).view.read (Elt Ideal) X (ix4 0 0 r k) = X (ix4 (side t) (group t) r k) := by
  obtain ⟨⟨e0, e1, e2, e3⟩, -⟩ := index_in t
  blk_ext [e0, e1, e2, e3]
  all_goals rfl

theorem t_block (r : Fin 256) (k : Fin 1024) : iblk m c 0 t (ix4 0 0 r k) = V m c main_v3 (ix4 (side t) (group t) r k) :=
  t_read t (V m c main_v3) r k

theorem pe_block (k : Fin 2048) : iblk m c 1 t (ix3 0 0 k) = V m c main_v7 (ix3 (side t) 0 k) := by
  obtain ⟨-, ⟨e0, e1, e2⟩, -⟩ := index_in t
  blk_ext [iblk, e0, e1, e2]
  all_goals rfl

theorem w_block (k : Fin 2048) (j : Fin 256) : iblk m c 2 t (ix3 0 k j) = V m c main_v14 (ix3 (side t) k j) := by
  obtain ⟨-, -, ⟨e0, e1, e2⟩, -⟩ := index_in t
  blk_ext [iblk, e0, e1, e2]
  all_goals rfl

theorem x_block (j : Fin 256) (d : Fin 128) : iblk m c 3 t (ix3 0 j d) = V m c main_v11 (ix3 (side t) j d) := by
  obtain ⟨-, -, -, ⟨e0, e1, e2⟩⟩ := index_in t
  blk_ext [iblk, e0, e1, e2]
  all_goals rfl

/-! ## The blocks -/

/-- The token of the keys. -/
theorem token0 (hf : Finite m c) (hs : side t = 0) (r : Fin 255) (d : Fin 64) :
    second (halves (bhalf (iblk m c 0 t) ⟨r.val, by omega⟩) (bhalf (iblk m c 0 t) ⟨r.val + 1, by omega⟩) (fun k => iblk m c 1 t (ix3 0 0 k)) (fun k j => iblk m c 2 t (ix3 0 k j)))
        (fun j => iblk m c 3 t (ix3 0 j ⟨d.val, by omega⟩))
      = token (rows (a0 m c) (group t) r) (places (a2 m c)) (fun k j => a4 m c (ix2 k j)) (fun j => a6 m c (ix2 j d)) := by
  have h1 : bhalf (iblk m c 0 t) ⟨r.val, by omega⟩ = fun k => rows (a0 m c) (group t) r ⟨k.val, by omega⟩ :=
    funext fun k => (t_block m c t _ k).trans (by rw [hs]; exact host_t0 m c (group t) ⟨r.val, by omega⟩ k)
  have h2 : bhalf (iblk m c 0 t) ⟨r.val + 1, by omega⟩ = fun k => rows (a0 m c) (group t) r ⟨1024 + k.val, by omega⟩ := by
    funext k
    refine (t_block m c t _ k).trans ?_
    rw [hs, host_t0]
    have i1 : 16 * (r.val + 1) + k.val / 64 = 16 * r.val + (1024 + k.val) / 64 := by omega
    have i2 : k.val % 64 = (1024 + k.val) % 64 := by omega
    simp only [rows, i1, i2]
  have h3 : (fun k => iblk m c 1 t (ix3 0 0 k)) = places (a2 m c) :=
    funext fun k => (pe_block m c t k).trans (by rw [hs]; exact host_pe0 m c k)
  have h4 : (fun (k : Fin 2048) (j : Fin 256) => iblk m c 2 t (ix3 0 k j)) = fun k j => a4 m c (ix2 k j) :=
    funext fun k => funext fun j => (w_block m c t k j).trans (by rw [hs]; exact host_w0 m c k j)
  have h5 : (fun (j : Fin 256) => iblk m c 3 t (ix3 0 j ⟨d.val, by omega⟩)) = fun j => a6 m c (ix2 j d) :=
    funext fun j => (x_block m c t j _).trans (by rw [hs]; exact host_x0 m c j d)
  rw [h1, h2, h3, h4, h5]
  unfold token
  exact congrArg (second · _) (funext fun j => halves_eq (rows (a0 m c) (group t) r) (places (a2 m c)) (fun k j => a4 m c (ix2 k j)) (fun k => hf.pe_k _) (fun k j => hf.w_k _) j)

/-- The token of the values. -/
theorem token1 (hf : Finite m c) (hs : side t = 1) (r : Fin 255) (d : Fin 64) :
    second (halves (bhalf (iblk m c 0 t) ⟨r.val, by omega⟩) (bhalf (iblk m c 0 t) ⟨r.val + 1, by omega⟩) (fun k => iblk m c 1 t (ix3 0 0 k)) (fun k j => iblk m c 2 t (ix3 0 k j)))
        (fun j => iblk m c 3 t (ix3 0 j ⟨d.val, by omega⟩))
      = token (rows (a1 m c) (group t) r) (places (a3 m c)) (fun k j => a5 m c (ix2 k j)) (fun j => a7 m c (ix2 j d)) := by
  have h1 : bhalf (iblk m c 0 t) ⟨r.val, by omega⟩ = fun k => rows (a1 m c) (group t) r ⟨k.val, by omega⟩ :=
    funext fun k => (t_block m c t _ k).trans (by rw [hs]; exact host_t1 m c (group t) ⟨r.val, by omega⟩ k)
  have h2 : bhalf (iblk m c 0 t) ⟨r.val + 1, by omega⟩ = fun k => rows (a1 m c) (group t) r ⟨1024 + k.val, by omega⟩ := by
    funext k
    refine (t_block m c t _ k).trans ?_
    rw [hs, host_t1]
    have i1 : 16 * (r.val + 1) + k.val / 64 = 16 * r.val + (1024 + k.val) / 64 := by omega
    have i2 : k.val % 64 = (1024 + k.val) % 64 := by omega
    simp only [rows, i1, i2]
  have h3 : (fun k => iblk m c 1 t (ix3 0 0 k)) = places (a3 m c) :=
    funext fun k => (pe_block m c t k).trans (by rw [hs]; exact host_pe1 m c k)
  have h4 : (fun (k : Fin 2048) (j : Fin 256) => iblk m c 2 t (ix3 0 k j)) = fun k j => a5 m c (ix2 k j) :=
    funext fun k => funext fun j => (w_block m c t k j).trans (by rw [hs]; exact host_w1 m c k j)
  have h5 : (fun (j : Fin 256) => iblk m c 3 t (ix3 0 j ⟨d.val, by omega⟩)) = fun j => a7 m c (ix2 j d) :=
    funext fun j => (x_block m c t j _).trans (by rw [hs]; exact host_x1 m c j d)
  rw [h1, h2, h3, h4, h5]
  unfold token
  exact congrArg (second · _) (funext fun j => halves_eq (rows (a1 m c) (group t) r) (places (a3 m c)) (fun k j => a5 m c (ix2 k j)) (fun k => hf.pe_v _) (fun k j => hf.w_v _) j)

theorem block4 (hf : Finite m c) (hs : side t = 0) (r : Fin 255) (d : Fin 64) :
    out0_4 (F := Ideal) (iblk m c 0 t) (iblk m c 1 t) (iblk m c 2 t) (iblk m c 3 t) (ix4 0 0 ⟨r.val, by omega⟩ ⟨d.val, by omega⟩) = Cert.Reference4Ideal.Read.val_main_v25 (F := Ideal) (a0 m c) (a2 m c) (a4 m c) (a6 m c) (ix3 (group t) r d) :=
  (out4_apply _ _ _ _ r d).trans ((token0 m c t hf hs r d).trans (Cert.Reference4Ideal.Out.v25_apply _ _ _ _ (group t) r d).symm)

theorem block5 (hf : Finite m c) (hs : side t = 1) (r : Fin 255) (d : Fin 64) :
    out0_5 (F := Ideal) (iblk m c 0 t) (iblk m c 1 t) (iblk m c 2 t) (iblk m c 3 t) (ix4 0 0 d ⟨r.val, by omega⟩) = Cert.Reference4Ideal.Read.val_main_v52 (F := Ideal) (a1 m c) (a3 m c) (a5 m c) (a7 m c) (ix3 (group t) d r) :=
  (out5_apply _ _ _ _ r d).trans ((token1 m c t hf hs r d).trans (Cert.Reference4Ideal.Out.v52_apply _ _ _ _ (group t) r d).symm)

/-! ## The arrays -/

theorem index_out : ∀ t : Fin cfg0.N, ((cfg0.win 4).index t 0 = (grid0.coords t 0).val ∧ (cfg0.win 4).index t 1 = (grid0.coords t 1).val ∧ (cfg0.win 4).index t 2 = 0 ∧ (cfg0.win 4).index t 3 = 0)
    ∧ ((cfg0.win 5).index t 0 = (grid0.coords t 0).val ∧ (cfg0.win 5).index t 1 = (grid0.coords t 1).val ∧ (cfg0.win 5).index t 2 = 0 ∧ (cfg0.win 5).index t 3 = 0) := by decide +kernel

theorem array4 (hf : Finite m c) (i : S2x8x256x128.Idx) (r : Fin 255) (d : Fin 64) (hs : (i 0).val = 0) (hr : (i 2).val = r.val) (hd : (i 3).val = d.val) :
    (dats m 0 c).arrAt 4 cfg0.N i = Cert.Reference4Ideal.Read.val_main_v25 (F := Ideal) (a0 m c) (a2 m c) (a4 m c) (a6 m c) (ix3 (i 1) r d) := by
  refine ((dats m 0 c).arrAt_forall_of_covers 4 (fun (i : S2x8x256x128.Idx) v => ∀ (r : Fin 255) (d : Fin 64), (i 0).val = 0 → (i 2).val = r.val → (i 3).val = d.val → v = Cert.Reference4Ideal.Read.val_main_v25 (F := Ideal) (a0 m c) (a2 m c) (a4 m c) (a6 m c) (ix3 (i 1) r d)) (by decide +kernel) (fun t _ y => ?_) i) r d hs hr hd
  obtain ⟨⟨e0, e1, e2, e3⟩, -⟩ := index_out t
  blk_simp [e0, e1, e2, e3]
  rw [after0_4]
  have h0 : (y 0).val < 1 := (y 0).isLt
  have h1 : (y 1).val < 1 := (y 1).isLt
  intro r d hs hr hd
  have hy : y = ix4 0 0 ⟨r.val, by omega⟩ ⟨d.val, by omega⟩ := by
    funext a
    match a with
    | ⟨0, _⟩ => exact Fin.ext (by show (y 0).val = 0; omega)
    | ⟨1, _⟩ => exact Fin.ext (by show (y 1).val = 0; omega)
    | ⟨2, _⟩ => exact Fin.ext hr
    | ⟨3, _⟩ => exact Fin.ext hd
  have key := block4 m c t hf (Fin.ext (by show (grid0.coords t 0).val = 0; omega)) r d
  rw [← hy] at key
  refine key.trans (congrArg _ ?_)
  blk_ext [e0, e1, e2, e3]
  all_goals rfl

theorem array5 (hf : Finite m c) (i : S2x8x64x256.Idx) (r : Fin 255) (d : Fin 64) (hs : (i 0).val = 1) (hr : (i 3).val = r.val) (hd : (i 2).val = d.val) :
    (dats m 0 c).arrAt 5 cfg0.N i = Cert.Reference4Ideal.Read.val_main_v52 (F := Ideal) (a1 m c) (a3 m c) (a5 m c) (a7 m c) (ix3 (i 1) d r) := by
  refine ((dats m 0 c).arrAt_forall_of_covers 5 (fun (i : S2x8x64x256.Idx) v => ∀ (r : Fin 255) (d : Fin 64), (i 0).val = 1 → (i 3).val = r.val → (i 2).val = d.val → v = Cert.Reference4Ideal.Read.val_main_v52 (F := Ideal) (a1 m c) (a3 m c) (a5 m c) (a7 m c) (ix3 (i 1) d r)) (by decide +kernel) (fun t _ y => ?_) i) r d hs hr hd
  obtain ⟨-, ⟨e0, e1, e2, e3⟩⟩ := index_out t
  blk_simp [e0, e1, e2, e3]
  rw [after0_5]
  have h0 : (y 0).val < 1 := (y 0).isLt
  have h1 : (y 1).val < 1 := (y 1).isLt
  intro r d hs hr hd
  have hy : y = ix4 0 0 d ⟨r.val, by omega⟩ := by
    funext a
    match a with
    | ⟨0, _⟩ => exact Fin.ext (by show (y 0).val = 0; omega)
    | ⟨1, _⟩ => exact Fin.ext (by show (y 1).val = 0; omega)
    | ⟨2, _⟩ => exact Fin.ext hd
    | ⟨3, _⟩ => exact Fin.ext hr
  have key := block5 m c t hf (Fin.ext (by show (grid0.coords t 0).val = 1; omega)) r d
  rw [← hy] at key
  refine key.trans (congrArg _ ?_)
  blk_ext [e0, e1, e2, e3]
  all_goals rfl

end Cert.Kernel4Ideal.Out
-- ==== Proof.CompressRun.lean ====
/-
  The run of the compression: after the call's region the host takes the keys' half of the one array and the values' half of the other, 255 tokens of
  sixty-four lanes each, and what it leaves is the reference's results. The arguments end as launched.
-/
module

public import proofs.«01_k».proof.Defs
public import proofs.«01_k».proof.Proof.Gen.Pre_weights_finite
public import proofs.«01_k».proof.Proof.Finite
public import proofs.«01_k».proof.Proof.CompressOut

@[expose] public section

set_option maxRecDepth 16384

noncomputable section

namespace Cert.Kernel4Ideal.Out

open Cert.Kernel4Ideal Cert.Kernel4Ideal.Gen Idealize.ShloMosaic Idealize.ShloMosaic.TcCoe Idealize.SL.Sem

variable (m : (ℓ : Loc nD τ sig) → Buf (Elt Ideal) ℓ) (c : Dev nD)

/-- The precondition. -/
theorem finite_of_pre (h : Cert.Pre_Kernel4Ideal_weights_finite (hPre_weights_finite := Cert.Pre_weights_finite.Gen.facts) m) : Finite m c where
  pe_k i := by
    have e := congrFun (h c).1 i
    pointwise [Cert.Pre_weights_finite.fn, Cert.Pre_weights_finite.fn_part1] at e
    exact Cert.KernelIdeal.Out.between _ e
  pe_v i := by
    have e := congrFun (h c).2.1 i
    pointwise [Cert.Pre_weights_finite.fn, Cert.Pre_weights_finite.fn_part1] at e
    exact Cert.KernelIdeal.Out.between _ e
  w_k i := by
    have e := congrFun (h c).2.2.1 i
    pointwise [Cert.Pre_weights_finite.fn, Cert.Pre_weights_finite.fn_part1] at e
    exact Cert.KernelIdeal.Out.between _ e
  w_v i := by
    have e := congrFun (h c).2.2.2 i
    pointwise [Cert.Pre_weights_finite.fn, Cert.Pre_weights_finite.fn_part1] at e
    exact Cert.KernelIdeal.Out.between _ e

/-! ## The slices after the region -/

theorem arrays_distinct : Function.Injective (Pipeline.arrRef spec0) := by decide +kernel

/-- What the host takes of the array. -/
abbrev taken4 (X : (⟨S2x8x256x128, .bf16⟩ : BufTy).Contents (Elt Ideal)) : (⟨S8x255x64, .bf16⟩ : BufTy).Contents (Elt Ideal) :=
  extractStridedSlice S8x255x64 ![0, 0, 0] (shapeCast S8x256x128 (extractStridedSlice S1x8x256x128 ![0, 0, 0, 0] X slices_S2x8x256x128_S1x8x256x128_0_0_0_0) shapeCasts_S1x8x256x128_S8x256x128) slices_S8x256x128_S8x255x64_0_0_0

theorem tail_v18 : Pipeline.afterTail₀ cfgs (dats m) 0 (V0 m) [hostOps1] c main_v18 = taken4 ((dats m 0 c).arrAt 4 cfg0.N) := by
  unfold Pipeline.afterTail₀
  simp only [hostOps1, List.flatten_cons, List.flatten_nil, List.append_nil, List.cons_append, List.nil_append]
  after_results_simp
  exact congrArg taken4 (Pipeline.withArrays_arr spec0 arrays_distinct c (V0 m c) _ 4)

theorem result_v18 (hf : Finite m c) : Pipeline.afterTail₀ cfgs (dats m) 0 (V0 m) [hostOps1] c main_v18 = Cert.Reference4Ideal.Read.val_main_v25 (F := Ideal) (a0 m c) (a2 m c) (a4 m c) (a6 m c) := by
  refine (tail_v18 m c).trans (funext fun i => ?_)
  pointwise
  refine (array4 m c hf _ (i 1) (i 2) (by first | rfl | simp) (by first | rfl | simp) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)

/-- What the host takes of the array. -/
abbrev taken5 (X : (⟨S2x8x64x256, .bf16⟩ : BufTy).Contents (Elt Ideal)) : (⟨S8x64x255, .bf16⟩ : BufTy).Contents (Elt Ideal) :=
  extractStridedSlice S8x64x255 ![0, 0, 0] (shapeCast S8x64x256 (extractStridedSlice S1x8x64x256 ![1, 0, 0, 0] X slices_S2x8x64x256_S1x8x64x256_1_0_0_0) shapeCasts_S1x8x64x256_S8x64x256) slices_S8x64x256_S8x64x255_0_0_0

theorem tail_v21 : Pipeline.afterTail₀ cfgs (dats m) 0 (V0 m) [hostOps1] c main_v21 = taken5 ((dats m 0 c).arrAt 5 cfg0.N) := by
  unfold Pipeline.afterTail₀
  simp only [hostOps1, List.flatten_cons, List.flatten_nil, List.append_nil, List.cons_append, List.nil_append]
  after_results_simp
  exact congrArg taken5 (Pipeline.withArrays_arr spec0 arrays_distinct c (V0 m c) _ 5)

theorem result_v21 (hf : Finite m c) : Pipeline.afterTail₀ cfgs (dats m) 0 (V0 m) [hostOps1] c main_v21 = Cert.Reference4Ideal.Read.val_main_v52 (F := Ideal) (a1 m c) (a3 m c) (a5 m c) (a7 m c) := by
  refine (tail_v21 m c).trans (funext fun i => ?_)
  pointwise
  refine (array5 m c hf _ (i 2) (i 1) (by first | rfl | simp) (by first | rfl | simp) (by first | rfl | simp)).trans (congrArg _ ?_)
  funext a
  match a with
  | ⟨0, _⟩ => first | rfl | exact Fin.ext (by simp)
  | ⟨1, _⟩ => first | rfl | exact Fin.ext (by simp)
  | ⟨2, _⟩ => first | rfl | exact Fin.ext (by simp)

/-! ## The run -/

theorem run (hf : ∀ c, Finite m c) (g : Dev nD → PrngReg) : θ_run defs (onTc (τ := τ) (main (F := Ideal))) ⟨m, fun _ => 0, g⟩ (fun r => ∀ c : Dev nD,
      r.2.mem ((c.tc : Thread nD τ).loc main_v18) = Cert.Reference4Ideal.Read.val_main_v25 (F := Ideal) (a0 m c) (a2 m c) (a4 m c) (a6 m c)
      ∧ r.2.mem ((c.tc : Thread nD τ).loc main_v21) = Cert.Reference4Ideal.Read.val_main_v52 (F := Ideal) (a1 m c) (a3 m c) (a5 m c) (a7 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => ⟨((h c).2 main_v18 (Pipeline.mem_restRefs_of main_v18 (by decide) (by decide))).trans (result_v18 m c (hf c)),
    ((h c).2 main_v21 (Pipeline.mem_restRefs_of main_v21 (by decide) (by decide))).trans (result_v21 m c (hf c)),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c),
    ((h c).2 main_arg5 (Pipeline.mem_restRefs_of main_arg5 (by decide) (by decide))).trans (W_main_arg5 m (dats m) c),
    ((h c).2 main_arg6 (Pipeline.mem_restRefs_of main_arg6 (by decide) (by decide))).trans (W_main_arg6 m (dats m) c),
    ((h c).2 main_arg7 (Pipeline.mem_restRefs_of main_arg7 (by decide) (by decide))).trans (W_main_arg7 m (dats m) c)⟩) (run_main m g)

end Cert.Kernel4Ideal.Out
-- ==== Proof.Modulation.lean ====
/-
  The modulation: the conditioning rows times a block of columns of the weight, plus the bias. The host pads the four rows to eight; what a grid point leaves
  in the first four rows of its block is the reference's product there, and the blocks cover the array. The host then takes the four rows and the three
  thirds of the columns.
-/
module

public import proofs.«01_k».proof.Proof.Gen.Kernel5Ideal.Frame
public import proofs.«01_k».proof.Proof.Gen.Reference5Ideal.Read
public import proofs.«01_k».proof.Proof.Gen.Reference5Ideal.Run
public import Idealize.ShloMosaic.Lib.Pipeline.ValueKit.Basic
public import Idealize.ShloMosaic.Lib.Pipeline.ValueKit
public import Idealize.ShloMosaic.Lib.Claim
public import Idealize.ShloMosaic.Lib.Pointwise
public import Idealize.ShloMosaic.PureOps.Ideal

@[expose] public section

set_option maxRecDepth 16384

noncomputable section

namespace Cert.Modulation

open Idealize.ShloMosaic

/-- A row times a column, plus the bias. -/
def product (x w : Fin 1024 → EReal) (b : EReal) : EReal := (∑ k, x k * w k) + b

end Cert.Modulation

namespace Cert.Reference5Ideal.Out

open Cert.Modulation
open Cert.Reference5Ideal Cert.Reference5Ideal.Gen Cert.Reference5Ideal.Read Idealize.ShloMosaic Idealize.ShloMosaic.TcCoe Idealize.SL.Sem

variable (x0 : (⟨S4x1024, .f32⟩ : BufTy).Contents (Elt Ideal)) (x1 : (⟨S1024x3072, .f32⟩ : BufTy).Contents (Elt Ideal)) (x2 : (⟨S3072, .f32⟩ : BufTy).Contents (Elt Ideal))

theorem v3_apply (b : Fin 4) (e : Fin 3072) :
    val_main_v3 (F := Ideal) x0 x1 x2 (ix2 b e) = product (fun k => x0 (ix2 b k)) (fun k => x1 (ix2 k e)) (x2 (ix1 e)) := by
  pointwise [val_main_v3, val_main_v2, val_main_v1, val_main_v0]
  rfl

end Cert.Reference5Ideal.Out

namespace Cert.Kernel5Ideal.Out

open Cert.Modulation
open Cert.Kernel5Ideal Cert.Kernel5Ideal.Gen Idealize.ShloMosaic Idealize.ShloMosaic.TcCoe Idealize.SL.Sem

section Block

variable (x0 : Vec Ideal S8x1024 .f32) (x1 : Vec Ideal S1024x1024 .f32) (x2 : Vec Ideal S1x1024 .f32)

theorem out3_apply (r : Fin 8) (e : Fin 1024) :
    out0_3 (F := Ideal) x0 x1 x2 (ix2 r e) = product (fun k => x0 (ix2 r k)) (fun k => x1 (ix2 k e)) (x2 (ix2 0 e)) := by
  have z2 : ∀ a : Fin 2, (![0, 0] : Fin 2 → ℕ) a = 0 := by decide
  unfold out0_3
  rw [View.canon_cons_unit_zero (funext z2), View.ld_unit_zero (funext z2), View.ld_unit_zero (funext z2), View.ld_unit_zero (funext z2)]
  pointwise [k0_pay1]
  rfl

end Block

variable (m : (ℓ : Loc nD τ sig) → Buf (Elt Ideal) ℓ) (c : Dev nD)

abbrev a0 : (⟨S4x1024, .f32⟩ : BufTy).Contents (Elt Ideal) := m ((c : Thread nD τ).loc main_arg0)
abbrev a1 : (⟨S1024x3072, .f32⟩ : BufTy).Contents (Elt Ideal) := m ((c : Thread nD τ).loc main_arg1)
abbrev a2 : (⟨S3072, .f32⟩ : BufTy).Contents (Elt Ideal) := m ((c : Thread nD τ).loc main_arg2)

/-! ## What the host prepares -/

theorem host_c (b : Fin 4) (k : Fin 1024) : (V m c main_v0 : (⟨S8x1024, .f32⟩ : BufTy).Contents (Elt Ideal)) (ix2 ⟨b.val, by omega⟩ k) = a0 m c (ix2 b k) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise
  all_goals first | rfl | (after_results_simp; pointwise)

theorem host_b (e : Fin 3072) : (V m c main_v1 : (⟨S1x3072, .f32⟩ : BufTy).Contents (Elt Ideal)) (ix2 0 e) = a2 m c (ix1 e) := by
  unfold V V0
  simp only [hostOps0, hostOps0_1, hostOps0_2, List.flatten_cons, List.flatten_nil, List.append_nil, List.cons_append, List.nil_append, StableHlo.TRef.ternary, StableHlo.TRef.unary, StableHlo.TRef.binary, StableHlo.TRef.toBuf, StableHlo.TRef.ofBuf, cast_eq]
  after_results_simp
  pointwise

/-! ## The blocks of the windows -/

theorem index_all : ∀ t : Fin cfg0.N, ((cfg0.win 0).index t 0 = 0 ∧ (cfg0.win 0).index t 1 = 0)
    ∧ ((cfg0.win 1).index t 0 = 0 ∧ (cfg0.win 1).index t 1 = (grid0.coords t 0).val)
    ∧ ((cfg0.win 2).index t 0 = 0 ∧ (cfg0.win 2).index t 1 = (grid0.coords t 0).val)
    ∧ ((cfg0.win 3).index t 0 = 0 ∧ (cfg0.win 3).index t 1 = (grid0.coords t 0).val) := by decide +kernel

variable (t : Fin cfg0.N)

/-- The column `e` of the block. -/
abbrev col (e : Fin 1024) : Fin 3072 := ⟨1024 * (grid0.coords t 0).val + e.val, by have : (grid0.coords t 0).val < 3 := (grid0.coords t 0).isLt; omega⟩

theorem c_read (X : (⟨S8x1024, .f32⟩ : BufTy).Contents (Elt Ideal)) (r : Fin 8) (k : Fin 1024) : ((cfg0.win 0).blk t).view.read (Elt Ideal) X (ix2 r k) = X (ix2 r k) := by
  obtain ⟨⟨e0, e1⟩, -⟩ := index_all t
  blk_ext [e0, e1]

theorem w_read (X : (⟨S1024x3072, .f32⟩ : BufTy).Contents (Elt Ideal)) (k e : Fin 1024) : ((cfg0.win 1).blk t).view.read (Elt Ideal) X (ix2 k e) = X (ix2 k (col t e)) := by
  obtain ⟨-, ⟨e0, e1⟩, -⟩ := index_all t
  blk_ext [e0, e1]
  all_goals first | rfl | exact congrArg (· + _) (Nat.mul_comm _ _)

theorem b_read (X : (⟨S1x3072, .f32⟩ : BufTy).Contents (Elt Ideal)) (e : Fin 1024) : ((cfg0.win 2).blk t).view.read (Elt Ideal) X (ix2 0 e) = X (ix2 0 (col t e)) := by
  obtain ⟨-, -, ⟨e0, e1⟩, -⟩ := index_all t
  blk_ext [e0, e1]
  all_goals first | rfl | exact congrArg (· + _) (Nat.mul_comm _ _)

theorem block3 (b : Fin 4) (e : Fin 1024) :
    out0_3 (F := Ideal) (iblk m c 0 t) (iblk m c 1 t) (iblk m c 2 t) (ix2 ⟨b.val, by omega⟩ e) = Cert.Reference5Ideal.Read.val_main_v3 (F := Ideal) (a0 m c) (a1 m c) (a2 m c) (ix2 b (col t e)) := by
  refine (out3_apply _ _ _ _ e).trans ?_
  rw [Cert.Reference5Ideal.Out.v3_apply]
  have h0 : (fun k => iblk m c 0 t (ix2 (⟨b.val, by omega⟩ : Fin 8) k)) = fun k => a0 m c (ix2 b k) :=
    funext fun k => (c_read t (V m c main_v0) _ k).trans (host_c m c b k)
  have h1 : (fun (k : Fin 1024) => iblk m c 1 t (ix2 k e)) = fun k => a1 m c (ix2 k (col t e)) :=
    funext fun k => (w_read t (V m c main_arg1) k e).trans (congrFun (V_main_arg1 m c) _)
  have h2 : iblk m c 2 t (ix2 0 e) = a2 m c (ix1 (col t e)) := (b_read t (V m c main_v1) e).trans (host_b m c _)
  rw [h0, h1, h2]

/-! ## The array -/

theorem array3 (i : S8x3072.Idx) (b : Fin 4) (hb : (i 0).val = b.val) : (dats m 0 c).arrAt 3 cfg0.N i = Cert.Reference5Ideal.Read.val_main_v3 (F := Ideal) (a0 m c) (a1 m c) (a2 m c) (ix2 b (i 1)) := by
  refine ((dats m 0 c).arrAt_forall_of_covers 3 (fun (i : S8x3072.Idx) v => ∀ b : Fin 4, (i 0).val = b.val → v = Cert.Reference5Ideal.Read.val_main_v3 (F := Ideal) (a0 m c) (a1 m c) (a2 m c) (ix2 b (i 1))) (by decide +kernel) (fun t _ y => ?_) i) b hb
  obtain ⟨-, -, -, ⟨e0, e1⟩⟩ := index_all t
  blk_simp [e0, e1]
  rw [after0_3]
  have h1 : (y 1).val < 1024 := (y 1).isLt
  intro b hb
  have hy : y = ix2 ⟨b.val, by omega⟩ ⟨(y 1).val, h1⟩ := by
    funext a
    match a with
    | ⟨0, _⟩ => exact Fin.ext hb
    | ⟨1, _⟩ => rfl
  have key := block3 m c t b ⟨(y 1).val, h1⟩
  rw [← hy] at key
  refine key.trans (congrArg _ ?_)
  blk_ext [e0, e1]
  all_goals first | rfl | exact congrArg (· + _) (Nat.mul_comm _ _)

/-! ## The slices after the region -/

theorem arrays_distinct : Function.Injective (Pipeline.arrRef spec0) := by decide +kernel

/-- The third of the columns from 0. -/
abbrev taken0 (X : (⟨S8x3072, .f32⟩ : BufTy).Contents (Elt Ideal)) : (⟨S4x1024, .f32⟩ : BufTy).Contents (Elt Ideal) :=
  extractStridedSlice S4x1024 ![0, 0] (extractStridedSlice S4x3072 ![0, 0] X slices_S8x3072_S4x3072_0_0) slices_S4x3072_S4x1024_0_0

theorem tail_v4 : Pipeline.afterTail₀ cfgs (dats m) 0 (V0 m) [hostOps1] c main_v4 = taken0 ((dats m 0 c).arrAt 3 cfg0.N) := by
  unfold Pipeline.afterTail₀
  simp only [hostOps1, List.flatten_cons, List.flatten_nil, List.append_nil, List.cons_append, List.nil_append]
  after_results_simp
  exact congrArg taken0 (Pipeline.withArrays_arr spec0 arrays_distinct c (V0 m c) _ 3)

theorem result_v4 : Pipeline.afterTail₀ cfgs (dats m) 0 (V0 m) [hostOps1] c main_v4 = Cert.Reference5Ideal.Read.val_main_v4 (F := Ideal) (a0 m c) (a1 m c) (a2 m c) := by
  refine (tail_v4 m c).trans (funext fun i => ?_)
  refine Eq.trans ?_ (Cert.Reference5Ideal.Read.val_main_v4_apply (a0 m c) (a1 m c) (a2 m c) i).symm
  pointwise
  refine (array3 m c _ (i 0) (by first | rfl | simp)).trans (congrArg _ ?_)
  funext a
  match a with
  | ⟨0, _⟩ => first | rfl | exact Fin.ext (by simp)
  | ⟨1, _⟩ => first | rfl | exact Fin.ext (Nat.add_comm _ _) | exact Fin.ext (by simp)

/-- The third of the columns from 1024. -/
abbrev taken1 (X : (⟨S8x3072, .f32⟩ : BufTy).Contents (Elt Ideal)) : (⟨S4x1024, .f32⟩ : BufTy).Contents (Elt Ideal) :=
  extractStridedSlice S4x1024 ![0, 1024] (extractStridedSlice S4x3072 ![0, 0] X slices_S8x3072_S4x3072_0_0) slices_S4x3072_S4x1024_0_1024

theorem tail_v5 : Pipeline.afterTail₀ cfgs (dats m) 0 (V0 m) [hostOps1] c main_v5 = taken1 ((dats m 0 c).arrAt 3 cfg0.N) := by
  unfold Pipeline.afterTail₀
  simp only [hostOps1, List.flatten_cons, List.flatten_nil, List.append_nil, List.cons_append, List.nil_append]
  after_results_simp
  exact congrArg taken1 (Pipeline.withArrays_arr spec0 arrays_distinct c (V0 m c) _ 3)

theorem result_v5 : Pipeline.afterTail₀ cfgs (dats m) 0 (V0 m) [hostOps1] c main_v5 = Cert.Reference5Ideal.Read.val_main_v5 (F := Ideal) (a0 m c) (a1 m c) (a2 m c) := by
  refine (tail_v5 m c).trans (funext fun i => ?_)
  refine Eq.trans ?_ (Cert.Reference5Ideal.Read.val_main_v5_apply (a0 m c) (a1 m c) (a2 m c) i).symm
  pointwise
  refine (array3 m c _ (i 0) (by first | rfl | simp)).trans (congrArg _ ?_)
  funext a
  match a with
  | ⟨0, _⟩ => first | rfl | exact Fin.ext (by simp)
  | ⟨1, _⟩ => first | rfl | exact Fin.ext (Nat.add_comm _ _) | exact Fin.ext (by simp)

/-- The third of the columns from 2048. -/
abbrev taken2 (X : (⟨S8x3072, .f32⟩ : BufTy).Contents (Elt Ideal)) : (⟨S4x1024, .f32⟩ : BufTy).Contents (Elt Ideal) :=
  extractStridedSlice S4x1024 ![0, 2048] (extractStridedSlice S4x3072 ![0, 0] X slices_S8x3072_S4x3072_0_0) slices_S4x3072_S4x1024_0_2048

theorem tail_v6 : Pipeline.afterTail₀ cfgs (dats m) 0 (V0 m) [hostOps1] c main_v6 = taken2 ((dats m 0 c).arrAt 3 cfg0.N) := by
  unfold Pipeline.afterTail₀
  simp only [hostOps1, List.flatten_cons, List.flatten_nil, List.append_nil, List.cons_append, List.nil_append]
  after_results_simp
  exact congrArg taken2 (Pipeline.withArrays_arr spec0 arrays_distinct c (V0 m c) _ 3)

theorem result_v6 : Pipeline.afterTail₀ cfgs (dats m) 0 (V0 m) [hostOps1] c main_v6 = Cert.Reference5Ideal.Read.val_main_v6 (F := Ideal) (a0 m c) (a1 m c) (a2 m c) := by
  refine (tail_v6 m c).trans (funext fun i => ?_)
  refine Eq.trans ?_ (Cert.Reference5Ideal.Read.val_main_v6_apply (a0 m c) (a1 m c) (a2 m c) i).symm
  pointwise
  refine (array3 m c _ (i 0) (by first | rfl | simp)).trans (congrArg _ ?_)
  funext a
  match a with
  | ⟨0, _⟩ => first | rfl | exact Fin.ext (by simp)
  | ⟨1, _⟩ => first | rfl | exact Fin.ext (Nat.add_comm _ _) | exact Fin.ext (by simp)

/-! ## The run -/

theorem run (g : Dev nD → PrngReg) : θ_run defs (onTc (τ := τ) (main (F := Ideal))) ⟨m, fun _ => 0, g⟩ (fun r => ∀ c : Dev nD,
      r.2.mem ((c.tc : Thread nD τ).loc main_v4) = Cert.Reference5Ideal.Read.val_main_v4 (F := Ideal) (a0 m c) (a1 m c) (a2 m c)
      ∧ r.2.mem ((c.tc : Thread nD τ).loc main_v5) = Cert.Reference5Ideal.Read.val_main_v5 (F := Ideal) (a0 m c) (a1 m c) (a2 m c)
      ∧ r.2.mem ((c.tc : Thread nD τ).loc main_v6) = Cert.Reference5Ideal.Read.val_main_v6 (F := Ideal) (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h c).2 main_v4 (Pipeline.mem_restRefs_of main_v4 (by decide) (by decide))).trans (result_v4 m c),
    ((h c).2 main_v5 (Pipeline.mem_restRefs_of main_v5 (by decide) (by decide))).trans (result_v5 m c),
    ((h c).2 main_v6 (Pipeline.mem_restRefs_of main_v6 (by decide) (by decide))).trans (result_v6 m c),
    ((h c).2 main_arg0 (Pipeline.mem_restRefs_of main_arg0 (by decide) (by decide))).trans (W_main_arg0 m (dats m) c),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c)⟩) (run_main m g)

end Cert.Kernel5Ideal.Out
-- ==== Proof.lean ====
/- The proof of the claim: each of its parts is taken from the module that proves it. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.Pre_scores_finite
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_weights_finite
public import proofs.«01_k».proof.Proof.KernelFrame
public import proofs.«01_k».proof.Proof.KernelIdealFrame
public import proofs.«01_k».proof.Proof.KernelIdealOut
public import proofs.«01_k».proof.Proof.Finite
public import proofs.«01_k».proof.Proof.OutProj
public import proofs.«01_k».proof.Proof.InProjRun
public import proofs.«01_k».proof.Proof.CompressRun
public import proofs.«01_k».proof.Proof.Modulation
public import Idealize.ShloMosaic.Adequacy
public import Idealize.ShloMosaic.Init

@[expose] public section

noncomputable section

namespace Cert.Proof

open Idealize.ShloMosaic Idealize.SL.Sem

/-- The reference consists of host operations alone: it declares no semaphore, so every counter reads zero, and its run
    leaves the arguments as they were. -/
theorem reference_frame : Cert.quiescent_ReferenceIdeal := fun m ρ _ =>
  (θ_run Cert.ReferenceIdeal.defs _ _).mono (fun _ h => ⟨fun c => (h c).2, funext fun s => nomatch s⟩)
    (Cert.ReferenceIdeal.Value.run (F := Ideal) m ρ)

/-- The same under the precondition, which it does not use. -/
theorem reference_frame_finite : Cert.quiescent_ReferenceIdeal_pre_scores_finite (hPre_scores_finite := Cert.Pre_scores_finite.Gen.facts) := fun m ρ _ =>
  (θ_run Cert.ReferenceIdeal.defs _ _).mono (fun _ h => ⟨fun c => (h c).2, funext fun s => nomatch s⟩)
    (Cert.ReferenceIdeal.Value.run (F := Ideal) m ρ)

/-- The two named constants: each stands for the value that its rule allows. -/
theorem named : Cert.preserves_Kernel_KernelIdeal :=
  ⟨IdealRules.named_const.statement Cert.KernelIdeal.κ "mask" .f32 0xF149F2CA#32 ⊥ rfl,
    IdealRules.named_const.statement Cert.KernelIdeal.κ "mask_feature" .f32 0xF1800000#32 ⊥ rfl⟩

/-- Where the queries, the keys and the sinks are finite, the kernel's sliding-window result is the reference's. -/
theorem equal : Cert.algebraic_KernelIdeal_ReferenceIdeal_pre_scores_finite := by
  intro m g m' g' hpre hargs
  refine ⟨fun c => Cert.ReferenceIdeal.Read.val_main_v58 (F := Ideal) (Cert.KernelIdeal.Out.sinks m c) (Cert.KernelIdeal.Out.queries m c) (Cert.KernelIdeal.Out.keys m c)
    (Cert.KernelIdeal.Out.values m c) (Cert.KernelIdeal.Out.gate m c), ?_, ?_⟩
  · refine (θ_run Cert.KernelIdeal.defs _ _).mono (fun r h c => ⟨?_, Cert.KernelIdeal.Body.args_of m h.1 c⟩) (Cert.KernelIdeal.Body.run_main_quiescent m g)
    exact (((Cert.KernelIdeal.Body.dats m 0 c).toRForget_arrAt_iff rfl _ _).mp ((h.1 c).1 16)).trans (Cert.KernelIdeal.Out.out_array m c (Cert.KernelIdeal.Out.finite_of_pre m hpre c))
  · refine (θ_run Cert.ReferenceIdeal.defs _ _).mono (fun r h c => ⟨?_, (h c).2⟩) (Cert.ReferenceIdeal.Value.run (F := Ideal) m' g')
    obtain ⟨a0, -, a2, -, -, -, -, -, -, a9, a10, -, -, a13⟩ := hargs c
    rw [(h c).1, Cert.ReferenceIdeal.Read.val_main_v58_eq, a0, a2, a9, a10, a13]

/-- The reference of the output projection leaves its arguments as they were. -/
theorem reference2_frame : Cert.quiescent_Reference2Ideal := fun m ρ _ =>
  (θ_run Cert.Reference2Ideal.defs _ _).mono (fun _ h => ⟨fun c => (h c).2, funext fun s => nomatch s⟩)
    (Cert.Reference2Ideal.Value.run (F := Ideal) m ρ)

/-- The output projection's result is its reference's. -/
theorem equal2 : Cert.algebraic_Kernel2Ideal_Reference2Ideal := by
  intro m g m' g' _ hargs
  refine ⟨fun c => Cert.Reference2Ideal.Read.val_main_v26 (F := Ideal) (Cert.Kernel2Ideal.Out.a0 m c) (Cert.Kernel2Ideal.Out.a1 m c) (Cert.Kernel2Ideal.Out.a2 m c) (Cert.Kernel2Ideal.Out.a3 m c)
    (Cert.Kernel2Ideal.Out.a4 m c) (Cert.Kernel2Ideal.Out.a5 m c) (Cert.Kernel2Ideal.Out.a6 m c) (Cert.Kernel2Ideal.Out.a7 m c) (Cert.Kernel2Ideal.Out.a8 m c) (Cert.Kernel2Ideal.Out.a9 m c), ?_, ?_⟩
  · refine (θ_run Cert.Kernel2Ideal.defs _ _).mono (fun r h c => ⟨?_, (h c).2⟩) (Cert.Kernel2Ideal.Value.run_blocks m g)
    exact (h c).1.trans (Cert.Kernel2Ideal.Out.out_array m c)
  · refine (θ_run Cert.Reference2Ideal.defs _ _).mono (fun r h c => ⟨?_, (h c).2⟩) (Cert.Reference2Ideal.Value.run (F := Ideal) m' g')
    obtain ⟨b0, b1, b2, b3, b4, b5, b6, b7, b8, b9⟩ := hargs c
    rw [(h c).1, Cert.Reference2Ideal.Read.val_main_v26_eq, b0, b1, b2, b3, b4, b5, b6, b7, b8, b9]

/-- The reference of the input projection leaves its arguments as they were. -/
theorem reference3_frame : Cert.quiescent_Reference3Ideal := fun m ρ _ =>
  (θ_run Cert.Reference3Ideal.defs _ _).mono (fun _ h => ⟨fun c => (h c).2.2.2.2.2.2.2.2.2.2.2.2.2.2.2, funext fun s => nomatch s⟩)
    (Cert.Reference3Ideal.Value.run (F := Ideal) m ρ)

set_option maxHeartbeats 1200000 in
/-- The input projection's fifteen results are its reference's. -/
theorem equal3 : Cert.algebraic_Kernel3Ideal_Reference3Ideal := by
  intro m g m' g' _ hargs
  refine ⟨fun c => Cert.Reference3Ideal.Read.val_main_v44 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v49 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v52 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v55 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v58 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v62 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v65 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v69 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v72 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v76 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v78 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v80 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v88 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v96 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    fun c => Cert.Reference3Ideal.Read.val_main_v103 (F := Ideal) (Cert.Kernel3Ideal.Out.a0 m c) (Cert.Kernel3Ideal.Out.a1 m c) (Cert.Kernel3Ideal.Out.a2 m c) (Cert.Kernel3Ideal.Out.a3 m c) (Cert.Kernel3Ideal.Out.a4 m c),
    Cert.Kernel3Ideal.Out.run m g, ?_⟩
  refine (θ_run Cert.Reference3Ideal.defs _ _).mono (fun r h c => ?_) (Cert.Reference3Ideal.Value.run (F := Ideal) m' g')
  obtain ⟨b0, b1, b2, b3, b4⟩ := hargs c
  obtain ⟨r0, r1, r2, r3, r4, r5, r6, r7, r8, r9, r10, r11, r12, r13, r14, rest⟩ := h c
  refine ⟨?_, ?_, ?_, ?_, ?_, ?_, ?_, ?_, ?_, ?_, ?_, ?_, ?_, ?_, ?_, rest⟩
  · exact r0.trans ((Cert.Reference3Ideal.Read.val_main_v44_eq _ _ _ _ _).trans (by rw [b0, b1, b2, b3, b4]))
  · exact r1.trans ((Cert.Reference3Ideal.Read.val_main_v49_eq _ _ _ _ _).trans (by rw [b0, b1, b2, b3, b4]))
  · exact r2.trans ((Cert.Reference3Ideal.Read.val_main_v52_eq _ _ _ _ _).trans (by rw [b0, b1, b2, b3, b4]))
  · exact r3.trans ((Cert.Reference3Ideal.Read.val_main_v55_eq _ _ _ _ _).trans (by rw [b0, b1, b2, b3, b4]))
  · exact r4.trans ((Cert.Reference3Ideal.Read.val_main_v58_eq _ _ _ _ _).trans (by rw [b0, b1, b2, b3, b4]))
  · exact r5.trans ((Cert.Reference3Ideal.Read.val_main_v62_eq _ _ _ _ _).trans (by rw [b0, b1, b2, b3, b4]))
  · exact r6.trans ((Cert.Reference3Ideal.Read.val_main_v65_eq _ _ _ _ _).trans (by rw [b0, b1, b2, b3, b4]))
  · exact r7.trans ((Cert.Reference3Ideal.Read.val_main_v69_eq _ _ _ _ _).trans (by rw [b0, b1, b2, b3, b4]))
  · exact r8.trans ((Cert.Reference3Ideal.Read.val_main_v72_eq _ _ _ _ _).trans (by rw [b0, b1, b2, b3, b4]))
  · exact r9.trans ((Cert.Reference3Ideal.Read.val_main_v76_eq _ _ _ _ _).trans (by rw [b0, b1, b2, b3, b4]))
  · exact r10.trans ((Cert.Reference3Ideal.Read.val_main_v78_eq _ _ _ _ _).trans (by rw [b0, b1, b2, b3, b4]))
  · exact r11.trans ((Cert.Reference3Ideal.Read.val_main_v80_eq _ _ _ _ _).trans (by rw [b0, b1, b2, b3, b4]))
  · exact r12.trans ((Cert.Reference3Ideal.Read.val_main_v88_eq _ _ _ _ _).trans (by rw [b0, b1, b2, b3, b4]))
  · exact r13.trans ((Cert.Reference3Ideal.Read.val_main_v96_eq _ _ _ _ _).trans (by rw [b0, b1, b2, b3, b4]))
  · exact r14.trans ((Cert.Reference3Ideal.Read.val_main_v103_eq _ _ _ _ _).trans (by rw [b0, b1, b2, b3, b4]))

/-- The reference of the compression leaves its arguments as they were. -/
theorem reference4_frame : Cert.quiescent_Reference4Ideal := fun m ρ _ =>
  (θ_run Cert.Reference4Ideal.defs _ _).mono (fun _ h => ⟨fun c => (h c).2.2, funext fun s => nomatch s⟩)
    (Cert.Reference4Ideal.Value.run (F := Ideal) m ρ)

/-- The same under the precondition, which it does not use. -/
theorem reference4_frame_finite : Cert.quiescent_Reference4Ideal_pre_weights_finite (hPre_weights_finite := Cert.Pre_weights_finite.Gen.facts) := fun m ρ _ =>
  (θ_run Cert.Reference4Ideal.defs _ _).mono (fun _ h => ⟨fun c => (h c).2.2, funext fun s => nomatch s⟩)
    (Cert.Reference4Ideal.Value.run (F := Ideal) m ρ)

/-- Where the embeddings and the first weights are finite, the compression's two results are its reference's. -/
theorem equal4 : Cert.algebraic_Kernel4Ideal_Reference4Ideal_pre_weights_finite := by
  intro m g m' g' hpre hargs
  refine ⟨fun c => Cert.Reference4Ideal.Read.val_main_v25 (F := Ideal) (Cert.Kernel4Ideal.Out.a0 m c) (Cert.Kernel4Ideal.Out.a2 m c) (Cert.Kernel4Ideal.Out.a4 m c) (Cert.Kernel4Ideal.Out.a6 m c),
    fun c => Cert.Reference4Ideal.Read.val_main_v52 (F := Ideal) (Cert.Kernel4Ideal.Out.a1 m c) (Cert.Kernel4Ideal.Out.a3 m c) (Cert.Kernel4Ideal.Out.a5 m c) (Cert.Kernel4Ideal.Out.a7 m c),
    Cert.Kernel4Ideal.Out.run m (Cert.Kernel4Ideal.Out.finite_of_pre m · hpre) g, ?_⟩
  refine (θ_run Cert.Reference4Ideal.defs _ _).mono (fun r h c => ?_) (Cert.Reference4Ideal.Value.run (F := Ideal) m' g')
  obtain ⟨b0, b1, b2, b3, b4, b5, b6, b7⟩ := hargs c
  obtain ⟨r0, r1, rest⟩ := h c
  refine ⟨?_, ?_, rest⟩
  · exact r0.trans ((Cert.Reference4Ideal.Read.val_main_v25_eq _ _ _ _).trans (by rw [b0, b2, b4, b6]))
  · exact r1.trans ((Cert.Reference4Ideal.Read.val_main_v52_eq _ _).trans (by rw [b1, b3, b5, b7]))

/-- The reference of the modulation leaves its arguments as they were. -/
theorem reference5_frame : Cert.quiescent_Reference5Ideal := fun m ρ _ =>
  (θ_run Cert.Reference5Ideal.defs _ _).mono (fun _ h => ⟨fun c => (h c).2.2.2, funext fun s => nomatch s⟩)
    (Cert.Reference5Ideal.Value.run (F := Ideal) m ρ)

/-- The modulation's three results are its reference's. -/
theorem equal5 : Cert.algebraic_Kernel5Ideal_Reference5Ideal := by
  intro m g m' g' _ hargs
  refine ⟨fun c => Cert.Reference5Ideal.Read.val_main_v4 (F := Ideal) (Cert.Kernel5Ideal.Out.a0 m c) (Cert.Kernel5Ideal.Out.a1 m c) (Cert.Kernel5Ideal.Out.a2 m c),
    fun c => Cert.Reference5Ideal.Read.val_main_v5 (F := Ideal) (Cert.Kernel5Ideal.Out.a0 m c) (Cert.Kernel5Ideal.Out.a1 m c) (Cert.Kernel5Ideal.Out.a2 m c),
    fun c => Cert.Reference5Ideal.Read.val_main_v6 (F := Ideal) (Cert.Kernel5Ideal.Out.a0 m c) (Cert.Kernel5Ideal.Out.a1 m c) (Cert.Kernel5Ideal.Out.a2 m c),
    Cert.Kernel5Ideal.Out.run m g, ?_⟩
  refine (θ_run Cert.Reference5Ideal.defs _ _).mono (fun r h c => ?_) (Cert.Reference5Ideal.Value.run (F := Ideal) m' g')
  obtain ⟨b0, b1, b2⟩ := hargs c
  obtain ⟨r0, r1, r2, rest⟩ := h c
  refine ⟨?_, ?_, ?_, rest⟩
  · exact r0.trans ((Cert.Reference5Ideal.Read.val_main_v4_eq _ _ _).trans (by rw [b0, b1, b2]))
  · exact r1.trans ((Cert.Reference5Ideal.Read.val_main_v5_eq _ _ _).trans (by rw [b0, b1, b2]))
  · exact r2.trans ((Cert.Reference5Ideal.Read.val_main_v6_eq _ _ _).trans (by rw [b0, b1, b2]))

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Pre_scores_finite.Gen.facts, Cert.Pre_weights_finite.Gen.facts,
    fun m ρ _ => Cert.Kernel.Body.frame m ρ,
    fun m ρ _ => Cert.KernelIdeal.Body.frame m ρ,
    fun m ρ _ => Cert.KernelIdeal.Body.frame m ρ,
    reference_frame,
    reference_frame_finite,
    fun m ρ _ => Cert.Kernel2.Gen.frame m ρ,
    fun m ρ _ => Cert.Kernel2Ideal.Gen.frame m ρ,
    reference2_frame,
    fun m ρ _ => Cert.Kernel3.Gen.frame m ρ,
    fun m ρ _ => Cert.Kernel3Ideal.Gen.frame m ρ,
    reference3_frame,
    fun m ρ _ => Cert.Kernel4.Gen.frame m ρ,
    fun m ρ _ => Cert.Kernel4Ideal.Gen.frame m ρ,
    fun m ρ _ => Cert.Kernel4Ideal.Gen.frame m ρ,
    reference4_frame,
    reference4_frame_finite,
    fun m ρ _ => Cert.Kernel5.Gen.frame m ρ,
    fun m ρ _ => Cert.Kernel5Ideal.Gen.frame m ρ,
    reference5_frame,
    named,
    equal,
    trivial,
    equal2,
    trivial,
    equal3,
    trivial,
    equal4,
    trivial,
    equal5⟩

end Cert.Proof

end
